-- ==== Defs.lean ====
def Pre_Pool1 (m : (ℓ : Loc Cert.Pool1.nD Cert.Pool1.τ Cert.Pool1.sig) → Buf (Elt Bits) ℓ) : Prop :=
  True

def Pre_Pool1Ideal (m : (ℓ : Loc Cert.Pool1Ideal.nD Cert.Pool1Ideal.τ Cert.Pool1Ideal.sig) → Buf (Elt Ideal) ℓ) : Prop :=
  True

def Pre_Pool1RefIdeal (m : (ℓ : Loc Cert.Pool1RefIdeal.nD Cert.Pool1RefIdeal.τ Cert.Pool1RefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalIdeal_distinct [hPre_distinct : Cert.Pre_distinct.Facts] (m : (ℓ : Loc Cert.FinalIdeal.nD Cert.FinalIdeal.τ Cert.FinalIdeal.sig) → Buf (Elt Ideal) ℓ) : Prop :=
  ∀ c : Dev Cert.FinalIdeal.nD,
    (Cert.Pre_distinct.fn (F := Ideal) (m ((c.tc : Thread Cert.FinalIdeal.nD Cert.FinalIdeal.τ).loc Cert.FinalIdeal.main_arg0)) (m ((c.tc : Thread Cert.FinalIdeal.nD Cert.FinalIdeal.τ).loc Cert.FinalIdeal.main_arg1)) (m ((c.tc : Thread Cert.FinalIdeal.nD Cert.FinalIdeal.τ).loc Cert.FinalIdeal.main_arg2)) (m ((c.tc : Thread Cert.FinalIdeal.nD Cert.FinalIdeal.τ).loc Cert.FinalIdeal.main_arg3))) = (fun _ => 1#1)

def Pre_FinalRefIdeal (m : (ℓ : Loc Cert.FinalRefIdeal.nD Cert.FinalRefIdeal.τ Cert.FinalRefIdeal.sig) → Buf (Elt Ideal) ℓ) : Prop :=
  True

def Pre_FinalRefIdeal_distinct [hPre_distinct : Cert.Pre_distinct.Facts] (m : (ℓ : Loc Cert.FinalRefIdeal.nD Cert.FinalRefIdeal.τ Cert.FinalRefIdeal.sig) → Buf (Elt Ideal) ℓ) : Prop :=
  ∀ c : Dev Cert.FinalRefIdeal.nD,
    (Cert.Pre_distinct.fn (F := Ideal) (m ((c.tc : Thread Cert.FinalRefIdeal.nD Cert.FinalRefIdeal.τ).loc Cert.FinalRefIdeal.main_arg0)) (m ((c.tc : Thread Cert.FinalRefIdeal.nD Cert.FinalRefIdeal.τ).loc Cert.FinalRefIdeal.main_arg1)) (m ((c.tc : Thread Cert.FinalRefIdeal.nD Cert.FinalRefIdeal.τ).loc Cert.FinalRefIdeal.main_arg2)) (m ((c.tc : Thread Cert.FinalRefIdeal.nD Cert.FinalRefIdeal.τ).loc Cert.FinalRefIdeal.main_arg3))) = (fun _ => 1#1)

def Pre_Sim (m : (ℓ : Loc Cert.Sim.nD Cert.Sim.τ Cert.Sim.sig) → Buf (Elt Bits) ℓ) : Prop :=
  True

def Pre_SimIdeal (m : (ℓ : Loc Cert.SimIdeal.nD Cert.SimIdeal.τ Cert.SimIdeal.sig) → Buf (Elt Ideal) ℓ) : Prop :=
  True

def Pre_SimIdeal_simdistinct [hPre_simdistinct : Cert.Pre_simdistinct.Facts] (m : (ℓ : Loc Cert.SimIdeal.nD Cert.SimIdeal.τ Cert.SimIdeal.sig) → Buf (Elt Ideal) ℓ) : Prop :=
  ∀ c : Dev Cert.SimIdeal.nD,
    (Cert.Pre_simdistinct.fn (F := Ideal) (m ((c.tc : Thread Cert.SimIdeal.nD Cert.SimIdeal.τ).loc Cert.SimIdeal.main_arg0)) (m ((c.tc : Thread Cert.SimIdeal.nD Cert.SimIdeal.τ).loc Cert.SimIdeal.main_arg1))) = (fun _ => 1#1)

def Pre_SimRefIdeal (m : (ℓ : Loc Cert.SimRefIdeal.nD Cert.SimRefIdeal.τ Cert.SimRefIdeal.sig) → Buf (Elt Ideal) ℓ) : Prop :=
  True

def Pre_SimRefIdeal_simdistinct [hPre_simdistinct : Cert.Pre_simdistinct.Facts] (m : (ℓ : Loc Cert.SimRefIdeal.nD Cert.SimRefIdeal.τ Cert.SimRefIdeal.sig) → Buf (Elt Ideal) ℓ) : Prop :=
  ∀ c : Dev Cert.SimRefIdeal.nD,
    (Cert.Pre_simdistinct.fn (F := Ideal) (m ((c.tc : Thread Cert.SimRefIdeal.nD Cert.SimRefIdeal.τ).loc Cert.SimRefIdeal.main_arg0)) (m ((c.tc : Thread Cert.SimRefIdeal.nD Cert.SimRefIdeal.τ).loc Cert.SimRefIdeal.main_arg1))) = (fun _ => 1#1)

def Pre_Conv44 (m : (ℓ : Loc Cert.Conv44.nD Cert.Conv44.τ Cert.Conv44.sig) → Buf (Elt Bits) ℓ) : Prop :=
  True

def Pre_Conv44Ideal (m : (ℓ : Loc Cert.Conv44Ideal.nD Cert.Conv44Ideal.τ Cert.Conv44Ideal.sig) → Buf (Elt Ideal) ℓ) : Prop :=
  True

def Pre_Conv44RefIdeal (m : (ℓ : Loc Cert.Conv44RefIdeal.nD Cert.Conv44RefIdeal.τ Cert.Conv44RefIdeal.sig) → Buf (Elt Ideal) ℓ) : Prop :=
  True

def Pre_Conv23 (m : (ℓ : Loc Cert.Conv23.nD Cert.Conv23.τ Cert.Conv23.sig) → Buf (Elt Bits) ℓ) : Prop :=
  True

def Pre_Conv23Ideal (m : (ℓ : Loc Cert.Conv23Ideal.nD Cert.Conv23Ideal.τ Cert.Conv23Ideal.sig) → Buf (Elt Ideal) ℓ) : Prop :=
  True

def Pre_Conv23RefIdeal (m : (ℓ : Loc Cert.Conv23RefIdeal.nD Cert.Conv23RefIdeal.τ Cert.Conv23RefIdeal.sig) → Buf (Elt Ideal) ℓ) : Prop :=
  True

def Pre_Conv86 (m : (ℓ : Loc Cert.Conv86.nD Cert.Conv86.τ Cert.Conv86.sig) → Buf (Elt Bits) ℓ) : Prop :=
  True

def Pre_Conv86Ideal (m : (ℓ : Loc Cert.Conv86Ideal.nD Cert.Conv86Ideal.τ Cert.Conv86Ideal.sig) → Buf (Elt Ideal) ℓ) : Prop :=
  True

def Pre_Conv86RefIdeal (m : (ℓ : Loc Cert.Conv86RefIdeal.nD Cert.Conv86RefIdeal.τ Cert.Conv86RefIdeal.sig) → Buf (Elt Ideal) ℓ) : Prop :=
  True

def Pre_Apply (m : (ℓ : Loc Cert.Apply.nD Cert.Apply.τ Cert.Apply.sig) → Buf (Elt Bits) ℓ) : Prop :=
  True

def Pre_ApplyIdeal (m : (ℓ : Loc Cert.ApplyIdeal.nD Cert.ApplyIdeal.τ Cert.ApplyIdeal.sig) → Buf (Elt Ideal) ℓ) : Prop :=
  True

def Pre_ApplyRefIdeal (m : (ℓ : Loc Cert.ApplyRefIdeal.nD Cert.ApplyRefIdeal.τ Cert.ApplyRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_nonzero [hPre_nonzero : Cert.Pre_nonzero.Facts] (m : (ℓ : Loc Cert.NormIdeal.nD Cert.NormIdeal.τ Cert.NormIdeal.sig) → Buf (Elt Ideal) ℓ) : Prop :=
  ∀ c : Dev Cert.NormIdeal.nD,
    (Cert.Pre_nonzero.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2))) = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_nonzero [hPre_nonzero : Cert.Pre_nonzero.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_nonzero.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2))) = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailIdeal_taildistinct [hPre_taildistinct : Cert.Pre_taildistinct.Facts] (m : (ℓ : Loc Cert.TailIdeal.nD Cert.TailIdeal.τ Cert.TailIdeal.sig) → Buf (Elt Ideal) ℓ) : Prop :=
  ∀ c : Dev Cert.TailIdeal.nD,
    (Cert.Pre_taildistinct.fn (F := Ideal) (m ((c.tc : Thread Cert.TailIdeal.nD Cert.TailIdeal.τ).loc Cert.TailIdeal.main_arg0))) = (fun _ => 1#1)

def Pre_TailRefIdeal (m : (ℓ : Loc Cert.TailRefIdeal.nD Cert.TailRefIdeal.τ Cert.TailRefIdeal.sig) → Buf (Elt Ideal) ℓ) : Prop :=
  True

def Pre_TailRefIdeal_taildistinct [hPre_taildistinct : Cert.Pre_taildistinct.Facts] (m : (ℓ : Loc Cert.TailRefIdeal.nD Cert.TailRefIdeal.τ Cert.TailRefIdeal.sig) → Buf (Elt Ideal) ℓ) : Prop :=
  ∀ c : Dev Cert.TailRefIdeal.nD,
    (Cert.Pre_taildistinct.fn (F := Ideal) (m ((c.tc : Thread Cert.TailRefIdeal.nD Cert.TailRefIdeal.τ).loc Cert.TailRefIdeal.main_arg0))) = (fun _ => 1#1)

def Pre_Pool2 (m : (ℓ : Loc Cert.Pool2.nD Cert.Pool2.τ Cert.Pool2.sig) → Buf (Elt Bits) ℓ) : Prop :=
  True

def Pre_Pool2Ideal (m : (ℓ : Loc Cert.Pool2Ideal.nD Cert.Pool2Ideal.τ Cert.Pool2Ideal.sig) → Buf (Elt Ideal) ℓ) : Prop :=
  True

def Pre_Pool2RefIdeal (m : (ℓ : Loc Cert.Pool2RefIdeal.nD Cert.Pool2RefIdeal.τ Cert.Pool2RefIdeal.sig) → Buf (Elt Ideal) ℓ) : Prop :=
  True

def quiescent_Pool1 [hPool1 : Cert.Pool1.Facts] : Prop :=
  ∀ (m : (ℓ : Loc Cert.Pool1.nD Cert.Pool1.τ Cert.Pool1.sig) → Buf (Elt Bits) ℓ) (g : Dev Cert.Pool1.nD → PrngReg), Pre_Pool1 m →
    θ_run (Cert.Pool1.defs (F := Bits)) (onTc (τ := Cert.Pool1.τ) (Cert.Pool1.main (F := Bits))) ⟨m, fun _ => 0, g⟩ (fun r => (∀ c : Dev Cert.Pool1.nD,
      r.2.mem ((c.tc : Thread Cert.Pool1.nD Cert.Pool1.τ).loc Cert.Pool1.main_arg0) = m ((c.tc : Thread Cert.Pool1.nD Cert.Pool1.τ).loc Cert.Pool1.main_arg0)
      ∧ r.2.mem ((c.tc : Thread Cert.Pool1.nD Cert.Pool1.τ).loc Cert.Pool1.main_arg1) = m ((c.tc : Thread Cert.Pool1.nD Cert.Pool1.τ).loc Cert.Pool1.main_arg1)
      ∧ r.2.mem ((c.tc : Thread Cert.Pool1.nD Cert.Pool1.τ).loc Cert.Pool1.main_arg2) = m ((c.tc : Thread Cert.Pool1.nD Cert.Pool1.τ).loc Cert.Pool1.main_arg2))
      ∧ r.2.sem = fun _ => 0)

def quiescent_Pool1Ideal [hPool1Ideal : Cert.Pool1Ideal.Facts] : Prop :=
  ∀ (m : (ℓ : Loc Cert.Pool1Ideal.nD Cert.Pool1Ideal.τ Cert.Pool1Ideal.sig) → Buf (Elt Ideal) ℓ) (g : Dev Cert.Pool1Ideal.nD → PrngReg), Pre_Pool1Ideal m →
    θ_run (Cert.Pool1Ideal.defs (F := Ideal)) (onTc (τ := Cert.Pool1Ideal.τ) (Cert.Pool1Ideal.main (F := Ideal))) ⟨m, fun _ => 0, g⟩ (fun r => (∀ c : Dev Cert.Pool1Ideal.nD,
      r.2.mem ((c.tc : Thread Cert.Pool1Ideal.nD Cert.Pool1Ideal.τ).loc Cert.Pool1Ideal.main_arg0) = m ((c.tc : Thread Cert.Pool1Ideal.nD Cert.Pool1Ideal.τ).loc Cert.Pool1Ideal.main_arg0)
      ∧ r.2.mem ((c.tc : Thread Cert.Pool1Ideal.nD Cert.Pool1Ideal.τ).loc Cert.Pool1Ideal.main_arg1) = m ((c.tc : Thread Cert.Pool1Ideal.nD Cert.Pool1Ideal.τ).loc Cert.Pool1Ideal.main_arg1)
      ∧ r.2.mem ((c.tc : Thread Cert.Pool1Ideal.nD Cert.Pool1Ideal.τ).loc Cert.Pool1Ideal.main_arg2) = m ((c.tc : Thread Cert.Pool1Ideal.nD Cert.Pool1Ideal.τ).loc Cert.Pool1Ideal.main_arg2))
      ∧ r.2.sem = fun _ => 0)

def quiescent_Pool1RefIdeal [hPool1RefIdeal : Cert.Pool1RefIdeal.Facts] : Prop :=
  ∀ (m : (ℓ : Loc Cert.Pool1RefIdeal.nD Cert.Pool1RefIdeal.τ Cert.Pool1RefIdeal.sig) → Buf (Elt Ideal) ℓ) (g : Dev Cert.Pool1RefIdeal.nD → PrngReg), Pre_Pool1RefIdeal m →
    θ_run (Cert.Pool1RefIdeal.defs (F := Ideal)) (onTc (τ := Cert.Pool1RefIdeal.τ) (Cert.Pool1RefIdeal.main (F := Ideal))) ⟨m, fun _ => 0, g⟩ (fun r => (∀ c : Dev Cert.Pool1RefIdeal.nD,
      r.2.mem ((c.tc : Thread Cert.Pool1RefIdeal.nD Cert.Pool1RefIdeal.τ).loc Cert.Pool1RefIdeal.main_arg0) = m ((c.tc : Thread Cert.Pool1RefIdeal.nD Cert.Pool1RefIdeal.τ).loc Cert.Pool1RefIdeal.main_arg0)
      ∧ r.2.mem ((c.tc : Thread Cert.Pool1RefIdeal.nD Cert.Pool1RefIdeal.τ).loc Cert.Pool1RefIdeal.main_arg1) = m ((c.tc : Thread Cert.Pool1RefIdeal.nD Cert.Pool1RefIdeal.τ).loc Cert.Pool1RefIdeal.main_arg1)
      ∧ r.2.mem ((c.tc : Thread Cert.Pool1RefIdeal.nD Cert.Pool1RefIdeal.τ).loc Cert.Pool1RefIdeal.main_arg2) = m ((c.tc : Thread Cert.Pool1RefIdeal.nD Cert.Pool1RefIdeal.τ).loc Cert.Pool1RefIdeal.main_arg2))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ r.2.sem = fun _ => 0)

def quiescent_FinalIdeal_pre_distinct [hFinalIdeal : Cert.FinalIdeal.Facts] [hPre_distinct : Cert.Pre_distinct.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal_distinct m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3))
      ∧ r.2.sem = fun _ => 0)

def quiescent_FinalRefIdeal_pre_distinct [hFinalRefIdeal : Cert.FinalRefIdeal.Facts] [hPre_distinct : Cert.Pre_distinct.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal_distinct m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3))
      ∧ r.2.sem = fun _ => 0)

def quiescent_Sim [hSim : Cert.Sim.Facts] : Prop :=
  ∀ (m : (ℓ : Loc Cert.Sim.nD Cert.Sim.τ Cert.Sim.sig) → Buf (Elt Bits) ℓ) (g : Dev Cert.Sim.nD → PrngReg), Pre_Sim m →
    θ_run (Cert.Sim.defs (F := Bits)) (onTc (τ := Cert.Sim.τ) (Cert.Sim.main (F := Bits))) ⟨m, fun _ => 0, g⟩ (fun r => (∀ c : Dev Cert.Sim.nD,
      r.2.mem ((c.tc : Thread Cert.Sim.nD Cert.Sim.τ).loc Cert.Sim.main_arg0) = m ((c.tc : Thread Cert.Sim.nD Cert.Sim.τ).loc Cert.Sim.main_arg0)
      ∧ r.2.mem ((c.tc : Thread Cert.Sim.nD Cert.Sim.τ).loc Cert.Sim.main_arg1) = m ((c.tc : Thread Cert.Sim.nD Cert.Sim.τ).loc Cert.Sim.main_arg1))
      ∧ r.2.sem = fun _ => 0)

def quiescent_SimIdeal [hSimIdeal : Cert.SimIdeal.Facts] : Prop :=
  ∀ (m : (ℓ : Loc Cert.SimIdeal.nD Cert.SimIdeal.τ Cert.SimIdeal.sig) → Buf (Elt Ideal) ℓ) (g : Dev Cert.SimIdeal.nD → PrngReg), Pre_SimIdeal m →
    θ_run (Cert.SimIdeal.defs (F := Ideal)) (onTc (τ := Cert.SimIdeal.τ) (Cert.SimIdeal.main (F := Ideal))) ⟨m, fun _ => 0, g⟩ (fun r => (∀ c : Dev Cert.SimIdeal.nD,
      r.2.mem ((c.tc : Thread Cert.SimIdeal.nD Cert.SimIdeal.τ).loc Cert.SimIdeal.main_arg0) = m ((c.tc : Thread Cert.SimIdeal.nD Cert.SimIdeal.τ).loc Cert.SimIdeal.main_arg0)
      ∧ r.2.mem ((c.tc : Thread Cert.SimIdeal.nD Cert.SimIdeal.τ).loc Cert.SimIdeal.main_arg1) = m ((c.tc : Thread Cert.SimIdeal.nD Cert.SimIdeal.τ).loc Cert.SimIdeal.main_arg1))
      ∧ r.2.sem = fun _ => 0)

def quiescent_SimIdeal_pre_simdistinct [hSimIdeal : Cert.SimIdeal.Facts] [hPre_simdistinct : Cert.Pre_simdistinct.Facts] : Prop :=
  ∀ (m : (ℓ : Loc Cert.SimIdeal.nD Cert.SimIdeal.τ Cert.SimIdeal.sig) → Buf (Elt Ideal) ℓ) (g : Dev Cert.SimIdeal.nD → PrngReg), Pre_SimIdeal_simdistinct m →
    θ_run (Cert.SimIdeal.defs (F := Ideal)) (onTc (τ := Cert.SimIdeal.τ) (Cert.SimIdeal.main (F := Ideal))) ⟨m, fun _ => 0, g⟩ (fun r => (∀ c : Dev Cert.SimIdeal.nD,
      r.2.mem ((c.tc : Thread Cert.SimIdeal.nD Cert.SimIdeal.τ).loc Cert.SimIdeal.main_arg0) = m ((c.tc : Thread Cert.SimIdeal.nD Cert.SimIdeal.τ).loc Cert.SimIdeal.main_arg0)
      ∧ r.2.mem ((c.tc : Thread Cert.SimIdeal.nD Cert.SimIdeal.τ).loc Cert.SimIdeal.main_arg1) = m ((c.tc : Thread Cert.SimIdeal.nD Cert.SimIdeal.τ).loc Cert.SimIdeal.main_arg1))
      ∧ r.2.sem = fun _ => 0)

def quiescent_SimRefIdeal [hSimRefIdeal : Cert.SimRefIdeal.Facts] : Prop :=
  ∀ (m : (ℓ : Loc Cert.SimRefIdeal.nD Cert.SimRefIdeal.τ Cert.SimRefIdeal.sig) → Buf (Elt Ideal) ℓ) (g : Dev Cert.SimRefIdeal.nD → PrngReg), Pre_SimRefIdeal m →
    θ_run (Cert.SimRefIdeal.defs (F := Ideal)) (onTc (τ := Cert.SimRefIdeal.τ) (Cert.SimRefIdeal.main (F := Ideal))) ⟨m, fun _ => 0, g⟩ (fun r => (∀ c : Dev Cert.SimRefIdeal.nD,
      r.2.mem ((c.tc : Thread Cert.SimRefIdeal.nD Cert.SimRefIdeal.τ).loc Cert.SimRefIdeal.main_arg0) = m ((c.tc : Thread Cert.SimRefIdeal.nD Cert.SimRefIdeal.τ).loc Cert.SimRefIdeal.main_arg0)
      ∧ r.2.mem ((c.tc : Thread Cert.SimRefIdeal.nD Cert.SimRefIdeal.τ).loc Cert.SimRefIdeal.main_arg1) = m ((c.tc : Thread Cert.SimRefIdeal.nD Cert.SimRefIdeal.τ).loc Cert.SimRefIdeal.main_arg1))
      ∧ r.2.sem = fun _ => 0)

def quiescent_SimRefIdeal_pre_simdistinct [hSimRefIdeal : Cert.SimRefIdeal.Facts] [hPre_simdistinct : Cert.Pre_simdistinct.Facts] : Prop :=
  ∀ (m : (ℓ : Loc Cert.SimRefIdeal.nD Cert.SimRefIdeal.τ Cert.SimRefIdeal.sig) → Buf (Elt Ideal) ℓ) (g : Dev Cert.SimRefIdeal.nD → PrngReg), Pre_SimRefIdeal_simdistinct m →
    θ_run (Cert.SimRefIdeal.defs (F := Ideal)) (onTc (τ := Cert.SimRefIdeal.τ) (Cert.SimRefIdeal.main (F := Ideal))) ⟨m, fun _ => 0, g⟩ (fun r => (∀ c : Dev Cert.SimRefIdeal.nD,
      r.2.mem ((c.tc : Thread Cert.SimRefIdeal.nD Cert.SimRefIdeal.τ).loc Cert.SimRefIdeal.main_arg0) = m ((c.tc : Thread Cert.SimRefIdeal.nD Cert.SimRefIdeal.τ).loc Cert.SimRefIdeal.main_arg0)
      ∧ r.2.mem ((c.tc : Thread Cert.SimRefIdeal.nD Cert.SimRefIdeal.τ).loc Cert.SimRefIdeal.main_arg1) = m ((c.tc : Thread Cert.SimRefIdeal.nD Cert.SimRefIdeal.τ).loc Cert.SimRefIdeal.main_arg1))
      ∧ r.2.sem = fun _ => 0)

def quiescent_Conv44 [hConv44 : Cert.Conv44.Facts] : Prop :=
  ∀ (m : (ℓ : Loc Cert.Conv44.nD Cert.Conv44.τ Cert.Conv44.sig) → Buf (Elt Bits) ℓ) (g : Dev Cert.Conv44.nD → PrngReg), Pre_Conv44 m →
    θ_run (Cert.Conv44.defs (F := Bits)) (onTc (τ := Cert.Conv44.τ) (Cert.Conv44.main (F := Bits))) ⟨m, fun _ => 0, g⟩ (fun r => (∀ c : Dev Cert.Conv44.nD,
      r.2.mem ((c.tc : Thread Cert.Conv44.nD Cert.Conv44.τ).loc Cert.Conv44.main_arg0) = m ((c.tc : Thread Cert.Conv44.nD Cert.Conv44.τ).loc Cert.Conv44.main_arg0)
      ∧ r.2.mem ((c.tc : Thread Cert.Conv44.nD Cert.Conv44.τ).loc Cert.Conv44.main_arg1) = m ((c.tc : Thread Cert.Conv44.nD Cert.Conv44.τ).loc Cert.Conv44.main_arg1))
      ∧ r.2.sem = fun _ => 0)

def quiescent_Conv44Ideal [hConv44Ideal : Cert.Conv44Ideal.Facts] : Prop :=
  ∀ (m : (ℓ : Loc Cert.Conv44Ideal.nD Cert.Conv44Ideal.τ Cert.Conv44Ideal.sig) → Buf (Elt Ideal) ℓ) (g : Dev Cert.Conv44Ideal.nD → PrngReg), Pre_Conv44Ideal m →
    θ_run (Cert.Conv44Ideal.defs (F := Ideal)) (onTc (τ := Cert.Conv44Ideal.τ) (Cert.Conv44Ideal.main (F := Ideal))) ⟨m, fun _ => 0, g⟩ (fun r => (∀ c : Dev Cert.Conv44Ideal.nD,
      r.2.mem ((c.tc : Thread Cert.Conv44Ideal.nD Cert.Conv44Ideal.τ).loc Cert.Conv44Ideal.main_arg0) = m ((c.tc : Thread Cert.Conv44Ideal.nD Cert.Conv44Ideal.τ).loc Cert.Conv44Ideal.main_arg0)
      ∧ r.2.mem ((c.tc : Thread Cert.Conv44Ideal.nD Cert.Conv44Ideal.τ).loc Cert.Conv44Ideal.main_arg1) = m ((c.tc : Thread Cert.Conv44Ideal.nD Cert.Conv44Ideal.τ).loc Cert.Conv44Ideal.main_arg1))
      ∧ r.2.sem = fun _ => 0)

def quiescent_Conv44RefIdeal [hConv44RefIdeal : Cert.Conv44RefIdeal.Facts] : Prop :=
  ∀ (m : (ℓ : Loc Cert.Conv44RefIdeal.nD Cert.Conv44RefIdeal.τ Cert.Conv44RefIdeal.sig) → Buf (Elt Ideal) ℓ) (g : Dev Cert.Conv44RefIdeal.nD → PrngReg), Pre_Conv44RefIdeal m →
    θ_run (Cert.Conv44RefIdeal.defs (F := Ideal)) (onTc (τ := Cert.Conv44RefIdeal.τ) (Cert.Conv44RefIdeal.main (F := Ideal))) ⟨m, fun _ => 0, g⟩ (fun r => (∀ c : Dev Cert.Conv44RefIdeal.nD,
      r.2.mem ((c.tc : Thread Cert.Conv44RefIdeal.nD Cert.Conv44RefIdeal.τ).loc Cert.Conv44RefIdeal.main_arg0) = m ((c.tc : Thread Cert.Conv44RefIdeal.nD Cert.Conv44RefIdeal.τ).loc Cert.Conv44RefIdeal.main_arg0)
      ∧ r.2.mem ((c.tc : Thread Cert.Conv44RefIdeal.nD Cert.Conv44RefIdeal.τ).loc Cert.Conv44RefIdeal.main_arg1) = m ((c.tc : Thread Cert.Conv44RefIdeal.nD Cert.Conv44RefIdeal.τ).loc Cert.Conv44RefIdeal.main_arg1))
      ∧ r.2.sem = fun _ => 0)

def quiescent_Conv23 [hConv23 : Cert.Conv23.Facts] : Prop :=
  ∀ (m : (ℓ : Loc Cert.Conv23.nD Cert.Conv23.τ Cert.Conv23.sig) → Buf (Elt Bits) ℓ) (g : Dev Cert.Conv23.nD → PrngReg), Pre_Conv23 m →
    θ_run (Cert.Conv23.defs (F := Bits)) (onTc (τ := Cert.Conv23.τ) (Cert.Conv23.main (F := Bits))) ⟨m, fun _ => 0, g⟩ (fun r => (∀ c : Dev Cert.Conv23.nD,
      r.2.mem ((c.tc : Thread Cert.Conv23.nD Cert.Conv23.τ).loc Cert.Conv23.main_arg0) = m ((c.tc : Thread Cert.Conv23.nD Cert.Conv23.τ).loc Cert.Conv23.main_arg0)
      ∧ r.2.mem ((c.tc : Thread Cert.Conv23.nD Cert.Conv23.τ).loc Cert.Conv23.main_arg1) = m ((c.tc : Thread Cert.Conv23.nD Cert.Conv23.τ).loc Cert.Conv23.main_arg1))
      ∧ r.2.sem = fun _ => 0)

def quiescent_Conv23Ideal [hConv23Ideal : Cert.Conv23Ideal.Facts] : Prop :=
  ∀ (m : (ℓ : Loc Cert.Conv23Ideal.nD Cert.Conv23Ideal.τ Cert.Conv23Ideal.sig) → Buf (Elt Ideal) ℓ) (g : Dev Cert.Conv23Ideal.nD → PrngReg), Pre_Conv23Ideal m →
    θ_run (Cert.Conv23Ideal.defs (F := Ideal)) (onTc (τ := Cert.Conv23Ideal.τ) (Cert.Conv23Ideal.main (F := Ideal))) ⟨m, fun _ => 0, g⟩ (fun r => (∀ c : Dev Cert.Conv23Ideal.nD,
      r.2.mem ((c.tc : Thread Cert.Conv23Ideal.nD Cert.Conv23Ideal.τ).loc Cert.Conv23Ideal.main_arg0) = m ((c.tc : Thread Cert.Conv23Ideal.nD Cert.Conv23Ideal.τ).loc Cert.Conv23Ideal.main_arg0)
      ∧ r.2.mem ((c.tc : Thread Cert.Conv23Ideal.nD Cert.Conv23Ideal.τ).loc Cert.Conv23Ideal.main_arg1) = m ((c.tc : Thread Cert.Conv23Ideal.nD Cert.Conv23Ideal.τ).loc Cert.Conv23Ideal.main_arg1))
      ∧ r.2.sem = fun _ => 0)

def quiescent_Conv23RefIdeal [hConv23RefIdeal : Cert.Conv23RefIdeal.Facts] : Prop :=
  ∀ (m : (ℓ : Loc Cert.Conv23RefIdeal.nD Cert.Conv23RefIdeal.τ Cert.Conv23RefIdeal.sig) → Buf (Elt Ideal) ℓ) (g : Dev Cert.Conv23RefIdeal.nD → PrngReg), Pre_Conv23RefIdeal m →
    θ_run (Cert.Conv23RefIdeal.defs (F := Ideal)) (onTc (τ := Cert.Conv23RefIdeal.τ) (Cert.Conv23RefIdeal.main (F := Ideal))) ⟨m, fun _ => 0, g⟩ (fun r => (∀ c : Dev Cert.Conv23RefIdeal.nD,
      r.2.mem ((c.tc : Thread Cert.Conv23RefIdeal.nD Cert.Conv23RefIdeal.τ).loc Cert.Conv23RefIdeal.main_arg0) = m ((c.tc : Thread Cert.Conv23RefIdeal.nD Cert.Conv23RefIdeal.τ).loc Cert.Conv23RefIdeal.main_arg0)
      ∧ r.2.mem ((c.tc : Thread Cert.Conv23RefIdeal.nD Cert.Conv23RefIdeal.τ).loc Cert.Conv23RefIdeal.main_arg1) = m ((c.tc : Thread Cert.Conv23RefIdeal.nD Cert.Conv23RefIdeal.τ).loc Cert.Conv23RefIdeal.main_arg1))
      ∧ r.2.sem = fun _ => 0)

def quiescent_Conv86 [hConv86 : Cert.Conv86.Facts] : Prop :=
  ∀ (m : (ℓ : Loc Cert.Conv86.nD Cert.Conv86.τ Cert.Conv86.sig) → Buf (Elt Bits) ℓ) (g : Dev Cert.Conv86.nD → PrngReg), Pre_Conv86 m →
    θ_run (Cert.Conv86.defs (F := Bits)) (onTc (τ := Cert.Conv86.τ) (Cert.Conv86.main (F := Bits))) ⟨m, fun _ => 0, g⟩ (fun r => (∀ c : Dev Cert.Conv86.nD,
      r.2.mem ((c.tc : Thread Cert.Conv86.nD Cert.Conv86.τ).loc Cert.Conv86.main_arg0) = m ((c.tc : Thread Cert.Conv86.nD Cert.Conv86.τ).loc Cert.Conv86.main_arg0)
      ∧ r.2.mem ((c.tc : Thread Cert.Conv86.nD Cert.Conv86.τ).loc Cert.Conv86.main_arg1) = m ((c.tc : Thread Cert.Conv86.nD Cert.Conv86.τ).loc Cert.Conv86.main_arg1))
      ∧ r.2.sem = fun _ => 0)

def quiescent_Conv86Ideal [hConv86Ideal : Cert.Conv86Ideal.Facts] : Prop :=
  ∀ (m : (ℓ : Loc Cert.Conv86Ideal.nD Cert.Conv86Ideal.τ Cert.Conv86Ideal.sig) → Buf (Elt Ideal) ℓ) (g : Dev Cert.Conv86Ideal.nD → PrngReg), Pre_Conv86Ideal m →
    θ_run (Cert.Conv86Ideal.defs (F := Ideal)) (onTc (τ := Cert.Conv86Ideal.τ) (Cert.Conv86Ideal.main (F := Ideal))) ⟨m, fun _ => 0, g⟩ (fun r => (∀ c : Dev Cert.Conv86Ideal.nD,
      r.2.mem ((c.tc : Thread Cert.Conv86Ideal.nD Cert.Conv86Ideal.τ).loc Cert.Conv86Ideal.main_arg0) = m ((c.tc : Thread Cert.Conv86Ideal.nD Cert.Conv86Ideal.τ).loc Cert.Conv86Ideal.main_arg0)
      ∧ r.2.mem ((c.tc : Thread Cert.Conv86Ideal.nD Cert.Conv86Ideal.τ).loc Cert.Conv86Ideal.main_arg1) = m ((c.tc : Thread Cert.Conv86Ideal.nD Cert.Conv86Ideal.τ).loc Cert.Conv86Ideal.main_arg1))
      ∧ r.2.sem = fun _ => 0)

def quiescent_Conv86RefIdeal [hConv86RefIdeal : Cert.Conv86RefIdeal.Facts] : Prop :=
  ∀ (m : (ℓ : Loc Cert.Conv86RefIdeal.nD Cert.Conv86RefIdeal.τ Cert.Conv86RefIdeal.sig) → Buf (Elt Ideal) ℓ) (g : Dev Cert.Conv86RefIdeal.nD → PrngReg), Pre_Conv86RefIdeal m →
    θ_run (Cert.Conv86RefIdeal.defs (F := Ideal)) (onTc (τ := Cert.Conv86RefIdeal.τ) (Cert.Conv86RefIdeal.main (F := Ideal))) ⟨m, fun _ => 0, g⟩ (fun r => (∀ c : Dev Cert.Conv86RefIdeal.nD,
      r.2.mem ((c.tc : Thread Cert.Conv86RefIdeal.nD Cert.Conv86RefIdeal.τ).loc Cert.Conv86RefIdeal.main_arg0) = m ((c.tc : Thread Cert.Conv86RefIdeal.nD Cert.Conv86RefIdeal.τ).loc Cert.Conv86RefIdeal.main_arg0)
      ∧ r.2.mem ((c.tc : Thread Cert.Conv86RefIdeal.nD Cert.Conv86RefIdeal.τ).loc Cert.Conv86RefIdeal.main_arg1) = m ((c.tc : Thread Cert.Conv86RefIdeal.nD Cert.Conv86RefIdeal.τ).loc Cert.Conv86RefIdeal.main_arg1))
      ∧ r.2.sem = fun _ => 0)

def quiescent_Apply [hApply : Cert.Apply.Facts] : Prop :=
  ∀ (m : (ℓ : Loc Cert.Apply.nD Cert.Apply.τ Cert.Apply.sig) → Buf (Elt Bits) ℓ) (g : Dev Cert.Apply.nD → PrngReg), Pre_Apply m →
    θ_run (Cert.Apply.defs (F := Bits)) (onTc (τ := Cert.Apply.τ) (Cert.Apply.main (F := Bits))) ⟨m, fun _ => 0, g⟩ (fun r => (∀ c : Dev Cert.Apply.nD,
      r.2.mem ((c.tc : Thread Cert.Apply.nD Cert.Apply.τ).loc Cert.Apply.main_arg0) = m ((c.tc : Thread Cert.Apply.nD Cert.Apply.τ).loc Cert.Apply.main_arg0)
      ∧ r.2.mem ((c.tc : Thread Cert.Apply.nD Cert.Apply.τ).loc Cert.Apply.main_arg1) = m ((c.tc : Thread Cert.Apply.nD Cert.Apply.τ).loc Cert.Apply.main_arg1)
      ∧ r.2.mem ((c.tc : Thread Cert.Apply.nD Cert.Apply.τ).loc Cert.Apply.main_arg2) = m ((c.tc : Thread Cert.Apply.nD Cert.Apply.τ).loc Cert.Apply.main_arg2))
      ∧ r.2.sem = fun _ => 0)

def quiescent_ApplyIdeal [hApplyIdeal : Cert.ApplyIdeal.Facts] : Prop :=
  ∀ (m : (ℓ : Loc Cert.ApplyIdeal.nD Cert.ApplyIdeal.τ Cert.ApplyIdeal.sig) → Buf (Elt Ideal) ℓ) (g : Dev Cert.ApplyIdeal.nD → PrngReg), Pre_ApplyIdeal m →
    θ_run (Cert.ApplyIdeal.defs (F := Ideal)) (onTc (τ := Cert.ApplyIdeal.τ) (Cert.ApplyIdeal.main (F := Ideal))) ⟨m, fun _ => 0, g⟩ (fun r => (∀ c : Dev Cert.ApplyIdeal.nD,
      r.2.mem ((c.tc : Thread Cert.ApplyIdeal.nD Cert.ApplyIdeal.τ).loc Cert.ApplyIdeal.main_arg0) = m ((c.tc : Thread Cert.ApplyIdeal.nD Cert.ApplyIdeal.τ).loc Cert.ApplyIdeal.main_arg0)
      ∧ r.2.mem ((c.tc : Thread Cert.ApplyIdeal.nD Cert.ApplyIdeal.τ).loc Cert.ApplyIdeal.main_arg1) = m ((c.tc : Thread Cert.ApplyIdeal.nD Cert.ApplyIdeal.τ).loc Cert.ApplyIdeal.main_arg1)
      ∧ r.2.mem ((c.tc : Thread Cert.ApplyIdeal.nD Cert.ApplyIdeal.τ).loc Cert.ApplyIdeal.main_arg2) = m ((c.tc : Thread Cert.ApplyIdeal.nD Cert.ApplyIdeal.τ).loc Cert.ApplyIdeal.main_arg2))
      ∧ r.2.sem = fun _ => 0)

def quiescent_ApplyRefIdeal [hApplyRefIdeal : Cert.ApplyRefIdeal.Facts] : Prop :=
  ∀ (m : (ℓ : Loc Cert.ApplyRefIdeal.nD Cert.ApplyRefIdeal.τ Cert.ApplyRefIdeal.sig) → Buf (Elt Ideal) ℓ) (g : Dev Cert.ApplyRefIdeal.nD → PrngReg), Pre_ApplyRefIdeal m →
    θ_run (Cert.ApplyRefIdeal.defs (F := Ideal)) (onTc (τ := Cert.ApplyRefIdeal.τ) (Cert.ApplyRefIdeal.main (F := Ideal))) ⟨m, fun _ => 0, g⟩ (fun r => (∀ c : Dev Cert.ApplyRefIdeal.nD,
      r.2.mem ((c.tc : Thread Cert.ApplyRefIdeal.nD Cert.ApplyRefIdeal.τ).loc Cert.ApplyRefIdeal.main_arg0) = m ((c.tc : Thread Cert.ApplyRefIdeal.nD Cert.ApplyRefIdeal.τ).loc Cert.ApplyRefIdeal.main_arg0)
      ∧ r.2.mem ((c.tc : Thread Cert.ApplyRefIdeal.nD Cert.ApplyRefIdeal.τ).loc Cert.ApplyRefIdeal.main_arg1) = m ((c.tc : Thread Cert.ApplyRefIdeal.nD Cert.ApplyRefIdeal.τ).loc Cert.ApplyRefIdeal.main_arg1)
      ∧ r.2.mem ((c.tc : Thread Cert.ApplyRefIdeal.nD Cert.ApplyRefIdeal.τ).loc Cert.ApplyRefIdeal.main_arg2) = m ((c.tc : Thread Cert.ApplyRefIdeal.nD Cert.ApplyRefIdeal.τ).loc Cert.ApplyRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormIdeal_pre_nonzero [hNormIdeal : Cert.NormIdeal.Facts] [hPre_nonzero : Cert.Pre_nonzero.Facts] : Prop :=
  ∀ (m : (ℓ : Loc Cert.NormIdeal.nD Cert.NormIdeal.τ Cert.NormIdeal.sig) → Buf (Elt Ideal) ℓ) (g : Dev Cert.NormIdeal.nD → PrngReg), Pre_NormIdeal_nonzero m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def quiescent_NormRefIdeal_pre_nonzero [hNormRefIdeal : Cert.NormRefIdeal.Facts] [hPre_nonzero : Cert.Pre_nonzero.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_nonzero m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0))
      ∧ r.2.sem = fun _ => 0)

def quiescent_TailIdeal_pre_taildistinct [hTailIdeal : Cert.TailIdeal.Facts] [hPre_taildistinct : Cert.Pre_taildistinct.Facts] : Prop :=
  ∀ (m : (ℓ : Loc Cert.TailIdeal.nD Cert.TailIdeal.τ Cert.TailIdeal.sig) → Buf (Elt Ideal) ℓ) (g : Dev Cert.TailIdeal.nD → PrngReg), Pre_TailIdeal_taildistinct m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0))
      ∧ r.2.sem = fun _ => 0)

def quiescent_TailRefIdeal_pre_taildistinct [hTailRefIdeal : Cert.TailRefIdeal.Facts] [hPre_taildistinct : Cert.Pre_taildistinct.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal_taildistinct m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0))
      ∧ r.2.sem = fun _ => 0)

def quiescent_Pool2 [hPool2 : Cert.Pool2.Facts] : Prop :=
  ∀ (m : (ℓ : Loc Cert.Pool2.nD Cert.Pool2.τ Cert.Pool2.sig) → Buf (Elt Bits) ℓ) (g : Dev Cert.Pool2.nD → PrngReg), Pre_Pool2 m →
    θ_run (Cert.Pool2.defs (F := Bits)) (onTc (τ := Cert.Pool2.τ) (Cert.Pool2.main (F := Bits))) ⟨m, fun _ => 0, g⟩ (fun r => (∀ c : Dev Cert.Pool2.nD,
      r.2.mem ((c.tc : Thread Cert.Pool2.nD Cert.Pool2.τ).loc Cert.Pool2.main_arg0) = m ((c.tc : Thread Cert.Pool2.nD Cert.Pool2.τ).loc Cert.Pool2.main_arg0)
      ∧ r.2.mem ((c.tc : Thread Cert.Pool2.nD Cert.Pool2.τ).loc Cert.Pool2.main_arg1) = m ((c.tc : Thread Cert.Pool2.nD Cert.Pool2.τ).loc Cert.Pool2.main_arg1)
      ∧ r.2.mem ((c.tc : Thread Cert.Pool2.nD Cert.Pool2.τ).loc Cert.Pool2.main_arg2) = m ((c.tc : Thread Cert.Pool2.nD Cert.Pool2.τ).loc Cert.Pool2.main_arg2))
      ∧ r.2.sem = fun _ => 0)

def quiescent_Pool2Ideal [hPool2Ideal : Cert.Pool2Ideal.Facts] : Prop :=
  ∀ (m : (ℓ : Loc Cert.Pool2Ideal.nD Cert.Pool2Ideal.τ Cert.Pool2Ideal.sig) → Buf (Elt Ideal) ℓ) (g : Dev Cert.Pool2Ideal.nD → PrngReg), Pre_Pool2Ideal m →
    θ_run (Cert.Pool2Ideal.defs (F := Ideal)) (onTc (τ := Cert.Pool2Ideal.τ) (Cert.Pool2Ideal.main (F := Ideal))) ⟨m, fun _ => 0, g⟩ (fun r => (∀ c : Dev Cert.Pool2Ideal.nD,
      r.2.mem ((c.tc : Thread Cert.Pool2Ideal.nD Cert.Pool2Ideal.τ).loc Cert.Pool2Ideal.main_arg0) = m ((c.tc : Thread Cert.Pool2Ideal.nD Cert.Pool2Ideal.τ).loc Cert.Pool2Ideal.main_arg0)
      ∧ r.2.mem ((c.tc : Thread Cert.Pool2Ideal.nD Cert.Pool2Ideal.τ).loc Cert.Pool2Ideal.main_arg1) = m ((c.tc : Thread Cert.Pool2Ideal.nD Cert.Pool2Ideal.τ).loc Cert.Pool2Ideal.main_arg1)
      ∧ r.2.mem ((c.tc : Thread Cert.Pool2Ideal.nD Cert.Pool2Ideal.τ).loc Cert.Pool2Ideal.main_arg2) = m ((c.tc : Thread Cert.Pool2Ideal.nD Cert.Pool2Ideal.τ).loc Cert.Pool2Ideal.main_arg2))
      ∧ r.2.sem = fun _ => 0)

def quiescent_Pool2RefIdeal [hPool2RefIdeal : Cert.Pool2RefIdeal.Facts] : Prop :=
  ∀ (m : (ℓ : Loc Cert.Pool2RefIdeal.nD Cert.Pool2RefIdeal.τ Cert.Pool2RefIdeal.sig) → Buf (Elt Ideal) ℓ) (g : Dev Cert.Pool2RefIdeal.nD → PrngReg), Pre_Pool2RefIdeal m →
    θ_run (Cert.Pool2RefIdeal.defs (F := Ideal)) (onTc (τ := Cert.Pool2RefIdeal.τ) (Cert.Pool2RefIdeal.main (F := Ideal))) ⟨m, fun _ => 0, g⟩ (fun r => (∀ c : Dev Cert.Pool2RefIdeal.nD,
      r.2.mem ((c.tc : Thread Cert.Pool2RefIdeal.nD Cert.Pool2RefIdeal.τ).loc Cert.Pool2RefIdeal.main_arg0) = m ((c.tc : Thread Cert.Pool2RefIdeal.nD Cert.Pool2RefIdeal.τ).loc Cert.Pool2RefIdeal.main_arg0)
      ∧ r.2.mem ((c.tc : Thread Cert.Pool2RefIdeal.nD Cert.Pool2RefIdeal.τ).loc Cert.Pool2RefIdeal.main_arg1) = m ((c.tc : Thread Cert.Pool2RefIdeal.nD Cert.Pool2RefIdeal.τ).loc Cert.Pool2RefIdeal.main_arg1)
      ∧ r.2.mem ((c.tc : Thread Cert.Pool2RefIdeal.nD Cert.Pool2RefIdeal.τ).loc Cert.Pool2RefIdeal.main_arg2) = m ((c.tc : Thread Cert.Pool2RefIdeal.nD Cert.Pool2RefIdeal.τ).loc Cert.Pool2RefIdeal.main_arg2))
      ∧ r.2.sem = fun _ => 0)

def preserves_Pool1_Pool1Ideal : Prop :=
  True

def algebraic_Pool1Ideal_Pool1RefIdeal [hPool1Ideal : Cert.Pool1Ideal.Facts] [hPool1RefIdeal : Cert.Pool1RefIdeal.Facts] : Prop :=
  ∀ (m : (ℓ : Loc Cert.Pool1Ideal.nD Cert.Pool1Ideal.τ Cert.Pool1Ideal.sig) → Buf (Elt Ideal) ℓ) (g : Dev Cert.Pool1Ideal.nD → PrngReg)
    (m' : (ℓ : Loc Cert.Pool1RefIdeal.nD Cert.Pool1RefIdeal.τ Cert.Pool1RefIdeal.sig) → Buf (Elt Ideal) ℓ) (g' : Dev Cert.Pool1RefIdeal.nD → PrngReg), Pre_Pool1Ideal m →
    (∀ c : Dev Cert.Pool1Ideal.nD,
      m' ((c.tc : Thread Cert.Pool1RefIdeal.nD Cert.Pool1RefIdeal.τ).loc Cert.Pool1RefIdeal.main_arg0) = m ((c.tc : Thread Cert.Pool1Ideal.nD Cert.Pool1Ideal.τ).loc Cert.Pool1Ideal.main_arg0)
      ∧ m' ((c.tc : Thread Cert.Pool1RefIdeal.nD Cert.Pool1RefIdeal.τ).loc Cert.Pool1RefIdeal.main_arg1) = m ((c.tc : Thread Cert.Pool1Ideal.nD Cert.Pool1Ideal.τ).loc Cert.Pool1Ideal.main_arg1)
      ∧ m' ((c.tc : Thread Cert.Pool1RefIdeal.nD Cert.Pool1RefIdeal.τ).loc Cert.Pool1RefIdeal.main_arg2) = m ((c.tc : Thread Cert.Pool1Ideal.nD Cert.Pool1Ideal.τ).loc Cert.Pool1Ideal.main_arg2)) →
    ∃ (v0 : (c : Dev Cert.Pool1Ideal.nD) → Buf (Elt Ideal) ((c.tc : Thread Cert.Pool1Ideal.nD Cert.Pool1Ideal.τ).loc Cert.Pool1Ideal.main_v2)),
      θ_run (Cert.Pool1Ideal.defs (F := Ideal)) (onTc (τ := Cert.Pool1Ideal.τ) (Cert.Pool1Ideal.main (F := Ideal))) ⟨m, fun _ => 0, g⟩ (fun r => ∀ c : Dev Cert.Pool1Ideal.nD,
          r.2.mem ((c.tc : Thread Cert.Pool1Ideal.nD Cert.Pool1Ideal.τ).loc Cert.Pool1Ideal.main_v2) = v0 c
          ∧ r.2.mem ((c.tc : Thread Cert.Pool1Ideal.nD Cert.Pool1Ideal.τ).loc Cert.Pool1Ideal.main_arg0) = m ((c.tc : Thread Cert.Pool1Ideal.nD Cert.Pool1Ideal.τ).loc Cert.Pool1Ideal.main_arg0)
          ∧ r.2.mem ((c.tc : Thread Cert.Pool1Ideal.nD Cert.Pool1Ideal.τ).loc Cert.Pool1Ideal.main_arg1) = m ((c.tc : Thread Cert.Pool1Ideal.nD Cert.Pool1Ideal.τ).loc Cert.Pool1Ideal.main_arg1)
          ∧ r.2.mem ((c.tc : Thread Cert.Pool1Ideal.nD Cert.Pool1Ideal.τ).loc Cert.Pool1Ideal.main_arg2) = m ((c.tc : Thread Cert.Pool1Ideal.nD Cert.Pool1Ideal.τ).loc Cert.Pool1Ideal.main_arg2))
      ∧ θ_run (Cert.Pool1RefIdeal.defs (F := Ideal)) (onTc (τ := Cert.Pool1RefIdeal.τ) (Cert.Pool1RefIdeal.main (F := Ideal))) ⟨m', fun _ => 0, g'⟩ (fun r => ∀ c : Dev Cert.Pool1RefIdeal.nD,
          r.2.mem ((c.tc : Thread Cert.Pool1RefIdeal.nD Cert.Pool1RefIdeal.τ).loc Cert.Pool1RefIdeal.main_v16) = v0 c
          ∧ r.2.mem ((c.tc : Thread Cert.Pool1RefIdeal.nD Cert.Pool1RefIdeal.τ).loc Cert.Pool1RefIdeal.main_arg0) = m' ((c.tc : Thread Cert.Pool1RefIdeal.nD Cert.Pool1RefIdeal.τ).loc Cert.Pool1RefIdeal.main_arg0)
          ∧ r.2.mem ((c.tc : Thread Cert.Pool1RefIdeal.nD Cert.Pool1RefIdeal.τ).loc Cert.Pool1RefIdeal.main_arg1) = m' ((c.tc : Thread Cert.Pool1RefIdeal.nD Cert.Pool1RefIdeal.τ).loc Cert.Pool1RefIdeal.main_arg1)
          ∧ r.2.mem ((c.tc : Thread Cert.Pool1RefIdeal.nD Cert.Pool1RefIdeal.τ).loc Cert.Pool1RefIdeal.main_arg2) = m' ((c.tc : Thread Cert.Pool1RefIdeal.nD Cert.Pool1RefIdeal.τ).loc Cert.Pool1RefIdeal.main_arg2))

def preserves_Final_FinalIdeal : Prop :=
  True

def algebraic_FinalIdeal_FinalRefIdeal_pre_distinct [hFinalIdeal : Cert.FinalIdeal.Facts] [hFinalRefIdeal : Cert.FinalRefIdeal.Facts] [hPre_distinct : Cert.Pre_distinct.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal_distinct m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)) →
    ∃ (v0 : (c : Dev Cert.FinalIdeal.nD) → Buf (Elt Ideal) ((c.tc : Thread Cert.FinalIdeal.nD Cert.FinalIdeal.τ).loc Cert.FinalIdeal.main_v9)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v9) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v10) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3))

def preserves_Sim_SimIdeal : Prop :=
  True

def algebraic_SimIdeal_SimRefIdeal_pre_simdistinct [hSimIdeal : Cert.SimIdeal.Facts] [hSimRefIdeal : Cert.SimRefIdeal.Facts] [hPre_simdistinct : Cert.Pre_simdistinct.Facts] : Prop :=
  ∀ (m : (ℓ : Loc Cert.SimIdeal.nD Cert.SimIdeal.τ Cert.SimIdeal.sig) → Buf (Elt Ideal) ℓ) (g : Dev Cert.SimIdeal.nD → PrngReg)
    (m' : (ℓ : Loc Cert.SimRefIdeal.nD Cert.SimRefIdeal.τ Cert.SimRefIdeal.sig) → Buf (Elt Ideal) ℓ) (g' : Dev Cert.SimRefIdeal.nD → PrngReg), Pre_SimIdeal_simdistinct m →
    (∀ c : Dev Cert.SimIdeal.nD,
      m' ((c.tc : Thread Cert.SimRefIdeal.nD Cert.SimRefIdeal.τ).loc Cert.SimRefIdeal.main_arg0) = m ((c.tc : Thread Cert.SimIdeal.nD Cert.SimIdeal.τ).loc Cert.SimIdeal.main_arg0)
      ∧ m' ((c.tc : Thread Cert.SimRefIdeal.nD Cert.SimRefIdeal.τ).loc Cert.SimRefIdeal.main_arg1) = m ((c.tc : Thread Cert.SimIdeal.nD Cert.SimIdeal.τ).loc Cert.SimIdeal.main_arg1)) →
    ∃ (v0 : (c : Dev Cert.SimIdeal.nD) → Buf (Elt Ideal) ((c.tc : Thread Cert.SimIdeal.nD Cert.SimIdeal.τ).loc Cert.SimIdeal.main_v1)),
      θ_run (Cert.SimIdeal.defs (F := Ideal)) (onTc (τ := Cert.SimIdeal.τ) (Cert.SimIdeal.main (F := Ideal))) ⟨m, fun _ => 0, g⟩ (fun r => ∀ c : Dev Cert.SimIdeal.nD,
          r.2.mem ((c.tc : Thread Cert.SimIdeal.nD Cert.SimIdeal.τ).loc Cert.SimIdeal.main_v1) = v0 c
          ∧ r.2.mem ((c.tc : Thread Cert.SimIdeal.nD Cert.SimIdeal.τ).loc Cert.SimIdeal.main_arg0) = m ((c.tc : Thread Cert.SimIdeal.nD Cert.SimIdeal.τ).loc Cert.SimIdeal.main_arg0)
          ∧ r.2.mem ((c.tc : Thread Cert.SimIdeal.nD Cert.SimIdeal.τ).loc Cert.SimIdeal.main_arg1) = m ((c.tc : Thread Cert.SimIdeal.nD Cert.SimIdeal.τ).loc Cert.SimIdeal.main_arg1))
      ∧ θ_run (Cert.SimRefIdeal.defs (F := Ideal)) (onTc (τ := Cert.SimRefIdeal.τ) (Cert.SimRefIdeal.main (F := Ideal))) ⟨m', fun _ => 0, g'⟩ (fun r => ∀ c : Dev Cert.SimRefIdeal.nD,
          r.2.mem ((c.tc : Thread Cert.SimRefIdeal.nD Cert.SimRefIdeal.τ).loc Cert.SimRefIdeal.main_v2) = v0 c
          ∧ r.2.mem ((c.tc : Thread Cert.SimRefIdeal.nD Cert.SimRefIdeal.τ).loc Cert.SimRefIdeal.main_arg0) = m' ((c.tc : Thread Cert.SimRefIdeal.nD Cert.SimRefIdeal.τ).loc Cert.SimRefIdeal.main_arg0)
          ∧ r.2.mem ((c.tc : Thread Cert.SimRefIdeal.nD Cert.SimRefIdeal.τ).loc Cert.SimRefIdeal.main_arg1) = m' ((c.tc : Thread Cert.SimRefIdeal.nD Cert.SimRefIdeal.τ).loc Cert.SimRefIdeal.main_arg1))

def preserves_Conv44_Conv44Ideal : Prop :=
  True

def algebraic_Conv44Ideal_Conv44RefIdeal [hConv44Ideal : Cert.Conv44Ideal.Facts] [hConv44RefIdeal : Cert.Conv44RefIdeal.Facts] : Prop :=
  ∀ (m : (ℓ : Loc Cert.Conv44Ideal.nD Cert.Conv44Ideal.τ Cert.Conv44Ideal.sig) → Buf (Elt Ideal) ℓ) (g : Dev Cert.Conv44Ideal.nD → PrngReg)
    (m' : (ℓ : Loc Cert.Conv44RefIdeal.nD Cert.Conv44RefIdeal.τ Cert.Conv44RefIdeal.sig) → Buf (Elt Ideal) ℓ) (g' : Dev Cert.Conv44RefIdeal.nD → PrngReg), Pre_Conv44Ideal m →
    (∀ c : Dev Cert.Conv44Ideal.nD,
      m' ((c.tc : Thread Cert.Conv44RefIdeal.nD Cert.Conv44RefIdeal.τ).loc Cert.Conv44RefIdeal.main_arg0) = m ((c.tc : Thread Cert.Conv44Ideal.nD Cert.Conv44Ideal.τ).loc Cert.Conv44Ideal.main_arg0)
      ∧ m' ((c.tc : Thread Cert.Conv44RefIdeal.nD Cert.Conv44RefIdeal.τ).loc Cert.Conv44RefIdeal.main_arg1) = m ((c.tc : Thread Cert.Conv44Ideal.nD Cert.Conv44Ideal.τ).loc Cert.Conv44Ideal.main_arg1)) →
    ∃ (v0 : (c : Dev Cert.Conv44Ideal.nD) → Buf (Elt Ideal) ((c.tc : Thread Cert.Conv44Ideal.nD Cert.Conv44Ideal.τ).loc Cert.Conv44Ideal.main_v5_0)) (v1 : (c : Dev Cert.Conv44Ideal.nD) → Buf (Elt Ideal) ((c.tc : Thread Cert.Conv44Ideal.nD Cert.Conv44Ideal.τ).loc Cert.Conv44Ideal.main_v5_1)) (v2 : (c : Dev Cert.Conv44Ideal.nD) → Buf (Elt Ideal) ((c.tc : Thread Cert.Conv44Ideal.nD Cert.Conv44Ideal.τ).loc Cert.Conv44Ideal.main_v5_2)),
      θ_run (Cert.Conv44Ideal.defs (F := Ideal)) (onTc (τ := Cert.Conv44Ideal.τ) (Cert.Conv44Ideal.main (F := Ideal))) ⟨m, fun _ => 0, g⟩ (fun r => ∀ c : Dev Cert.Conv44Ideal.nD,
          r.2.mem ((c.tc : Thread Cert.Conv44Ideal.nD Cert.Conv44Ideal.τ).loc Cert.Conv44Ideal.main_v5_0) = v0 c
          ∧ r.2.mem ((c.tc : Thread Cert.Conv44Ideal.nD Cert.Conv44Ideal.τ).loc Cert.Conv44Ideal.main_v5_1) = v1 c
          ∧ r.2.mem ((c.tc : Thread Cert.Conv44Ideal.nD Cert.Conv44Ideal.τ).loc Cert.Conv44Ideal.main_v5_2) = v2 c
          ∧ r.2.mem ((c.tc : Thread Cert.Conv44Ideal.nD Cert.Conv44Ideal.τ).loc Cert.Conv44Ideal.main_arg0) = m ((c.tc : Thread Cert.Conv44Ideal.nD Cert.Conv44Ideal.τ).loc Cert.Conv44Ideal.main_arg0)
          ∧ r.2.mem ((c.tc : Thread Cert.Conv44Ideal.nD Cert.Conv44Ideal.τ).loc Cert.Conv44Ideal.main_arg1) = m ((c.tc : Thread Cert.Conv44Ideal.nD Cert.Conv44Ideal.τ).loc Cert.Conv44Ideal.main_arg1))
      ∧ θ_run (Cert.Conv44RefIdeal.defs (F := Ideal)) (onTc (τ := Cert.Conv44RefIdeal.τ) (Cert.Conv44RefIdeal.main (F := Ideal))) ⟨m', fun _ => 0, g'⟩ (fun r => ∀ c : Dev Cert.Conv44RefIdeal.nD,
          r.2.mem ((c.tc : Thread Cert.Conv44RefIdeal.nD Cert.Conv44RefIdeal.τ).loc Cert.Conv44RefIdeal.main_v51) = v0 c
          ∧ r.2.mem ((c.tc : Thread Cert.Conv44RefIdeal.nD Cert.Conv44RefIdeal.τ).loc Cert.Conv44RefIdeal.main_v52) = v1 c
          ∧ r.2.mem ((c.tc : Thread Cert.Conv44RefIdeal.nD Cert.Conv44RefIdeal.τ).loc Cert.Conv44RefIdeal.main_v53) = v2 c
          ∧ r.2.mem ((c.tc : Thread Cert.Conv44RefIdeal.nD Cert.Conv44RefIdeal.τ).loc Cert.Conv44RefIdeal.main_arg0) = m' ((c.tc : Thread Cert.Conv44RefIdeal.nD Cert.Conv44RefIdeal.τ).loc Cert.Conv44RefIdeal.main_arg0)
          ∧ r.2.mem ((c.tc : Thread Cert.Conv44RefIdeal.nD Cert.Conv44RefIdeal.τ).loc Cert.Conv44RefIdeal.main_arg1) = m' ((c.tc : Thread Cert.Conv44RefIdeal.nD Cert.Conv44RefIdeal.τ).loc Cert.Conv44RefIdeal.main_arg1))

def preserves_Conv23_Conv23Ideal : Prop :=
  True

def algebraic_Conv23Ideal_Conv23RefIdeal [hConv23Ideal : Cert.Conv23Ideal.Facts] [hConv23RefIdeal : Cert.Conv23RefIdeal.Facts] : Prop :=
  ∀ (m : (ℓ : Loc Cert.Conv23Ideal.nD Cert.Conv23Ideal.τ Cert.Conv23Ideal.sig) → Buf (Elt Ideal) ℓ) (g : Dev Cert.Conv23Ideal.nD → PrngReg)
    (m' : (ℓ : Loc Cert.Conv23RefIdeal.nD Cert.Conv23RefIdeal.τ Cert.Conv23RefIdeal.sig) → Buf (Elt Ideal) ℓ) (g' : Dev Cert.Conv23RefIdeal.nD → PrngReg), Pre_Conv23Ideal m →
    (∀ c : Dev Cert.Conv23Ideal.nD,
      m' ((c.tc : Thread Cert.Conv23RefIdeal.nD Cert.Conv23RefIdeal.τ).loc Cert.Conv23RefIdeal.main_arg0) = m ((c.tc : Thread Cert.Conv23Ideal.nD Cert.Conv23Ideal.τ).loc Cert.Conv23Ideal.main_arg0)
      ∧ m' ((c.tc : Thread Cert.Conv23RefIdeal.nD Cert.Conv23RefIdeal.τ).loc Cert.Conv23RefIdeal.main_arg1) = m ((c.tc : Thread Cert.Conv23Ideal.nD Cert.Conv23Ideal.τ).loc Cert.Conv23Ideal.main_arg1)) →
    ∃ (v0 : (c : Dev Cert.Conv23Ideal.nD) → Buf (Elt Ideal) ((c.tc : Thread Cert.Conv23Ideal.nD Cert.Conv23Ideal.τ).loc Cert.Conv23Ideal.main_v5_0)) (v1 : (c : Dev Cert.Conv23Ideal.nD) → Buf (Elt Ideal) ((c.tc : Thread Cert.Conv23Ideal.nD Cert.Conv23Ideal.τ).loc Cert.Conv23Ideal.main_v5_1)) (v2 : (c : Dev Cert.Conv23Ideal.nD) → Buf (Elt Ideal) ((c.tc : Thread Cert.Conv23Ideal.nD Cert.Conv23Ideal.τ).loc Cert.Conv23Ideal.main_v5_2)),
      θ_run (Cert.Conv23Ideal.defs (F := Ideal)) (onTc (τ := Cert.Conv23Ideal.τ) (Cert.Conv23Ideal.main (F := Ideal))) ⟨m, fun _ => 0, g⟩ (fun r => ∀ c : Dev Cert.Conv23Ideal.nD,
          r.2.mem ((c.tc : Thread Cert.Conv23Ideal.nD Cert.Conv23Ideal.τ).loc Cert.Conv23Ideal.main_v5_0) = v0 c
          ∧ r.2.mem ((c.tc : Thread Cert.Conv23Ideal.nD Cert.Conv23Ideal.τ).loc Cert.Conv23Ideal.main_v5_1) = v1 c
          ∧ r.2.mem ((c.tc : Thread Cert.Conv23Ideal.nD Cert.Conv23Ideal.τ).loc Cert.Conv23Ideal.main_v5_2) = v2 c
          ∧ r.2.mem ((c.tc : Thread Cert.Conv23Ideal.nD Cert.Conv23Ideal.τ).loc Cert.Conv23Ideal.main_arg0) = m ((c.tc : Thread Cert.Conv23Ideal.nD Cert.Conv23Ideal.τ).loc Cert.Conv23Ideal.main_arg0)
          ∧ r.2.mem ((c.tc : Thread Cert.Conv23Ideal.nD Cert.Conv23Ideal.τ).loc Cert.Conv23Ideal.main_arg1) = m ((c.tc : Thread Cert.Conv23Ideal.nD Cert.Conv23Ideal.τ).loc Cert.Conv23Ideal.main_arg1))
      ∧ θ_run (Cert.Conv23RefIdeal.defs (F := Ideal)) (onTc (τ := Cert.Conv23RefIdeal.τ) (Cert.Conv23RefIdeal.main (F := Ideal))) ⟨m', fun _ => 0, g'⟩ (fun r => ∀ c : Dev Cert.Conv23RefIdeal.nD,
          r.2.mem ((c.tc : Thread Cert.Conv23RefIdeal.nD Cert.Conv23RefIdeal.τ).loc Cert.Conv23RefIdeal.main_v51) = v0 c
          ∧ r.2.mem ((c.tc : Thread Cert.Conv23RefIdeal.nD Cert.Conv23RefIdeal.τ).loc Cert.Conv23RefIdeal.main_v52) = v1 c
          ∧ r.2.mem ((c.tc : Thread Cert.Conv23RefIdeal.nD Cert.Conv23RefIdeal.τ).loc Cert.Conv23RefIdeal.main_v53) = v2 c
          ∧ r.2.mem ((c.tc : Thread Cert.Conv23RefIdeal.nD Cert.Conv23RefIdeal.τ).loc Cert.Conv23RefIdeal.main_arg0) = m' ((c.tc : Thread Cert.Conv23RefIdeal.nD Cert.Conv23RefIdeal.τ).loc Cert.Conv23RefIdeal.main_arg0)
          ∧ r.2.mem ((c.tc : Thread Cert.Conv23RefIdeal.nD Cert.Conv23RefIdeal.τ).loc Cert.Conv23RefIdeal.main_arg1) = m' ((c.tc : Thread Cert.Conv23RefIdeal.nD Cert.Conv23RefIdeal.τ).loc Cert.Conv23RefIdeal.main_arg1))

def preserves_Conv86_Conv86Ideal : Prop :=
  True

def algebraic_Conv86Ideal_Conv86RefIdeal [hConv86Ideal : Cert.Conv86Ideal.Facts] [hConv86RefIdeal : Cert.Conv86RefIdeal.Facts] : Prop :=
  ∀ (m : (ℓ : Loc Cert.Conv86Ideal.nD Cert.Conv86Ideal.τ Cert.Conv86Ideal.sig) → Buf (Elt Ideal) ℓ) (g : Dev Cert.Conv86Ideal.nD → PrngReg)
    (m' : (ℓ : Loc Cert.Conv86RefIdeal.nD Cert.Conv86RefIdeal.τ Cert.Conv86RefIdeal.sig) → Buf (Elt Ideal) ℓ) (g' : Dev Cert.Conv86RefIdeal.nD → PrngReg), Pre_Conv86Ideal m →
    (∀ c : Dev Cert.Conv86Ideal.nD,
      m' ((c.tc : Thread Cert.Conv86RefIdeal.nD Cert.Conv86RefIdeal.τ).loc Cert.Conv86RefIdeal.main_arg0) = m ((c.tc : Thread Cert.Conv86Ideal.nD Cert.Conv86Ideal.τ).loc Cert.Conv86Ideal.main_arg0)
      ∧ m' ((c.tc : Thread Cert.Conv86RefIdeal.nD Cert.Conv86RefIdeal.τ).loc Cert.Conv86RefIdeal.main_arg1) = m ((c.tc : Thread Cert.Conv86Ideal.nD Cert.Conv86Ideal.τ).loc Cert.Conv86Ideal.main_arg1)) →
    ∃ (v0 : (c : Dev Cert.Conv86Ideal.nD) → Buf (Elt Ideal) ((c.tc : Thread Cert.Conv86Ideal.nD Cert.Conv86Ideal.τ).loc Cert.Conv86Ideal.main_v5_0)) (v1 : (c : Dev Cert.Conv86Ideal.nD) → Buf (Elt Ideal) ((c.tc : Thread Cert.Conv86Ideal.nD Cert.Conv86Ideal.τ).loc Cert.Conv86Ideal.main_v5_1)) (v2 : (c : Dev Cert.Conv86Ideal.nD) → Buf (Elt Ideal) ((c.tc : Thread Cert.Conv86Ideal.nD Cert.Conv86Ideal.τ).loc Cert.Conv86Ideal.main_v5_2)),
      θ_run (Cert.Conv86Ideal.defs (F := Ideal)) (onTc (τ := Cert.Conv86Ideal.τ) (Cert.Conv86Ideal.main (F := Ideal))) ⟨m, fun _ => 0, g⟩ (fun r => ∀ c : Dev Cert.Conv86Ideal.nD,
          r.2.mem ((c.tc : Thread Cert.Conv86Ideal.nD Cert.Conv86Ideal.τ).loc Cert.Conv86Ideal.main_v5_0) = v0 c
          ∧ r.2.mem ((c.tc : Thread Cert.Conv86Ideal.nD Cert.Conv86Ideal.τ).loc Cert.Conv86Ideal.main_v5_1) = v1 c
          ∧ r.2.mem ((c.tc : Thread Cert.Conv86Ideal.nD Cert.Conv86Ideal.τ).loc Cert.Conv86Ideal.main_v5_2) = v2 c
          ∧ r.2.mem ((c.tc : Thread Cert.Conv86Ideal.nD Cert.Conv86Ideal.τ).loc Cert.Conv86Ideal.main_arg0) = m ((c.tc : Thread Cert.Conv86Ideal.nD Cert.Conv86Ideal.τ).loc Cert.Conv86Ideal.main_arg0)
          ∧ r.2.mem ((c.tc : Thread Cert.Conv86Ideal.nD Cert.Conv86Ideal.τ).loc Cert.Conv86Ideal.main_arg1) = m ((c.tc : Thread Cert.Conv86Ideal.nD Cert.Conv86Ideal.τ).loc Cert.Conv86Ideal.main_arg1))
      ∧ θ_run (Cert.Conv86RefIdeal.defs (F := Ideal)) (onTc (τ := Cert.Conv86RefIdeal.τ) (Cert.Conv86RefIdeal.main (F := Ideal))) ⟨m', fun _ => 0, g'⟩ (fun r => ∀ c : Dev Cert.Conv86RefIdeal.nD,
          r.2.mem ((c.tc : Thread Cert.Conv86RefIdeal.nD Cert.Conv86RefIdeal.τ).loc Cert.Conv86RefIdeal.main_v51) = v0 c
          ∧ r.2.mem ((c.tc : Thread Cert.Conv86RefIdeal.nD Cert.Conv86RefIdeal.τ).loc Cert.Conv86RefIdeal.main_v52) = v1 c
          ∧ r.2.mem ((c.tc : Thread Cert.Conv86RefIdeal.nD Cert.Conv86RefIdeal.τ).loc Cert.Conv86RefIdeal.main_v53) = v2 c
          ∧ r.2.mem ((c.tc : Thread Cert.Conv86RefIdeal.nD Cert.Conv86RefIdeal.τ).loc Cert.Conv86RefIdeal.main_arg0) = m' ((c.tc : Thread Cert.Conv86RefIdeal.nD Cert.Conv86RefIdeal.τ).loc Cert.Conv86RefIdeal.main_arg0)
          ∧ r.2.mem ((c.tc : Thread Cert.Conv86RefIdeal.nD Cert.Conv86RefIdeal.τ).loc Cert.Conv86RefIdeal.main_arg1) = m' ((c.tc : Thread Cert.Conv86RefIdeal.nD Cert.Conv86RefIdeal.τ).loc Cert.Conv86RefIdeal.main_arg1))

def preserves_Apply_ApplyIdeal : Prop :=
  True

def algebraic_ApplyIdeal_ApplyRefIdeal [hApplyIdeal : Cert.ApplyIdeal.Facts] [hApplyRefIdeal : Cert.ApplyRefIdeal.Facts] : Prop :=
  ∀ (m : (ℓ : Loc Cert.ApplyIdeal.nD Cert.ApplyIdeal.τ Cert.ApplyIdeal.sig) → Buf (Elt Ideal) ℓ) (g : Dev Cert.ApplyIdeal.nD → PrngReg)
    (m' : (ℓ : Loc Cert.ApplyRefIdeal.nD Cert.ApplyRefIdeal.τ Cert.ApplyRefIdeal.sig) → Buf (Elt Ideal) ℓ) (g' : Dev Cert.ApplyRefIdeal.nD → PrngReg), Pre_ApplyIdeal m →
    (∀ c : Dev Cert.ApplyIdeal.nD,
      m' ((c.tc : Thread Cert.ApplyRefIdeal.nD Cert.ApplyRefIdeal.τ).loc Cert.ApplyRefIdeal.main_arg0) = m ((c.tc : Thread Cert.ApplyIdeal.nD Cert.ApplyIdeal.τ).loc Cert.ApplyIdeal.main_arg0)
      ∧ m' ((c.tc : Thread Cert.ApplyRefIdeal.nD Cert.ApplyRefIdeal.τ).loc Cert.ApplyRefIdeal.main_arg1) = m ((c.tc : Thread Cert.ApplyIdeal.nD Cert.ApplyIdeal.τ).loc Cert.ApplyIdeal.main_arg1)
      ∧ m' ((c.tc : Thread Cert.ApplyRefIdeal.nD Cert.ApplyRefIdeal.τ).loc Cert.ApplyRefIdeal.main_arg2) = m ((c.tc : Thread Cert.ApplyIdeal.nD Cert.ApplyIdeal.τ).loc Cert.ApplyIdeal.main_arg2)) →
    ∃ (v0 : (c : Dev Cert.ApplyIdeal.nD) → Buf (Elt Ideal) ((c.tc : Thread Cert.ApplyIdeal.nD Cert.ApplyIdeal.τ).loc Cert.ApplyIdeal.main_v5)),
      θ_run (Cert.ApplyIdeal.defs (F := Ideal)) (onTc (τ := Cert.ApplyIdeal.τ) (Cert.ApplyIdeal.main (F := Ideal))) ⟨m, fun _ => 0, g⟩ (fun r => ∀ c : Dev Cert.ApplyIdeal.nD,
          r.2.mem ((c.tc : Thread Cert.ApplyIdeal.nD Cert.ApplyIdeal.τ).loc Cert.ApplyIdeal.main_v5) = v0 c
          ∧ r.2.mem ((c.tc : Thread Cert.ApplyIdeal.nD Cert.ApplyIdeal.τ).loc Cert.ApplyIdeal.main_arg0) = m ((c.tc : Thread Cert.ApplyIdeal.nD Cert.ApplyIdeal.τ).loc Cert.ApplyIdeal.main_arg0)
          ∧ r.2.mem ((c.tc : Thread Cert.ApplyIdeal.nD Cert.ApplyIdeal.τ).loc Cert.ApplyIdeal.main_arg1) = m ((c.tc : Thread Cert.ApplyIdeal.nD Cert.ApplyIdeal.τ).loc Cert.ApplyIdeal.main_arg1)
          ∧ r.2.mem ((c.tc : Thread Cert.ApplyIdeal.nD Cert.ApplyIdeal.τ).loc Cert.ApplyIdeal.main_arg2) = m ((c.tc : Thread Cert.ApplyIdeal.nD Cert.ApplyIdeal.τ).loc Cert.ApplyIdeal.main_arg2))
      ∧ θ_run (Cert.ApplyRefIdeal.defs (F := Ideal)) (onTc (τ := Cert.ApplyRefIdeal.τ) (Cert.ApplyRefIdeal.main (F := Ideal))) ⟨m', fun _ => 0, g'⟩ (fun r => ∀ c : Dev Cert.ApplyRefIdeal.nD,
          r.2.mem ((c.tc : Thread Cert.ApplyRefIdeal.nD Cert.ApplyRefIdeal.τ).loc Cert.ApplyRefIdeal.main_v14) = v0 c
          ∧ r.2.mem ((c.tc : Thread Cert.ApplyRefIdeal.nD Cert.ApplyRefIdeal.τ).loc Cert.ApplyRefIdeal.main_arg0) = m' ((c.tc : Thread Cert.ApplyRefIdeal.nD Cert.ApplyRefIdeal.τ).loc Cert.ApplyRefIdeal.main_arg0)
          ∧ r.2.mem ((c.tc : Thread Cert.ApplyRefIdeal.nD Cert.ApplyRefIdeal.τ).loc Cert.ApplyRefIdeal.main_arg1) = m' ((c.tc : Thread Cert.ApplyRefIdeal.nD Cert.ApplyRefIdeal.τ).loc Cert.ApplyRefIdeal.main_arg1)
          ∧ r.2.mem ((c.tc : Thread Cert.ApplyRefIdeal.nD Cert.ApplyRefIdeal.τ).loc Cert.ApplyRefIdeal.main_arg2) = m' ((c.tc : Thread Cert.ApplyRefIdeal.nD Cert.ApplyRefIdeal.τ).loc Cert.ApplyRefIdeal.main_arg2))

def preserves_Norm_NormIdeal : Prop :=
  True

def algebraic_NormIdeal_NormRefIdeal_pre_nonzero [hNormIdeal : Cert.NormIdeal.Facts] [hNormRefIdeal : Cert.NormRefIdeal.Facts] [hPre_nonzero : Cert.Pre_nonzero.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_nonzero m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v16) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2))

def preserves_Tail_TailIdeal : Prop :=
  True

def algebraic_TailIdeal_TailRefIdeal_pre_taildistinct [hTailIdeal : Cert.TailIdeal.Facts] [hTailRefIdeal : Cert.TailRefIdeal.Facts] [hPre_taildistinct : Cert.Pre_taildistinct.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal_taildistinct m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)) →
    ∃ (v0 : (c : Dev Cert.TailIdeal.nD) → Buf (Elt Ideal) ((c.tc : Thread Cert.TailIdeal.nD Cert.TailIdeal.τ).loc Cert.TailIdeal.main_v29)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v29) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v31) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0))

def preserves_Pool2_Pool2Ideal : Prop :=
  True

def algebraic_Pool2Ideal_Pool2RefIdeal [hPool2Ideal : Cert.Pool2Ideal.Facts] [hPool2RefIdeal : Cert.Pool2RefIdeal.Facts] : Prop :=
  ∀ (m : (ℓ : Loc Cert.Pool2Ideal.nD Cert.Pool2Ideal.τ Cert.Pool2Ideal.sig) → Buf (Elt Ideal) ℓ) (g : Dev Cert.Pool2Ideal.nD → PrngReg)
    (m' : (ℓ : Loc Cert.Pool2RefIdeal.nD Cert.Pool2RefIdeal.τ Cert.Pool2RefIdeal.sig) → Buf (Elt Ideal) ℓ) (g' : Dev Cert.Pool2RefIdeal.nD → PrngReg), Pre_Pool2Ideal m →
    (∀ c : Dev Cert.Pool2Ideal.nD,
      m' ((c.tc : Thread Cert.Pool2RefIdeal.nD Cert.Pool2RefIdeal.τ).loc Cert.Pool2RefIdeal.main_arg0) = m ((c.tc : Thread Cert.Pool2Ideal.nD Cert.Pool2Ideal.τ).loc Cert.Pool2Ideal.main_arg0)
      ∧ m' ((c.tc : Thread Cert.Pool2RefIdeal.nD Cert.Pool2RefIdeal.τ).loc Cert.Pool2RefIdeal.main_arg1) = m ((c.tc : Thread Cert.Pool2Ideal.nD Cert.Pool2Ideal.τ).loc Cert.Pool2Ideal.main_arg1)
      ∧ m' ((c.tc : Thread Cert.Pool2RefIdeal.nD Cert.Pool2RefIdeal.τ).loc Cert.Pool2RefIdeal.main_arg2) = m ((c.tc : Thread Cert.Pool2Ideal.nD Cert.Pool2Ideal.τ).loc Cert.Pool2Ideal.main_arg2)) →
    ∃ (v0 : (c : Dev Cert.Pool2Ideal.nD) → Buf (Elt Ideal) ((c.tc : Thread Cert.Pool2Ideal.nD Cert.Pool2Ideal.τ).loc Cert.Pool2Ideal.main_v2)),
      θ_run (Cert.Pool2Ideal.defs (F := Ideal)) (onTc (τ := Cert.Pool2Ideal.τ) (Cert.Pool2Ideal.main (F := Ideal))) ⟨m, fun _ => 0, g⟩ (fun r => ∀ c : Dev Cert.Pool2Ideal.nD,
          r.2.mem ((c.tc : Thread Cert.Pool2Ideal.nD Cert.Pool2Ideal.τ).loc Cert.Pool2Ideal.main_v2) = v0 c
          ∧ r.2.mem ((c.tc : Thread Cert.Pool2Ideal.nD Cert.Pool2Ideal.τ).loc Cert.Pool2Ideal.main_arg0) = m ((c.tc : Thread Cert.Pool2Ideal.nD Cert.Pool2Ideal.τ).loc Cert.Pool2Ideal.main_arg0)
          ∧ r.2.mem ((c.tc : Thread Cert.Pool2Ideal.nD Cert.Pool2Ideal.τ).loc Cert.Pool2Ideal.main_arg1) = m ((c.tc : Thread Cert.Pool2Ideal.nD Cert.Pool2Ideal.τ).loc Cert.Pool2Ideal.main_arg1)
          ∧ r.2.mem ((c.tc : Thread Cert.Pool2Ideal.nD Cert.Pool2Ideal.τ).loc Cert.Pool2Ideal.main_arg2) = m ((c.tc : Thread Cert.Pool2Ideal.nD Cert.Pool2Ideal.τ).loc Cert.Pool2Ideal.main_arg2))
      ∧ θ_run (Cert.Pool2RefIdeal.defs (F := Ideal)) (onTc (τ := Cert.Pool2RefIdeal.τ) (Cert.Pool2RefIdeal.main (F := Ideal))) ⟨m', fun _ => 0, g'⟩ (fun r => ∀ c : Dev Cert.Pool2RefIdeal.nD,
          r.2.mem ((c.tc : Thread Cert.Pool2RefIdeal.nD Cert.Pool2RefIdeal.τ).loc Cert.Pool2RefIdeal.main_v16) = v0 c
          ∧ r.2.mem ((c.tc : Thread Cert.Pool2RefIdeal.nD Cert.Pool2RefIdeal.τ).loc Cert.Pool2RefIdeal.main_arg0) = m' ((c.tc : Thread Cert.Pool2RefIdeal.nD Cert.Pool2RefIdeal.τ).loc Cert.Pool2RefIdeal.main_arg0)
          ∧ r.2.mem ((c.tc : Thread Cert.Pool2RefIdeal.nD Cert.Pool2RefIdeal.τ).loc Cert.Pool2RefIdeal.main_arg1) = m' ((c.tc : Thread Cert.Pool2RefIdeal.nD Cert.Pool2RefIdeal.τ).loc Cert.Pool2RefIdeal.main_arg1)
          ∧ r.2.mem ((c.tc : Thread Cert.Pool2RefIdeal.nD Cert.Pool2RefIdeal.τ).loc Cert.Pool2RefIdeal.main_arg2) = m' ((c.tc : Thread Cert.Pool2RefIdeal.nD Cert.Pool2RefIdeal.τ).loc Cert.Pool2RefIdeal.main_arg2))

def Claim : Prop :=
  ∃ (hPool1 : Cert.Pool1.Facts) (hPool1Ideal : Cert.Pool1Ideal.Facts) (hPool1RefIdeal : Cert.Pool1RefIdeal.Facts) (hFinal : Cert.Final.Facts) (hFinalIdeal : Cert.FinalIdeal.Facts) (hFinalRefIdeal : Cert.FinalRefIdeal.Facts) (hSim : Cert.Sim.Facts) (hSimIdeal : Cert.SimIdeal.Facts) (hSimRefIdeal : Cert.SimRefIdeal.Facts) (hConv44 : Cert.Conv44.Facts) (hConv44Ideal : Cert.Conv44Ideal.Facts) (hConv44RefIdeal : Cert.Conv44RefIdeal.Facts) (hConv23 : Cert.Conv23.Facts) (hConv23Ideal : Cert.Conv23Ideal.Facts) (hConv23RefIdeal : Cert.Conv23RefIdeal.Facts) (hConv86 : Cert.Conv86.Facts) (hConv86Ideal : Cert.Conv86Ideal.Facts) (hConv86RefIdeal : Cert.Conv86RefIdeal.Facts) (hApply : Cert.Apply.Facts) (hApplyIdeal : Cert.ApplyIdeal.Facts) (hApplyRefIdeal : Cert.ApplyRefIdeal.Facts) (hNorm : Cert.Norm.Facts) (hNormIdeal : Cert.NormIdeal.Facts) (hNormRefIdeal : Cert.NormRefIdeal.Facts) (hTail : Cert.Tail.Facts) (hTailIdeal : Cert.TailIdeal.Facts) (hTailRefIdeal : Cert.TailRefIdeal.Facts) (hPool2 : Cert.Pool2.Facts) (hPool2Ideal : Cert.Pool2Ideal.Facts) (hPool2RefIdeal : Cert.Pool2RefIdeal.Facts) (hPre_distinct : Cert.Pre_distinct.Facts) (hPre_simdistinct : Cert.Pre_simdistinct.Facts) (hPre_nonzero : Cert.Pre_nonzero.Facts) (hPre_taildistinct : Cert.Pre_taildistinct.Facts),
    quiescent_Pool1 (hPool1 := hPool1)
    ∧ quiescent_Pool1Ideal (hPool1Ideal := hPool1Ideal)
    ∧ quiescent_Pool1RefIdeal (hPool1RefIdeal := hPool1RefIdeal)
    ∧ quiescent_Final (hFinal := hFinal)
    ∧ quiescent_FinalIdeal (hFinalIdeal := hFinalIdeal)
    ∧ quiescent_FinalIdeal_pre_distinct (hFinalIdeal := hFinalIdeal) (hPre_distinct := hPre_distinct)
    ∧ quiescent_FinalRefIdeal (hFinalRefIdeal := hFinalRefIdeal)
    ∧ quiescent_FinalRefIdeal_pre_distinct (hFinalRefIdeal := hFinalRefIdeal) (hPre_distinct := hPre_distinct)
    ∧ quiescent_Sim (hSim := hSim)
    ∧ quiescent_SimIdeal (hSimIdeal := hSimIdeal)
    ∧ quiescent_SimIdeal_pre_simdistinct (hSimIdeal := hSimIdeal) (hPre_simdistinct := hPre_simdistinct)
    ∧ quiescent_SimRefIdeal (hSimRefIdeal := hSimRefIdeal)
    ∧ quiescent_SimRefIdeal_pre_simdistinct (hSimRefIdeal := hSimRefIdeal) (hPre_simdistinct := hPre_simdistinct)
    ∧ quiescent_Conv44 (hConv44 := hConv44)
    ∧ quiescent_Conv44Ideal (hConv44Ideal := hConv44Ideal)
    ∧ quiescent_Conv44RefIdeal (hConv44RefIdeal := hConv44RefIdeal)
    ∧ quiescent_Conv23 (hConv23 := hConv23)
    ∧ quiescent_Conv23Ideal (hConv23Ideal := hConv23Ideal)
    ∧ quiescent_Conv23RefIdeal (hConv23RefIdeal := hConv23RefIdeal)
    ∧ quiescent_Conv86 (hConv86 := hConv86)
    ∧ quiescent_Conv86Ideal (hConv86Ideal := hConv86Ideal)
    ∧ quiescent_Conv86RefIdeal (hConv86RefIdeal := hConv86RefIdeal)
    ∧ quiescent_Apply (hApply := hApply)
    ∧ quiescent_ApplyIdeal (hApplyIdeal := hApplyIdeal)
    ∧ quiescent_ApplyRefIdeal (hApplyRefIdeal := hApplyRefIdeal)
    ∧ quiescent_Norm (hNorm := hNorm)
    ∧ quiescent_NormIdeal (hNormIdeal := hNormIdeal)
    ∧ quiescent_NormIdeal_pre_nonzero (hNormIdeal := hNormIdeal) (hPre_nonzero := hPre_nonzero)
    ∧ quiescent_NormRefIdeal (hNormRefIdeal := hNormRefIdeal)
    ∧ quiescent_NormRefIdeal_pre_nonzero (hNormRefIdeal := hNormRefIdeal) (hPre_nonzero := hPre_nonzero)
    ∧ quiescent_Tail (hTail := hTail)
    ∧ quiescent_TailIdeal (hTailIdeal := hTailIdeal)
    ∧ quiescent_TailIdeal_pre_taildistinct (hTailIdeal := hTailIdeal) (hPre_taildistinct := hPre_taildistinct)
    ∧ quiescent_TailRefIdeal (hTailRefIdeal := hTailRefIdeal)
    ∧ quiescent_TailRefIdeal_pre_taildistinct (hTailRefIdeal := hTailRefIdeal) (hPre_taildistinct := hPre_taildistinct)
    ∧ quiescent_Pool2 (hPool2 := hPool2)
    ∧ quiescent_Pool2Ideal (hPool2Ideal := hPool2Ideal)
    ∧ quiescent_Pool2RefIdeal (hPool2RefIdeal := hPool2RefIdeal)
    ∧ preserves_Pool1_Pool1Ideal
    ∧ algebraic_Pool1Ideal_Pool1RefIdeal (hPool1Ideal := hPool1Ideal) (hPool1RefIdeal := hPool1RefIdeal)
    ∧ preserves_Final_FinalIdeal
    ∧ algebraic_FinalIdeal_FinalRefIdeal_pre_distinct (hFinalIdeal := hFinalIdeal) (hFinalRefIdeal := hFinalRefIdeal) (hPre_distinct := hPre_distinct)
    ∧ preserves_Sim_SimIdeal
    ∧ algebraic_SimIdeal_SimRefIdeal_pre_simdistinct (hSimIdeal := hSimIdeal) (hSimRefIdeal := hSimRefIdeal) (hPre_simdistinct := hPre_simdistinct)
    ∧ preserves_Conv44_Conv44Ideal
    ∧ algebraic_Conv44Ideal_Conv44RefIdeal (hConv44Ideal := hConv44Ideal) (hConv44RefIdeal := hConv44RefIdeal)
    ∧ preserves_Conv23_Conv23Ideal
    ∧ algebraic_Conv23Ideal_Conv23RefIdeal (hConv23Ideal := hConv23Ideal) (hConv23RefIdeal := hConv23RefIdeal)
    ∧ preserves_Conv86_Conv86Ideal
    ∧ algebraic_Conv86Ideal_Conv86RefIdeal (hConv86Ideal := hConv86Ideal) (hConv86RefIdeal := hConv86RefIdeal)
    ∧ preserves_Apply_ApplyIdeal
    ∧ algebraic_ApplyIdeal_ApplyRefIdeal (hApplyIdeal := hApplyIdeal) (hApplyRefIdeal := hApplyRefIdeal)
    ∧ preserves_Norm_NormIdeal
    ∧ algebraic_NormIdeal_NormRefIdeal_pre_nonzero (hNormIdeal := hNormIdeal) (hNormRefIdeal := hNormRefIdeal) (hPre_nonzero := hPre_nonzero)
    ∧ preserves_Tail_TailIdeal
    ∧ algebraic_TailIdeal_TailRefIdeal_pre_taildistinct (hTailIdeal := hTailIdeal) (hTailRefIdeal := hTailRefIdeal) (hPre_taildistinct := hPre_taildistinct)
    ∧ preserves_Pool2_Pool2Ideal
    ∧ algebraic_Pool2Ideal_Pool2RefIdeal (hPool2Ideal := hPool2Ideal) (hPool2RefIdeal := hPool2RefIdeal)
-- ==== Pre_distinct.lean ====
abbrev S25x441x64 : Shape := ⟨3, ![25, 441, 64]⟩
abbrev S5x2205x64 : Shape := ⟨3, ![5, 2205, 64]⟩
abbrev S15x441x64 : Shape := ⟨3, ![15, 441, 64]⟩
abbrev S5x15 : Shape := ⟨2, ![5, 15]⟩
abbrev S5x2205x25x441 : Shape := ⟨4, ![5, 2205, 25, 441]⟩
abbrev S25x5x441x2205 : Shape := ⟨4, ![25, 5, 441, 2205]⟩
abbrev S25x441x15x441 : Shape := ⟨4, ![25, 441, 15, 441]⟩
abbrev S1x5x1x15x1 : Shape := ⟨5, ![1, 5, 1, 15, 1]⟩
abbrev S_ : Shape := ⟨0, ![]⟩
abbrev S25x1x441x15x441 : Shape := ⟨5, ![25, 1, 441, 15, 441]⟩
abbrev S25x5x441x15x441 : Shape := ⟨5, ![25, 5, 441, 15, 441]⟩
abbrev S25x5x441x6615 : Shape := ⟨4, ![25, 5, 441, 6615]⟩
abbrev S25x5x441x8820 : Shape := ⟨4, ![25, 5, 441, 8820]⟩
abbrev S25x5x441x3 : Shape := ⟨4, ![25, 5, 441, 3]⟩
abbrev S25x5x441x1 : Shape := ⟨4, ![25, 5, 441, 1]⟩
abbrev S25x5x441 : Shape := ⟨3, ![25, 5, 441]⟩

class Facts : Prop where
  transposes_S5x2205x25x441_S25x5x441x2205_2_0_3_1 : S5x2205x25x441.Transposes [2, 0, 3, 1] S25x5x441x2205
  bcast_S5x15_S1x5x1x15x1_1_3 : S5x15.BroadcastsInDim S1x5x1x15x1 (![1, 3] : Fin 2 → Fin S1x5x1x15x1.rank)
  bcast_S_S1x5x1x15x1 : S_.BroadcastsInDim S1x5x1x15x1 (![] : Fin 0 → Fin S1x5x1x15x1.rank)
  bcast_S25x441x15x441_S25x1x441x15x441_0_2_3_4 : S25x441x15x441.BroadcastsInDim S25x1x441x15x441 (![0, 2, 3, 4] : Fin 4 → Fin S25x1x441x15x441.rank)
  bcast_S1x5x1x15x1_S25x5x441x15x441_0_1_2_3_4 : S1x5x1x15x1.BroadcastsInDim S25x5x441x15x441 (![0, 1, 2, 3, 4] : Fin 5 → Fin S25x5x441x15x441.rank)
  bcast_S25x1x441x15x441_S25x5x441x15x441_0_1_2_3_4 : S25x1x441x15x441.BroadcastsInDim S25x5x441x15x441 (![0, 1, 2, 3, 4] : Fin 5 → Fin S25x5x441x15x441.rank)
  bcast_S_S25x5x441x15x441 : S_.BroadcastsInDim S25x5x441x15x441 (![] : Fin 0 → Fin S25x5x441x15x441.rank)
  shapeCasts_S25x5x441x15x441_S25x5x441x6615 : S25x5x441x15x441.ShapeCasts S25x5x441x6615
  concatenates_S25x5x441x2205_S25x5x441x6615_S25x5x441x8820_d3 : Shape.Concatenates [S25x5x441x2205, S25x5x441x6615] S25x5x441x8820 3
  sliceFits_S25x5x441x8820_S25x5x441x3 : S25x5x441x8820.Slices (fun _ => 0) S25x5x441x3
  bcast_S_S25x5x441x2205 : S_.BroadcastsInDim S25x5x441x2205 (![] : Fin 0 → Fin S25x5x441x2205.rank)
  reducesTo_S25x5x441x2205_S_d0_1_2_3 : S25x5x441x2205.ReducesTo [0, 1, 2, 3] S_
  h_S_ : 0 < S_.numel
  bcast_S_S25x441x15x441 : S_.BroadcastsInDim S25x441x15x441 (![] : Fin 0 → Fin S25x441x15x441.rank)
  reducesTo_S25x441x15x441_S_d0_1_2_3 : S25x441x15x441.ReducesTo [0, 1, 2, 3] S_
  bcast_S_S5x15 : S_.BroadcastsInDim S5x15 (![] : Fin 0 → Fin S5x15.rank)
  reducesTo_S5x15_S_d0_1 : S5x15.ReducesTo [0, 1] S_
  slices_S25x5x441x3_S25x5x441x1_0_0_0_0 : S25x5x441x3.Slices ![0, 0, 0, 0] S25x5x441x1
  shapeCasts_S25x5x441x1_S25x5x441 : S25x5x441x1.ShapeCasts S25x5x441
  slices_S25x5x441x3_S25x5x441x1_0_0_0_1 : S25x5x441x3.Slices ![0, 0, 0, 1] S25x5x441x1
  reducesTo_S25x5x441_S_d0_1_2 : S25x5x441.ReducesTo [0, 1, 2] S_
  slices_S25x5x441x3_S25x5x441x1_0_0_0_2 : S25x5x441x3.Slices ![0, 0, 0, 2] S25x5x441x1
  dot_S5x2205x64_S25x441x64_S5x2205x25x441_2_2_01_01_n_n_wf : DotDims.WF S5x2205x64 S25x441x64 S5x2205x25x441 [2] [2] [0, 1] [0, 1] [] []
  dot_S25x441x64_S15x441x64_S25x441x15x441_2_2_01_01_n_n_wf : DotDims.WF S25x441x64 S15x441x64 S25x441x15x441 [2] [2] [0, 1] [0, 1] [] []

variable [Facts]

def dot_S5x2205x64_S25x441x64_S5x2205x25x441_2_2_01_01_n_n : DotDims S5x2205x64 S25x441x64 S5x2205x25x441 where
  lhsContracting := [2]
  rhsContracting := [2]
  lhsNonContracting := [0, 1]
  rhsNonContracting := [0, 1]
  lhsBatch := []
  rhsBatch := []
  wf := dot_S5x2205x64_S25x441x64_S5x2205x25x441_2_2_01_01_n_n_wf
def dot_S25x441x64_S15x441x64_S25x441x15x441_2_2_01_01_n_n : DotDims S25x441x64 S15x441x64 S25x441x15x441 where
  lhsContracting := [2]
  rhsContracting := [2]
  lhsNonContracting := [0, 1]
  rhsNonContracting := [0, 1]
  lhsBatch := []
  rhsBatch := []
  wf := dot_S25x441x64_S15x441x64_S25x441x15x441_2_2_01_01_n_n_wf
def fn_where {F : FTy → Type} [FloatOps F] (arg0 : IVec S1x5x1x15x1 1) (arg1 : FVec F S25x1x441x15x441 .f32) (arg2 : FVec F S_ .f32) : FVec F S25x5x441x15x441 .f32 :=
  let v0 : FVec F S_ .f32 := id arg2
  let v1 : IVec S25x5x441x15x441 1 := broadcastInDim S25x5x441x15x441 ![0, 1, 2, 3, 4] bcast_S1x5x1x15x1_S25x5x441x15x441_0_1_2_3_4 arg0
  let v2 : FVec F S25x5x441x15x441 .f32 := broadcastInDim S25x5x441x15x441 ![0, 1, 2, 3, 4] bcast_S25x1x441x15x441_S25x5x441x15x441_0_1_2_3_4 arg1
  let v3 : FVec F S25x5x441x15x441 .f32 := broadcastInDim S25x5x441x15x441 ![] bcast_S_S25x5x441x15x441 v0
  let v4 : FVec F S25x5x441x15x441 .f32 := select v1 v2 v3
  v4

def fn_part2 {F : FTy → Type} [FloatOps F] (main_values : FVec F S25x5x441x3 .f32) (main_v32 : IVec S_ 1) (main_v34 : FVec F S25x5x441 .f32) : IVec S_ 1 :=
  let main_v35 : FVec F S25x5x441x1 .f32 := (extractStridedSlice S25x5x441x1 ![0, 0, 0, 1] · slices_S25x5x441x3_S25x5x441x1_0_0_0_1) main_values
  let main_v36 : FVec F S25x5x441 .f32 := shapeCast S25x5x441 main_v35 shapeCasts_S25x5x441x1_S25x5x441
  let main_v37 : IVec S25x5x441 1 := cmpf .ogt main_v34 main_v36
  let main_c_9 : IVec S_ 1 := constantI S_ 1 1#1
  let main_v38 : IVec S_ 1 := (fun x v => Host.reduce IntOp.andi x v reducesTo_S25x5x441_S_d0_1_2 h_S_) main_v37 main_c_9
  let main_v39 : IVec S_ 1 := andi main_v32 main_v38
  let main_v40 : FVec F S25x5x441x1 .f32 := (extractStridedSlice S25x5x441x1 ![0, 0, 0, 1] · slices_S25x5x441x3_S25x5x441x1_0_0_0_1) main_values
  let main_v41 : FVec F S25x5x441 .f32 := shapeCast S25x5x441 main_v40 shapeCasts_S25x5x441x1_S25x5x441
  let main_v42 : FVec F S25x5x441x1 .f32 := (extractStridedSlice S25x5x441x1 ![0, 0, 0, 2] · slices_S25x5x441x3_S25x5x441x1_0_0_0_2) main_values
  let main_v43 : FVec F S25x5x441 .f32 := shapeCast S25x5x441 main_v42 shapeCasts_S25x5x441x1_S25x5x441
  let main_v44 : IVec S25x5x441 1 := cmpf .ogt main_v41 main_v43
  let main_c_10 : IVec S_ 1 := constantI S_ 1 1#1
  let main_v45 : IVec S_ 1 := (fun x v => Host.reduce IntOp.andi x v reducesTo_S25x5x441_S_d0_1_2 h_S_) main_v44 main_c_10
  let main_v46 : IVec S_ 1 := andi main_v39 main_v45
  main_v46

def fn_part1 {F : FTy → Type} [FloatOps F] (main_arg3 : FVec F S5x15 .f32) (main_v2 : FVec F S25x441x15x441 .f32) (main_values : FVec F S25x5x441x3 .f32) (main_v17 : IVec S25x5x441x2205 1) : IVec S_ 1 :=
  let main_c : IVec S_ 1 := constantI S_ 1 1#1
  let main_v18 : IVec S_ 1 := (fun x v => Host.reduce IntOp.andi x v reducesTo_S25x5x441x2205_S_d0_1_2_3 h_S_) main_v17 main_c
  let main_cst_3 : FVec F S_ .f32 := constant S_ .f32 0xBF800000#32
  let main_v19 : FVec F S25x441x15x441 .f32 := broadcastInDim S25x441x15x441 ![] bcast_S_S25x441x15x441 main_cst_3
  let main_v20 : IVec S25x441x15x441 1 := cmpf .oge main_v2 main_v19
  let main_cst_4 : FVec F S_ .f32 := constant S_ .f32 0x3F800000#32
  let main_v21 : FVec F S25x441x15x441 .f32 := broadcastInDim S25x441x15x441 ![] bcast_S_S25x441x15x441 main_cst_4
  let main_v22 : IVec S25x441x15x441 1 := cmpf .ole main_v2 main_v21
  let main_v23 : IVec S25x441x15x441 1 := andi main_v20 main_v22
  let main_c_5 : IVec S_ 1 := constantI S_ 1 1#1
  let main_v24 : IVec S_ 1 := (fun x v => Host.reduce IntOp.andi x v reducesTo_S25x441x15x441_S_d0_1_2_3 h_S_) main_v23 main_c_5
  let main_v25 : IVec S_ 1 := andi main_v18 main_v24
  let main_cst_6 : FVec F S_ .f32 := constant S_ .f32 0x00000000#32
  let main_v26 : FVec F S5x15 .f32 := broadcastInDim S5x15 ![] bcast_S_S5x15 main_cst_6
  let main_v27 : IVec S5x15 1 := cmpf .oeq main_arg3 main_v26
  let main_cst_7 : FVec F S_ .f32 := constant S_ .f32 0x3F800000#32
  let main_v28 : FVec F S5x15 .f32 := broadcastInDim S5x15 ![] bcast_S_S5x15 main_cst_7
  let main_v29 : IVec S5x15 1 := cmpf .oeq main_arg3 main_v28
  let main_v30 : IVec S5x15 1 := ori main_v27 main_v29
  let main_c_8 : IVec S_ 1 := constantI S_ 1 1#1
  let main_v31 : IVec S_ 1 := (fun x v => Host.reduce IntOp.andi x v reducesTo_S5x15_S_d0_1 h_S_) main_v30 main_c_8
  let main_v32 : IVec S_ 1 := andi main_v25 main_v31
  let main_v33 : FVec F S25x5x441x1 .f32 := (extractStridedSlice S25x5x441x1 ![0, 0, 0, 0] · slices_S25x5x441x3_S25x5x441x1_0_0_0_0) main_values
  let main_v34 : FVec F S25x5x441 .f32 := shapeCast S25x5x441 main_v33 shapeCasts_S25x5x441x1_S25x5x441
  fn_part2 (F := F) main_values main_v32 main_v34

def fn {F : FTy → Type} [FloatOps F] (main_arg0 : FVec F S25x441x64 .f32) (main_arg1 : FVec F S5x2205x64 .f32) (main_arg2 : FVec F S15x441x64 .f32) (main_arg3 : FVec F S5x15 .f32) : IVec S_ 1 :=
  let main_v0 : FVec F S5x2205x25x441 .f32 := (fun l r => Host.dotGeneral dot_S5x2205x64_S25x441x64_S5x2205x25x441_2_2_01_01_n_n none l r) main_arg1 main_arg0
  let main_v1 : FVec F S25x5x441x2205 .f32 := (transpose S25x5x441x2205 [2, 0, 3, 1] · transposes_S5x2205x25x441_S25x5x441x2205_2_0_3_1) main_v0
  let main_v2 : FVec F S25x441x15x441 .f32 := (fun l r => Host.dotGeneral dot_S25x441x64_S15x441x64_S25x441x15x441_2_2_01_01_n_n none l r) main_arg0 main_arg2
  let main_v3 : FVec F S5x2205x25x441 .f32 := (fun l r => Host.dotGeneral dot_S5x2205x64_S25x441x64_S5x2205x25x441_2_2_01_01_n_n none l r) main_arg1 main_arg0
  let main_v4 : FVec F S25x5x441x2205 .f32 := (transpose S25x5x441x2205 [2, 0, 3, 1] · transposes_S5x2205x25x441_S25x5x441x2205_2_0_3_1) main_v3
  let main_v5 : FVec F S25x441x15x441 .f32 := (fun l r => Host.dotGeneral dot_S25x441x64_S15x441x64_S25x441x15x441_2_2_01_01_n_n none l r) main_arg0 main_arg2
  let main_v6 : FVec F S1x5x1x15x1 .f32 := broadcastInDim S1x5x1x15x1 ![1, 3] bcast_S5x15_S1x5x1x15x1_1_3 main_arg3
  let main_cst : FVec F S_ .f32 := constant S_ .f32 0x3F000000#32
  let main_v7 : FVec F S1x5x1x15x1 .f32 := broadcastInDim S1x5x1x15x1 ![] bcast_S_S1x5x1x15x1 main_cst
  let main_v8 : IVec S1x5x1x15x1 1 := cmpf .ogt main_v6 main_v7
  let main_v9 : FVec F S25x1x441x15x441 .f32 := broadcastInDim S25x1x441x15x441 ![0, 2, 3, 4] bcast_S25x441x15x441_S25x1x441x15x441_0_2_3_4 main_v5
  let main_cst_0 : FVec F S_ .f32 := constant S_ .f32 0xFF800000#32
  let main_v10 : FVec F S25x5x441x15x441 .f32 := fn_where (F := F) main_v8 main_v9 main_cst_0
  let main_v11 : FVec F S25x5x441x6615 .f32 := shapeCast S25x5x441x6615 main_v10 shapeCasts_S25x5x441x15x441_S25x5x441x6615
  let main_v12 : FVec F S25x5x441x8820 .f32 := (fun a b => concatenate S25x5x441x8820 3 [⟨S25x5x441x2205, a⟩, ⟨S25x5x441x6615, b⟩] concatenates_S25x5x441x2205_S25x5x441x6615_S25x5x441x8820_d3) main_v4 main_v11
  let main_values : FVec F S25x5x441x3 .f32 := (fun x => (Host.topK S25x5x441x3 3 (FloatOps.cmpfTotal .gt) x sliceFits_S25x5x441x8820_S25x5x441x3).1) main_v12
  let main_indices : IVec S25x5x441x3 32 := (fun x => (Host.topK S25x5x441x3 3 (FloatOps.cmpfTotal .gt) x sliceFits_S25x5x441x8820_S25x5x441x3).2) main_v12
  let main_cst_1 : FVec F S_ .f32 := constant S_ .f32 0xBF800000#32
  let main_v13 : FVec F S25x5x441x2205 .f32 := broadcastInDim S25x5x441x2205 ![] bcast_S_S25x5x441x2205 main_cst_1
  let main_v14 : IVec S25x5x441x2205 1 := cmpf .oge main_v1 main_v13
  let main_cst_2 : FVec F S_ .f32 := constant S_ .f32 0x3F800000#32
  let main_v15 : FVec F S25x5x441x2205 .f32 := broadcastInDim S25x5x441x2205 ![] bcast_S_S25x5x441x2205 main_cst_2
  let main_v16 : IVec S25x5x441x2205 1 := cmpf .ole main_v1 main_v15
  let main_v17 : IVec S25x5x441x2205 1 := andi main_v14 main_v16
  fn_part1 (F := F) main_arg3 main_v2 main_values main_v17
-- ==== Pre_nonzero.lean ====
abbrev S65x529x64 : Shape := ⟨3, ![65, 529, 64]⟩
abbrev S65x64 : Shape := ⟨2, ![65, 64]⟩
abbrev S65x23x23x64 : Shape := ⟨4, ![65, 23, 23, 64]⟩
abbrev S65x21x21x64 : Shape := ⟨4, ![65, 21, 21, 64]⟩
abbrev S65x1x1x64 : Shape := ⟨4, ![65, 1, 1, 64]⟩
abbrev S_ : Shape := ⟨0, ![]⟩
abbrev S65x441x64 : Shape := ⟨3, ![65, 441, 64]⟩
abbrev S65x441 : Shape := ⟨2, ![65, 441]⟩

class Facts : Prop where
  shapeCasts_S65x529x64_S65x23x23x64 : S65x529x64.ShapeCasts S65x23x23x64
  slices_S65x23x23x64_S65x21x21x64_0_1_1_0 : S65x23x23x64.Slices ![0, 1, 1, 0] S65x21x21x64
  bcast_S65x64_S65x1x1x64_0_3 : S65x64.BroadcastsInDim S65x1x1x64 (![0, 3] : Fin 2 → Fin S65x1x1x64.rank)
  bcast_S65x1x1x64_S65x21x21x64_0_1_2_3 : S65x1x1x64.BroadcastsInDim S65x21x21x64 (![0, 1, 2, 3] : Fin 4 → Fin S65x21x21x64.rank)
  bcast_S_S65x21x21x64 : S_.BroadcastsInDim S65x21x21x64 (![] : Fin 0 → Fin S65x21x21x64.rank)
  shapeCasts_S65x21x21x64_S65x441x64 : S65x21x21x64.ShapeCasts S65x441x64
  reducesTo_S65x441x64_S65x441_d2 : S65x441x64.ReducesTo [2] S65x441
  h_S_ : 0 < S_.numel
  bcast_S_S65x441 : S_.BroadcastsInDim S65x441 (![] : Fin 0 → Fin S65x441.rank)
  reducesTo_S65x441_S_d0_1 : S65x441.ReducesTo [0, 1] S_

variable [Facts]

def fn_where {F : FTy → Type} [FloatOps F] (arg0 : IVec S65x21x21x64 1) (arg1 : FVec F S65x21x21x64 .f32) (arg2 : FVec F S65x21x21x64 .f32) : FVec F S65x21x21x64 .f32 :=
  let v0 : FVec F S65x21x21x64 .f32 := select arg0 arg1 arg2
  v0

def fn {F : FTy → Type} [FloatOps F] (main_arg0 : FVec F S65x529x64 .f32) (main_arg1 : FVec F S65x64 .f32) (main_arg2 : FVec F S65x64 .f32) : IVec S_ 1 :=
  let main_v0 : FVec F S65x23x23x64 .f32 := shapeCast S65x23x23x64 main_arg0 shapeCasts_S65x529x64_S65x23x23x64
  let main_v1 : FVec F S65x21x21x64 .f32 := (extractStridedSlice S65x21x21x64 ![0, 1, 1, 0] · slices_S65x23x23x64_S65x21x21x64_0_1_1_0) main_v0
  let main_v2 : FVec F S65x1x1x64 .f32 := broadcastInDim S65x1x1x64 ![0, 3] bcast_S65x64_S65x1x1x64_0_3 main_arg1
  let main_v3 : FVec F S65x21x21x64 .f32 := broadcastInDim S65x21x21x64 ![0, 1, 2, 3] bcast_S65x1x1x64_S65x21x21x64_0_1_2_3 main_v2
  let main_v4 : FVec F S65x21x21x64 .f32 := mulf main_v1 main_v3
  let main_v5 : FVec F S65x1x1x64 .f32 := broadcastInDim S65x1x1x64 ![0, 3] bcast_S65x64_S65x1x1x64_0_3 main_arg2
  let main_v6 : FVec F S65x21x21x64 .f32 := broadcastInDim S65x21x21x64 ![0, 1, 2, 3] bcast_S65x1x1x64_S65x21x21x64_0_1_2_3 main_v5
  let main_v7 : FVec F S65x21x21x64 .f32 := addf main_v4 main_v6
  let main_cst : FVec F S_ .f32 := constant S_ .f32 0x00000000#32
  let main_v8 : FVec F S65x21x21x64 .f32 := broadcastInDim S65x21x21x64 ![] bcast_S_S65x21x21x64 main_cst
  let main_v9 : IVec S65x21x21x64 1 := cmpf .oge main_v7 main_v8
  let main_cst_0 : FVec F S_ .f32 := constant S_ .f32 0x3E4CCCCD#32
  let main_v10 : FVec F S65x21x21x64 .f32 := broadcastInDim S65x21x21x64 ![] bcast_S_S65x21x21x64 main_cst_0
  let main_v11 : FVec F S65x21x21x64 .f32 := mulf main_v10 main_v7
  let main_v12 : FVec F S65x21x21x64 .f32 := fn_where (F := F) main_v9 main_v7 main_v11
  let main_v13 : FVec F S65x441x64 .f32 := shapeCast S65x441x64 main_v12 shapeCasts_S65x21x21x64_S65x441x64
  let main_v14 : FVec F S65x441x64 .f32 := mulf main_v13 main_v13
  let main_cst_1 : FVec F S_ .f32 := constant S_ .f32 0x00000000#32
  let main_v15 : FVec F S65x441 .f32 := (fun x v => Host.reduceAdd x v reducesTo_S65x441x64_S65x441_d2 h_S_) main_v14 main_cst_1
  let main_cst_2 : FVec F S_ .f32 := constant S_ .f32 0x00000000#32
  let main_v16 : FVec F S65x441 .f32 := broadcastInDim S65x441 ![] bcast_S_S65x441 main_cst_2
  let main_v17 : IVec S65x441 1 := cmpf .ogt main_v15 main_v16
  let main_c : IVec S_ 1 := constantI S_ 1 1#1
  let main_v18 : IVec S_ 1 := (fun x v => Host.reduce IntOp.andi x v reducesTo_S65x441_S_d0_1 h_S_) main_v17 main_c
  main_v18
-- ==== Pre_simdistinct.lean ====
abbrev S15x441x64 : Shape := ⟨3, ![15, 441, 64]⟩
abbrev S5x2205x64 : Shape := ⟨3, ![5, 2205, 64]⟩
abbrev S5x2205x15x441 : Shape := ⟨4, ![5, 2205, 15, 441]⟩
abbrev S15x5x441x2205 : Shape := ⟨4, ![15, 5, 441, 2205]⟩
abbrev S15x5x441x3 : Shape := ⟨4, ![15, 5, 441, 3]⟩
abbrev S_ : Shape := ⟨0, ![]⟩
abbrev S15x5x441x1 : Shape := ⟨4, ![15, 5, 441, 1]⟩
abbrev S15x5x441 : Shape := ⟨3, ![15, 5, 441]⟩

class Facts : Prop where
  transposes_S5x2205x15x441_S15x5x441x2205_2_0_3_1 : S5x2205x15x441.Transposes [2, 0, 3, 1] S15x5x441x2205
  sliceFits_S15x5x441x2205_S15x5x441x3 : S15x5x441x2205.Slices (fun _ => 0) S15x5x441x3
  bcast_S_S15x5x441x2205 : S_.BroadcastsInDim S15x5x441x2205 (![] : Fin 0 → Fin S15x5x441x2205.rank)
  reducesTo_S15x5x441x2205_S_d0_1_2_3 : S15x5x441x2205.ReducesTo [0, 1, 2, 3] S_
  h_S_ : 0 < S_.numel
  slices_S15x5x441x3_S15x5x441x1_0_0_0_0 : S15x5x441x3.Slices ![0, 0, 0, 0] S15x5x441x1
  shapeCasts_S15x5x441x1_S15x5x441 : S15x5x441x1.ShapeCasts S15x5x441
  slices_S15x5x441x3_S15x5x441x1_0_0_0_1 : S15x5x441x3.Slices ![0, 0, 0, 1] S15x5x441x1
  reducesTo_S15x5x441_S_d0_1_2 : S15x5x441.ReducesTo [0, 1, 2] S_
  slices_S15x5x441x3_S15x5x441x1_0_0_0_2 : S15x5x441x3.Slices ![0, 0, 0, 2] S15x5x441x1
  dot_S5x2205x64_S15x441x64_S5x2205x15x441_2_2_01_01_n_n_wf : DotDims.WF S5x2205x64 S15x441x64 S5x2205x15x441 [2] [2] [0, 1] [0, 1] [] []

variable [Facts]

def dot_S5x2205x64_S15x441x64_S5x2205x15x441_2_2_01_01_n_n : DotDims S5x2205x64 S15x441x64 S5x2205x15x441 where
  lhsContracting := [2]
  rhsContracting := [2]
  lhsNonContracting := [0, 1]
  rhsNonContracting := [0, 1]
  lhsBatch := []
  rhsBatch := []
  wf := dot_S5x2205x64_S15x441x64_S5x2205x15x441_2_2_01_01_n_n_wf
def fn_part1 {F : FTy → Type} [FloatOps F] (main_v13 : IVec S_ 1) (main_v18 : IVec S15x5x441 1) : IVec S_ 1 :=
  let main_c_1 : IVec S_ 1 := constantI S_ 1 1#1
  let main_v19 : IVec S_ 1 := (fun x v => Host.reduce IntOp.andi x v reducesTo_S15x5x441_S_d0_1_2 h_S_) main_v18 main_c_1
  let main_v20 : IVec S_ 1 := andi main_v13 main_v19
  main_v20

def fn {F : FTy → Type} [FloatOps F] (main_arg0 : FVec F S15x441x64 .f32) (main_arg1 : FVec F S5x2205x64 .f32) : IVec S_ 1 :=
  let main_v0 : FVec F S5x2205x15x441 .f32 := (fun l r => Host.dotGeneral dot_S5x2205x64_S15x441x64_S5x2205x15x441_2_2_01_01_n_n none l r) main_arg1 main_arg0
  let main_v1 : FVec F S15x5x441x2205 .f32 := (transpose S15x5x441x2205 [2, 0, 3, 1] · transposes_S5x2205x15x441_S15x5x441x2205_2_0_3_1) main_v0
  let main_values : FVec F S15x5x441x3 .f32 := (fun x => (Host.topK S15x5x441x3 3 (FloatOps.cmpfTotal .gt) x sliceFits_S15x5x441x2205_S15x5x441x3).1) main_v1
  let main_indices : IVec S15x5x441x3 32 := (fun x => (Host.topK S15x5x441x3 3 (FloatOps.cmpfTotal .gt) x sliceFits_S15x5x441x2205_S15x5x441x3).2) main_v1
  let main_v2 : FVec F S5x2205x15x441 .f32 := (fun l r => Host.dotGeneral dot_S5x2205x64_S15x441x64_S5x2205x15x441_2_2_01_01_n_n none l r) main_arg1 main_arg0
  let main_v3 : FVec F S15x5x441x2205 .f32 := (transpose S15x5x441x2205 [2, 0, 3, 1] · transposes_S5x2205x15x441_S15x5x441x2205_2_0_3_1) main_v2
  let main_cst : FVec F S_ .f32 := constant S_ .f32 0xBF800000#32
  let main_v4 : FVec F S15x5x441x2205 .f32 := broadcastInDim S15x5x441x2205 ![] bcast_S_S15x5x441x2205 main_cst
  let main_v5 : IVec S15x5x441x2205 1 := cmpf .oge main_v3 main_v4
  let main_c : IVec S_ 1 := constantI S_ 1 1#1
  let main_v6 : IVec S_ 1 := (fun x v => Host.reduce IntOp.andi x v reducesTo_S15x5x441x2205_S_d0_1_2_3 h_S_) main_v5 main_c
  let main_v7 : FVec F S15x5x441x1 .f32 := (extractStridedSlice S15x5x441x1 ![0, 0, 0, 0] · slices_S15x5x441x3_S15x5x441x1_0_0_0_0) main_values
  let main_v8 : FVec F S15x5x441 .f32 := shapeCast S15x5x441 main_v7 shapeCasts_S15x5x441x1_S15x5x441
  let main_v9 : FVec F S15x5x441x1 .f32 := (extractStridedSlice S15x5x441x1 ![0, 0, 0, 1] · slices_S15x5x441x3_S15x5x441x1_0_0_0_1) main_values
  let main_v10 : FVec F S15x5x441 .f32 := shapeCast S15x5x441 main_v9 shapeCasts_S15x5x441x1_S15x5x441
  let main_v11 : IVec S15x5x441 1 := cmpf .ogt main_v8 main_v10
  let main_c_0 : IVec S_ 1 := constantI S_ 1 1#1
  let main_v12 : IVec S_ 1 := (fun x v => Host.reduce IntOp.andi x v reducesTo_S15x5x441_S_d0_1_2 h_S_) main_v11 main_c_0
  let main_v13 : IVec S_ 1 := andi main_v6 main_v12
  let main_v14 : FVec F S15x5x441x1 .f32 := (extractStridedSlice S15x5x441x1 ![0, 0, 0, 1] · slices_S15x5x441x3_S15x5x441x1_0_0_0_1) main_values
  let main_v15 : FVec F S15x5x441 .f32 := shapeCast S15x5x441 main_v14 shapeCasts_S15x5x441x1_S15x5x441
  let main_v16 : FVec F S15x5x441x1 .f32 := (extractStridedSlice S15x5x441x1 ![0, 0, 0, 2] · slices_S15x5x441x3_S15x5x441x1_0_0_0_2) main_values
  let main_v17 : FVec F S15x5x441 .f32 := shapeCast S15x5x441 main_v16 shapeCasts_S15x5x441x1_S15x5x441
  let main_v18 : IVec S15x5x441 1 := cmpf .ogt main_v15 main_v17
  fn_part1 (F := F) main_v13 main_v18
-- ==== Pre_taildistinct.lean ====
abbrev S65x441x64 : Shape := ⟨3, ![65, 441, 64]⟩
abbrev S25x441x64 : Shape := ⟨3, ![25, 441, 64]⟩
abbrev S5x2205x64 : Shape := ⟨3, ![5, 2205, 64]⟩
abbrev S15x441x64 : Shape := ⟨3, ![15, 441, 64]⟩
abbrev S5x2205x15x441 : Shape := ⟨4, ![5, 2205, 15, 441]⟩
abbrev S15x5x441x2205 : Shape := ⟨4, ![15, 5, 441, 2205]⟩
abbrev S15x5x441x3 : Shape := ⟨4, ![15, 5, 441, 3]⟩
abbrev S_ : Shape := ⟨0, ![]⟩
abbrev S15x5x441x1 : Shape := ⟨4, ![15, 5, 441, 1]⟩
abbrev S15x5x441 : Shape := ⟨3, ![15, 5, 441]⟩
abbrev S15x5 : Shape := ⟨2, ![15, 5]⟩
abbrev S15 : Shape := ⟨1, ![15]⟩
abbrev S15x1 : Shape := ⟨2, ![15, 1]⟩
abbrev S5x15 : Shape := ⟨2, ![5, 15]⟩
abbrev S5x10 : Shape := ⟨2, ![5, 10]⟩
abbrev S5x10x1 : Shape := ⟨3, ![5, 10, 1]⟩
abbrev S1x1x15 : Shape := ⟨3, ![1, 1, 15]⟩
abbrev S5x10x15 : Shape := ⟨3, ![5, 10, 15]⟩
abbrev S5x2205x25x441 : Shape := ⟨4, ![5, 2205, 25, 441]⟩
abbrev S25x5x441x2205 : Shape := ⟨4, ![25, 5, 441, 2205]⟩
abbrev S25x441x15x441 : Shape := ⟨4, ![25, 441, 15, 441]⟩
abbrev S1x5x1x15x1 : Shape := ⟨5, ![1, 5, 1, 15, 1]⟩
abbrev S25x1x441x15x441 : Shape := ⟨5, ![25, 1, 441, 15, 441]⟩
abbrev S25x5x441x15x441 : Shape := ⟨5, ![25, 5, 441, 15, 441]⟩
abbrev S25x5x441x6615 : Shape := ⟨4, ![25, 5, 441, 6615]⟩
abbrev S25x5x441x8820 : Shape := ⟨4, ![25, 5, 441, 8820]⟩
abbrev S25x5x441x3 : Shape := ⟨4, ![25, 5, 441, 3]⟩
abbrev S25x5x441x1 : Shape := ⟨4, ![25, 5, 441, 1]⟩
abbrev S25x5x441 : Shape := ⟨3, ![25, 5, 441]⟩

class Facts : Prop where
  slices_S65x441x64_S25x441x64_0_0_0 : S65x441x64.Slices ![0, 0, 0] S25x441x64
  slices_S65x441x64_S25x441x64_25_0_0 : S65x441x64.Slices ![25, 0, 0] S25x441x64
  shapeCasts_S25x441x64_S5x2205x64 : S25x441x64.ShapeCasts S5x2205x64
  slices_S65x441x64_S15x441x64_50_0_0 : S65x441x64.Slices ![50, 0, 0] S15x441x64
  transposes_S5x2205x15x441_S15x5x441x2205_2_0_3_1 : S5x2205x15x441.Transposes [2, 0, 3, 1] S15x5x441x2205
  sliceFits_S15x5x441x2205_S15x5x441x3 : S15x5x441x2205.Slices (fun _ => 0) S15x5x441x3
  bcast_S_S15x5x441x2205 : S_.BroadcastsInDim S15x5x441x2205 (![] : Fin 0 → Fin S15x5x441x2205.rank)
  reducesTo_S15x5x441x2205_S_d0_1_2_3 : S15x5x441x2205.ReducesTo [0, 1, 2, 3] S_
  h_S_ : 0 < S_.numel
  slices_S15x5x441x3_S15x5x441x1_0_0_0_0 : S15x5x441x3.Slices ![0, 0, 0, 0] S15x5x441x1
  shapeCasts_S15x5x441x1_S15x5x441 : S15x5x441x1.ShapeCasts S15x5x441
  slices_S15x5x441x3_S15x5x441x1_0_0_0_1 : S15x5x441x3.Slices ![0, 0, 0, 1] S15x5x441x1
  reducesTo_S15x5x441_S_d0_1_2 : S15x5x441.ReducesTo [0, 1, 2] S_
  slices_S15x5x441x3_S15x5x441x1_0_0_0_2 : S15x5x441x3.Slices ![0, 0, 0, 2] S15x5x441x1
  reducesTo_S15x5x441x3_S15x5_d2_3 : S15x5x441x3.ReducesTo [2, 3] S15x5
  reducesTo_S15x5_S15_d1 : S15x5.ReducesTo [1] S15
  bcast_S_S15 : S_.BroadcastsInDim S15 (![] : Fin 0 → Fin S15.rank)
  bcast_S15_S15x1_0 : S15.BroadcastsInDim S15x1 (![0] : Fin 1 → Fin S15x1.rank)
  bcast_S15x1_S15x5_0_1 : S15x1.BroadcastsInDim S15x5 (![0, 1] : Fin 2 → Fin S15x5.rank)
  transposes_S15x5_S5x15_1_0 : S15x5.Transposes [1, 0] S5x15
  sliceFits_S5x15_S5x10 : S5x15.Slices (fun _ => 0) S5x10
  bcast_S5x10_S5x10x1_0_1 : S5x10.BroadcastsInDim S5x10x1 (![0, 1] : Fin 2 → Fin S5x10x1.rank)
  bcast_S5x10x1_S5x10x15_0_1_2 : S5x10x1.BroadcastsInDim S5x10x15 (![0, 1, 2] : Fin 3 → Fin S5x10x15.rank)
  bcast_S1x1x15_S5x10x15_0_1_2 : S1x1x15.BroadcastsInDim S5x10x15 (![0, 1, 2] : Fin 3 → Fin S5x10x15.rank)
  reducesTo_S5x10x15_S5x15_d1 : S5x10x15.ReducesTo [1] S5x15
  transposes_S5x2205x25x441_S25x5x441x2205_2_0_3_1 : S5x2205x25x441.Transposes [2, 0, 3, 1] S25x5x441x2205
  bcast_S5x15_S1x5x1x15x1_1_3 : S5x15.BroadcastsInDim S1x5x1x15x1 (![1, 3] : Fin 2 → Fin S1x5x1x15x1.rank)
  bcast_S_S1x5x1x15x1 : S_.BroadcastsInDim S1x5x1x15x1 (![] : Fin 0 → Fin S1x5x1x15x1.rank)
  bcast_S25x441x15x441_S25x1x441x15x441_0_2_3_4 : S25x441x15x441.BroadcastsInDim S25x1x441x15x441 (![0, 2, 3, 4] : Fin 4 → Fin S25x1x441x15x441.rank)
  bcast_S1x5x1x15x1_S25x5x441x15x441_0_1_2_3_4 : S1x5x1x15x1.BroadcastsInDim S25x5x441x15x441 (![0, 1, 2, 3, 4] : Fin 5 → Fin S25x5x441x15x441.rank)
  bcast_S25x1x441x15x441_S25x5x441x15x441_0_1_2_3_4 : S25x1x441x15x441.BroadcastsInDim S25x5x441x15x441 (![0, 1, 2, 3, 4] : Fin 5 → Fin S25x5x441x15x441.rank)
  bcast_S_S25x5x441x15x441 : S_.BroadcastsInDim S25x5x441x15x441 (![] : Fin 0 → Fin S25x5x441x15x441.rank)
  shapeCasts_S25x5x441x15x441_S25x5x441x6615 : S25x5x441x15x441.ShapeCasts S25x5x441x6615
  concatenates_S25x5x441x2205_S25x5x441x6615_S25x5x441x8820_d3 : Shape.Concatenates [S25x5x441x2205, S25x5x441x6615] S25x5x441x8820 3
  sliceFits_S25x5x441x8820_S25x5x441x3 : S25x5x441x8820.Slices (fun _ => 0) S25x5x441x3
  bcast_S_S25x5x441x2205 : S_.BroadcastsInDim S25x5x441x2205 (![] : Fin 0 → Fin S25x5x441x2205.rank)
  reducesTo_S25x5x441x2205_S_d0_1_2_3 : S25x5x441x2205.ReducesTo [0, 1, 2, 3] S_
  bcast_S_S25x441x15x441 : S_.BroadcastsInDim S25x441x15x441 (![] : Fin 0 → Fin S25x441x15x441.rank)
  reducesTo_S25x441x15x441_S_d0_1_2_3 : S25x441x15x441.ReducesTo [0, 1, 2, 3] S_
  bcast_S_S5x15 : S_.BroadcastsInDim S5x15 (![] : Fin 0 → Fin S5x15.rank)
  reducesTo_S5x15_S_d0_1 : S5x15.ReducesTo [0, 1] S_
  slices_S25x5x441x3_S25x5x441x1_0_0_0_0 : S25x5x441x3.Slices ![0, 0, 0, 0] S25x5x441x1
  shapeCasts_S25x5x441x1_S25x5x441 : S25x5x441x1.ShapeCasts S25x5x441
  slices_S25x5x441x3_S25x5x441x1_0_0_0_1 : S25x5x441x3.Slices ![0, 0, 0, 1] S25x5x441x1
  reducesTo_S25x5x441_S_d0_1_2 : S25x5x441.ReducesTo [0, 1, 2] S_
  slices_S25x5x441x3_S25x5x441x1_0_0_0_2 : S25x5x441x3.Slices ![0, 0, 0, 2] S25x5x441x1
  dot_S5x2205x64_S15x441x64_S5x2205x15x441_2_2_01_01_n_n_wf : DotDims.WF S5x2205x64 S15x441x64 S5x2205x15x441 [2] [2] [0, 1] [0, 1] [] []
  dot_S5x2205x64_S25x441x64_S5x2205x25x441_2_2_01_01_n_n_wf : DotDims.WF S5x2205x64 S25x441x64 S5x2205x25x441 [2] [2] [0, 1] [0, 1] [] []
  dot_S25x441x64_S15x441x64_S25x441x15x441_2_2_01_01_n_n_wf : DotDims.WF S25x441x64 S15x441x64 S25x441x15x441 [2] [2] [0, 1] [0, 1] [] []

variable [Facts]

def dot_S5x2205x64_S15x441x64_S5x2205x15x441_2_2_01_01_n_n : DotDims S5x2205x64 S15x441x64 S5x2205x15x441 where
  lhsContracting := [2]
  rhsContracting := [2]
  lhsNonContracting := [0, 1]
  rhsNonContracting := [0, 1]
  lhsBatch := []
  rhsBatch := []
  wf := dot_S5x2205x64_S15x441x64_S5x2205x15x441_2_2_01_01_n_n_wf
def dot_S5x2205x64_S25x441x64_S5x2205x25x441_2_2_01_01_n_n : DotDims S5x2205x64 S25x441x64 S5x2205x25x441 where
  lhsContracting := [2]
  rhsContracting := [2]
  lhsNonContracting := [0, 1]
  rhsNonContracting := [0, 1]
  lhsBatch := []
  rhsBatch := []
  wf := dot_S5x2205x64_S25x441x64_S5x2205x25x441_2_2_01_01_n_n_wf
def dot_S25x441x64_S15x441x64_S25x441x15x441_2_2_01_01_n_n : DotDims S25x441x64 S15x441x64 S25x441x15x441 where
  lhsContracting := [2]
  rhsContracting := [2]
  lhsNonContracting := [0, 1]
  rhsNonContracting := [0, 1]
  lhsBatch := []
  rhsBatch := []
  wf := dot_S25x441x64_S15x441x64_S25x441x15x441_2_2_01_01_n_n_wf
def fn_one_hot {F : FTy → Type} [FloatOps F] (arg0 : IVec S5x10 32) : FVec F S5x10x15 .f32 :=
  let v0 : IVec S5x10x1 32 := broadcastInDim S5x10x1 ![0, 1] bcast_S5x10_S5x10x1_0_1 arg0
  let v1 : IVec S1x1x15 32 := iotaInDim S1x1x15 32 2
  let v2 : IVec S5x10x15 32 := broadcastInDim S5x10x15 ![0, 1, 2] bcast_S5x10x1_S5x10x15_0_1_2 v0
  let v3 : IVec S5x10x15 32 := broadcastInDim S5x10x15 ![0, 1, 2] bcast_S1x1x15_S5x10x15_0_1_2 v1
  let v4 : IVec S5x10x15 1 := cmpi .eq v2 v3
  let v5 : FVec F S5x10x15 .f32 := uitofp .f32 v4
  v5

def fn_where {F : FTy → Type} [FloatOps F] (arg0 : IVec S1x5x1x15x1 1) (arg1 : FVec F S25x1x441x15x441 .f32) (arg2 : FVec F S_ .f32) : FVec F S25x5x441x15x441 .f32 :=
  let v0 : FVec F S_ .f32 := id arg2
  let v1 : IVec S25x5x441x15x441 1 := broadcastInDim S25x5x441x15x441 ![0, 1, 2, 3, 4] bcast_S1x5x1x15x1_S25x5x441x15x441_0_1_2_3_4 arg0
  let v2 : FVec F S25x5x441x15x441 .f32 := broadcastInDim S25x5x441x15x441 ![0, 1, 2, 3, 4] bcast_S25x1x441x15x441_S25x5x441x15x441_0_1_2_3_4 arg1
  let v3 : FVec F S25x5x441x15x441 .f32 := broadcastInDim S25x5x441x15x441 ![] bcast_S_S25x5x441x15x441 v0
  let v4 : FVec F S25x5x441x15x441 .f32 := select v1 v2 v3
  v4

def fn_part4 {F : FTy → Type} [FloatOps F] (main_v24 : IVec S_ 1) (main_v41 : FVec F S5x15 .f32) (main_values_13 : FVec F S25x5x441x3 .f32) (main_v67 : IVec S_ 1) (main_v69 : IVec S5x15 1) : IVec S_ 1 :=
  let main_cst_22 : FVec F S_ .f32 := constant S_ .f32 0x3F800000#32
  let main_v70 : FVec F S5x15 .f32 := broadcastInDim S5x15 ![] bcast_S_S5x15 main_cst_22
  let main_v71 : IVec S5x15 1 := cmpf .oeq main_v41 main_v70
  let main_v72 : IVec S5x15 1 := ori main_v69 main_v71
  let main_c_23 : IVec S_ 1 := constantI S_ 1 1#1
  let main_v73 : IVec S_ 1 := (fun x v => Host.reduce IntOp.andi x v reducesTo_S5x15_S_d0_1 h_S_) main_v72 main_c_23
  let main_v74 : IVec S_ 1 := andi main_v67 main_v73
  let main_v75 : FVec F S25x5x441x1 .f32 := (extractStridedSlice S25x5x441x1 ![0, 0, 0, 0] · slices_S25x5x441x3_S25x5x441x1_0_0_0_0) main_values_13
  let main_v76 : FVec F S25x5x441 .f32 := shapeCast S25x5x441 main_v75 shapeCasts_S25x5x441x1_S25x5x441
  let main_v77 : FVec F S25x5x441x1 .f32 := (extractStridedSlice S25x5x441x1 ![0, 0, 0, 1] · slices_S25x5x441x3_S25x5x441x1_0_0_0_1) main_values_13
  let main_v78 : FVec F S25x5x441 .f32 := shapeCast S25x5x441 main_v77 shapeCasts_S25x5x441x1_S25x5x441
  let main_v79 : IVec S25x5x441 1 := cmpf .ogt main_v76 main_v78
  let main_c_24 : IVec S_ 1 := constantI S_ 1 1#1
  let main_v80 : IVec S_ 1 := (fun x v => Host.reduce IntOp.andi x v reducesTo_S25x5x441_S_d0_1_2 h_S_) main_v79 main_c_24
  let main_v81 : IVec S_ 1 := andi main_v74 main_v80
  let main_v82 : FVec F S25x5x441x1 .f32 := (extractStridedSlice S25x5x441x1 ![0, 0, 0, 1] · slices_S25x5x441x3_S25x5x441x1_0_0_0_1) main_values_13
  let main_v83 : FVec F S25x5x441 .f32 := shapeCast S25x5x441 main_v82 shapeCasts_S25x5x441x1_S25x5x441
  let main_v84 : FVec F S25x5x441x1 .f32 := (extractStridedSlice S25x5x441x1 ![0, 0, 0, 2] · slices_S25x5x441x3_S25x5x441x1_0_0_0_2) main_values_13
  let main_v85 : FVec F S25x5x441 .f32 := shapeCast S25x5x441 main_v84 shapeCasts_S25x5x441x1_S25x5x441
  let main_v86 : IVec S25x5x441 1 := cmpf .ogt main_v83 main_v85
  let main_c_25 : IVec S_ 1 := constantI S_ 1 1#1
  let main_v87 : IVec S_ 1 := (fun x v => Host.reduce IntOp.andi x v reducesTo_S25x5x441_S_d0_1_2 h_S_) main_v86 main_c_25
  let main_v88 : IVec S_ 1 := andi main_v81 main_v87
  let main_v89 : IVec S_ 1 := andi main_v24 main_v88
  main_v89

def fn_part3 {F : FTy → Type} [FloatOps F] (main_v24 : IVec S_ 1) (main_v41 : FVec F S5x15 .f32) (main_v43 : FVec F S25x5x441x2205 .f32) (main_v44 : FVec F S25x441x15x441 .f32) (main_v54 : FVec F S25x5x441x8820 .f32) : IVec S_ 1 :=
  let main_values_13 : FVec F S25x5x441x3 .f32 := (fun x => (Host.topK S25x5x441x3 3 (FloatOps.cmpfTotal .gt) x sliceFits_S25x5x441x8820_S25x5x441x3).1) main_v54
  let main_indices_14 : IVec S25x5x441x3 32 := (fun x => (Host.topK S25x5x441x3 3 (FloatOps.cmpfTotal .gt) x sliceFits_S25x5x441x8820_S25x5x441x3).2) main_v54
  let main_cst_15 : FVec F S_ .f32 := constant S_ .f32 0xBF800000#32
  let main_v55 : FVec F S25x5x441x2205 .f32 := broadcastInDim S25x5x441x2205 ![] bcast_S_S25x5x441x2205 main_cst_15
  let main_v56 : IVec S25x5x441x2205 1 := cmpf .oge main_v43 main_v55
  let main_cst_16 : FVec F S_ .f32 := constant S_ .f32 0x3F800000#32
  let main_v57 : FVec F S25x5x441x2205 .f32 := broadcastInDim S25x5x441x2205 ![] bcast_S_S25x5x441x2205 main_cst_16
  let main_v58 : IVec S25x5x441x2205 1 := cmpf .ole main_v43 main_v57
  let main_v59 : IVec S25x5x441x2205 1 := andi main_v56 main_v58
  let main_c_17 : IVec S_ 1 := constantI S_ 1 1#1
  let main_v60 : IVec S_ 1 := (fun x v => Host.reduce IntOp.andi x v reducesTo_S25x5x441x2205_S_d0_1_2_3 h_S_) main_v59 main_c_17
  let main_cst_18 : FVec F S_ .f32 := constant S_ .f32 0xBF800000#32
  let main_v61 : FVec F S25x441x15x441 .f32 := broadcastInDim S25x441x15x441 ![] bcast_S_S25x441x15x441 main_cst_18
  let main_v62 : IVec S25x441x15x441 1 := cmpf .oge main_v44 main_v61
  let main_cst_19 : FVec F S_ .f32 := constant S_ .f32 0x3F800000#32
  let main_v63 : FVec F S25x441x15x441 .f32 := broadcastInDim S25x441x15x441 ![] bcast_S_S25x441x15x441 main_cst_19
  let main_v64 : IVec S25x441x15x441 1 := cmpf .ole main_v44 main_v63
  let main_v65 : IVec S25x441x15x441 1 := andi main_v62 main_v64
  let main_c_20 : IVec S_ 1 := constantI S_ 1 1#1
  let main_v66 : IVec S_ 1 := (fun x v => Host.reduce IntOp.andi x v reducesTo_S25x441x15x441_S_d0_1_2_3 h_S_) main_v65 main_c_20
  let main_v67 : IVec S_ 1 := andi main_v60 main_v66
  let main_cst_21 : FVec F S_ .f32 := constant S_ .f32 0x00000000#32
  let main_v68 : FVec F S5x15 .f32 := broadcastInDim S5x15 ![] bcast_S_S5x15 main_cst_21
  let main_v69 : IVec S5x15 1 := cmpf .oeq main_v41 main_v68
  fn_part4 (F := F) main_v24 main_v41 main_values_13 main_v67 main_v69

def fn_part2 {F : FTy → Type} [FloatOps F] (main_v0 : FVec F S25x441x64 .f32) (main_v2 : FVec F S5x2205x64 .f32) (main_v3 : FVec F S15x441x64 .f32) (main_v24 : IVec S_ 1) (main_v34 : FVec F S15x5 .f32) (main_v35 : FVec F S15 .f32) : IVec S_ 1 :=
  let main_v36 : FVec F S15x1 .f32 := broadcastInDim S15x1 ![0] bcast_S15_S15x1_0 main_v35
  let main_v37 : FVec F S15x5 .f32 := broadcastInDim S15x5 ![0, 1] bcast_S15x1_S15x5_0_1 main_v36
  let main_v38 : FVec F S15x5 .f32 := Host.divf main_v34 main_v37
  let main_v39 : FVec F S5x15 .f32 := (transpose S5x15 [1, 0] · transposes_S15x5_S5x15_1_0) main_v38
  let main_values_8 : FVec F S5x10 .f32 := (fun x => (Host.topK S5x10 1 (FloatOps.cmpfTotal .gt) x sliceFits_S5x15_S5x10).1) main_v39
  let main_indices_9 : IVec S5x10 32 := (fun x => (Host.topK S5x10 1 (FloatOps.cmpfTotal .gt) x sliceFits_S5x15_S5x10).2) main_v39
  let main_v40 : FVec F S5x10x15 .f32 := fn_one_hot (F := F) main_indices_9
  let main_cst_10 : FVec F S_ .f32 := constant S_ .f32 0x00000000#32
  let main_v41 : FVec F S5x15 .f32 := (fun x v => Host.reduceAdd x v reducesTo_S5x10x15_S5x15_d1 h_S_) main_v40 main_cst_10
  let main_v42 : FVec F S5x2205x25x441 .f32 := (fun l r => Host.dotGeneral dot_S5x2205x64_S25x441x64_S5x2205x25x441_2_2_01_01_n_n none l r) main_v2 main_v0
  let main_v43 : FVec F S25x5x441x2205 .f32 := (transpose S25x5x441x2205 [2, 0, 3, 1] · transposes_S5x2205x25x441_S25x5x441x2205_2_0_3_1) main_v42
  let main_v44 : FVec F S25x441x15x441 .f32 := (fun l r => Host.dotGeneral dot_S25x441x64_S15x441x64_S25x441x15x441_2_2_01_01_n_n none l r) main_v0 main_v3
  let main_v45 : FVec F S5x2205x25x441 .f32 := (fun l r => Host.dotGeneral dot_S5x2205x64_S25x441x64_S5x2205x25x441_2_2_01_01_n_n none l r) main_v2 main_v0
  let main_v46 : FVec F S25x5x441x2205 .f32 := (transpose S25x5x441x2205 [2, 0, 3, 1] · transposes_S5x2205x25x441_S25x5x441x2205_2_0_3_1) main_v45
  let main_v47 : FVec F S25x441x15x441 .f32 := (fun l r => Host.dotGeneral dot_S25x441x64_S15x441x64_S25x441x15x441_2_2_01_01_n_n none l r) main_v0 main_v3
  let main_v48 : FVec F S1x5x1x15x1 .f32 := broadcastInDim S1x5x1x15x1 ![1, 3] bcast_S5x15_S1x5x1x15x1_1_3 main_v41
  let main_cst_11 : FVec F S_ .f32 := constant S_ .f32 0x3F000000#32
  let main_v49 : FVec F S1x5x1x15x1 .f32 := broadcastInDim S1x5x1x15x1 ![] bcast_S_S1x5x1x15x1 main_cst_11
  let main_v50 : IVec S1x5x1x15x1 1 := cmpf .ogt main_v48 main_v49
  let main_v51 : FVec F S25x1x441x15x441 .f32 := broadcastInDim S25x1x441x15x441 ![0, 2, 3, 4] bcast_S25x441x15x441_S25x1x441x15x441_0_2_3_4 main_v47
  let main_cst_12 : FVec F S_ .f32 := constant S_ .f32 0xFF800000#32
  let main_v52 : FVec F S25x5x441x15x441 .f32 := fn_where (F := F) main_v50 main_v51 main_cst_12
  let main_v53 : FVec F S25x5x441x6615 .f32 := shapeCast S25x5x441x6615 main_v52 shapeCasts_S25x5x441x15x441_S25x5x441x6615
  let main_v54 : FVec F S25x5x441x8820 .f32 := (fun a b => concatenate S25x5x441x8820 3 [⟨S25x5x441x2205, a⟩, ⟨S25x5x441x6615, b⟩] concatenates_S25x5x441x2205_S25x5x441x6615_S25x5x441x8820_d3) main_v46 main_v53
  fn_part3 (F := F) main_v24 main_v41 main_v43 main_v44 main_v54

def fn_part1 {F : FTy → Type} [FloatOps F] (main_v0 : FVec F S25x441x64 .f32) (main_v2 : FVec F S5x2205x64 .f32) (main_v3 : FVec F S15x441x64 .f32) (main_values : FVec F S15x5x441x3 .f32) (main_v17 : IVec S_ 1) (main_v18 : FVec F S15x5x441x1 .f32) : IVec S_ 1 :=
  let main_v19 : FVec F S15x5x441 .f32 := shapeCast S15x5x441 main_v18 shapeCasts_S15x5x441x1_S15x5x441
  let main_v20 : FVec F S15x5x441x1 .f32 := (extractStridedSlice S15x5x441x1 ![0, 0, 0, 2] · slices_S15x5x441x3_S15x5x441x1_0_0_0_2) main_values
  let main_v21 : FVec F S15x5x441 .f32 := shapeCast S15x5x441 main_v20 shapeCasts_S15x5x441x1_S15x5x441
  let main_v22 : IVec S15x5x441 1 := cmpf .ogt main_v19 main_v21
  let main_c_1 : IVec S_ 1 := constantI S_ 1 1#1
  let main_v23 : IVec S_ 1 := (fun x v => Host.reduce IntOp.andi x v reducesTo_S15x5x441_S_d0_1_2 h_S_) main_v22 main_c_1
  let main_v24 : IVec S_ 1 := andi main_v17 main_v23
  let main_v25 : FVec F S5x2205x15x441 .f32 := (fun l r => Host.dotGeneral dot_S5x2205x64_S15x441x64_S5x2205x15x441_2_2_01_01_n_n none l r) main_v2 main_v3
  let main_v26 : FVec F S15x5x441x2205 .f32 := (transpose S15x5x441x2205 [2, 0, 3, 1] · transposes_S5x2205x15x441_S15x5x441x2205_2_0_3_1) main_v25
  let main_values_2 : FVec F S15x5x441x3 .f32 := (fun x => (Host.topK S15x5x441x3 3 (FloatOps.cmpfTotal .gt) x sliceFits_S15x5x441x2205_S15x5x441x3).1) main_v26
  let main_indices_3 : IVec S15x5x441x3 32 := (fun x => (Host.topK S15x5x441x3 3 (FloatOps.cmpfTotal .gt) x sliceFits_S15x5x441x2205_S15x5x441x3).2) main_v26
  let main_cst_4 : FVec F S_ .f32 := constant S_ .f32 0x00000000#32
  let main_v27 : FVec F S15x5 .f32 := (fun x v => Host.reduceAdd x v reducesTo_S15x5x441x3_S15x5_d2_3 h_S_) main_values_2 main_cst_4
  let main_cst_5 : FVec F S_ .f32 := constant S_ .f32 0xFF800000#32
  let main_v28 : FVec F S15 .f32 := (fun x v => Host.reduce FloatOps.maximumf x v reducesTo_S15x5_S15_d1 h_S_) main_v27 main_cst_5
  let main_cst_6 : FVec F S_ .f32 := constant S_ .f32 0xFF800000#32
  let main_v29 : FVec F S15 .f32 := broadcastInDim S15 ![] bcast_S_S15 main_cst_6
  let main_v30 : FVec F S15 .f32 := maximumf main_v29 main_v28
  let main_v31 : FVec F S15x1 .f32 := broadcastInDim S15x1 ![0] bcast_S15_S15x1_0 main_v30
  let main_v32 : FVec F S15x5 .f32 := broadcastInDim S15x5 ![0, 1] bcast_S15x1_S15x5_0_1 main_v31
  let main_v33 : FVec F S15x5 .f32 := subf main_v27 main_v32
  let main_v34 : FVec F S15x5 .f32 := Host.exp main_v33
  let main_cst_7 : FVec F S_ .f32 := constant S_ .f32 0x00000000#32
  let main_v35 : FVec F S15 .f32 := (fun x v => Host.reduceAdd x v reducesTo_S15x5_S15_d1 h_S_) main_v34 main_cst_7
  fn_part2 (F := F) main_v0 main_v2 main_v3 main_v24 main_v34 main_v35

def fn {F : FTy → Type} [FloatOps F] (main_arg0 : FVec F S65x441x64 .f32) : IVec S_ 1 :=
  let main_v0 : FVec F S25x441x64 .f32 := (extractStridedSlice S25x441x64 ![0, 0, 0] · slices_S65x441x64_S25x441x64_0_0_0) main_arg0
  let main_v1 : FVec F S25x441x64 .f32 := (extractStridedSlice S25x441x64 ![25, 0, 0] · slices_S65x441x64_S25x441x64_25_0_0) main_arg0
  let main_v2 : FVec F S5x2205x64 .f32 := shapeCast S5x2205x64 main_v1 shapeCasts_S25x441x64_S5x2205x64
  let main_v3 : FVec F S15x441x64 .f32 := (extractStridedSlice S15x441x64 ![50, 0, 0] · slices_S65x441x64_S15x441x64_50_0_0) main_arg0
  let main_v4 : FVec F S5x2205x15x441 .f32 := (fun l r => Host.dotGeneral dot_S5x2205x64_S15x441x64_S5x2205x15x441_2_2_01_01_n_n none l r) main_v2 main_v3
  let main_v5 : FVec F S15x5x441x2205 .f32 := (transpose S15x5x441x2205 [2, 0, 3, 1] · transposes_S5x2205x15x441_S15x5x441x2205_2_0_3_1) main_v4
  let main_values : FVec F S15x5x441x3 .f32 := (fun x => (Host.topK S15x5x441x3 3 (FloatOps.cmpfTotal .gt) x sliceFits_S15x5x441x2205_S15x5x441x3).1) main_v5
  let main_indices : IVec S15x5x441x3 32 := (fun x => (Host.topK S15x5x441x3 3 (FloatOps.cmpfTotal .gt) x sliceFits_S15x5x441x2205_S15x5x441x3).2) main_v5
  let main_v6 : FVec F S5x2205x15x441 .f32 := (fun l r => Host.dotGeneral dot_S5x2205x64_S15x441x64_S5x2205x15x441_2_2_01_01_n_n none l r) main_v2 main_v3
  let main_v7 : FVec F S15x5x441x2205 .f32 := (transpose S15x5x441x2205 [2, 0, 3, 1] · transposes_S5x2205x15x441_S15x5x441x2205_2_0_3_1) main_v6
  let main_cst : FVec F S_ .f32 := constant S_ .f32 0xBF800000#32
  let main_v8 : FVec F S15x5x441x2205 .f32 := broadcastInDim S15x5x441x2205 ![] bcast_S_S15x5x441x2205 main_cst
  let main_v9 : IVec S15x5x441x2205 1 := cmpf .oge main_v7 main_v8
  let main_c : IVec S_ 1 := constantI S_ 1 1#1
  let main_v10 : IVec S_ 1 := (fun x v => Host.reduce IntOp.andi x v reducesTo_S15x5x441x2205_S_d0_1_2_3 h_S_) main_v9 main_c
  let main_v11 : FVec F S15x5x441x1 .f32 := (extractStridedSlice S15x5x441x1 ![0, 0, 0, 0] · slices_S15x5x441x3_S15x5x441x1_0_0_0_0) main_values
  let main_v12 : FVec F S15x5x441 .f32 := shapeCast S15x5x441 main_v11 shapeCasts_S15x5x441x1_S15x5x441
  let main_v13 : FVec F S15x5x441x1 .f32 := (extractStridedSlice S15x5x441x1 ![0, 0, 0, 1] · slices_S15x5x441x3_S15x5x441x1_0_0_0_1) main_values
  let main_v14 : FVec F S15x5x441 .f32 := shapeCast S15x5x441 main_v13 shapeCasts_S15x5x441x1_S15x5x441
  let main_v15 : IVec S15x5x441 1 := cmpf .ogt main_v12 main_v14
  let main_c_0 : IVec S_ 1 := constantI S_ 1 1#1
  let main_v16 : IVec S_ 1 := (fun x v => Host.reduce IntOp.andi x v reducesTo_S15x5x441_S_d0_1_2 h_S_) main_v15 main_c_0
  let main_v17 : IVec S_ 1 := andi main_v10 main_v16
  let main_v18 : FVec F S15x5x441x1 .f32 := (extractStridedSlice S15x5x441x1 ![0, 0, 0, 1] · slices_S15x5x441x3_S15x5x441x1_0_0_0_1) main_values
  fn_part1 (F := F) main_v0 main_v2 main_v3 main_values main_v17 main_v18
-- ==== Pool1.lean ====
abbrev S65x7396x64 : Shape := ⟨3, ![65, 7396, 64]⟩
abbrev S65x64 : Shape := ⟨2, ![65, 64]⟩
abbrev S65x1x64 : Shape := ⟨3, ![65, 1, 64]⟩
abbrev S65x1936x64 : Shape := ⟨3, ![65, 1936, 64]⟩
abbrev S1x7396x64 : Shape := ⟨3, ![1, 7396, 64]⟩
abbrev S1x1x64 : Shape := ⟨3, ![1, 1, 64]⟩
abbrev S1x1936x64 : Shape := ⟨3, ![1, 1936, 64]⟩
abbrev S7396x64 : Shape := ⟨2, ![7396, 64]⟩
abbrev S1x64 : Shape := ⟨2, ![1, 64]⟩
abbrev S7395x64 : Shape := ⟨2, ![7395, 64]⟩
abbrev S7310x64 : Shape := ⟨2, ![7310, 64]⟩
abbrev S86x64 : Shape := ⟨2, ![86, 64]⟩
abbrev S1936x64 : Shape := ⟨2, ![1936, 64]⟩
abbrev S42x64 : Shape := ⟨2, ![42, 64]⟩
abbrev S1x42x64 : Shape := ⟨3, ![1, 42, 64]⟩

abbrev nBuf : Space → Nat
  | .hbm => 6
  | .vmem => 9
  | .smem => 0
  | _ => 0

abbrev bufTy : (tb : Table) → Fin (tcTables nBuf tb) → BufTy
  | .hbm, ⟨0, _⟩ => ⟨S65x7396x64, .f32⟩
  | .hbm, ⟨1, _⟩ => ⟨S65x64, .f32⟩
  | .hbm, ⟨2, _⟩ => ⟨S65x64, .f32⟩
  | .hbm, ⟨3, _⟩ => ⟨S65x1x64, .f32⟩
  | .hbm, ⟨4, _⟩ => ⟨S65x1x64, .f32⟩
  | .hbm, ⟨5, _⟩ => ⟨S65x1936x64, .f32⟩
  | .local _ .vmem, ⟨0, _⟩ => ⟨S1x7396x64, .f32⟩
  | .local _ .vmem, ⟨1, _⟩ => ⟨S1x7396x64, .f32⟩
  | .local _ .vmem, ⟨2, _⟩ => ⟨S1x1x64, .f32⟩
  | .local _ .vmem, ⟨3, _⟩ => ⟨S1x1x64, .f32⟩
  | .local _ .vmem, ⟨4, _⟩ => ⟨S1x1x64, .f32⟩
  | .local _ .vmem, ⟨5, _⟩ => ⟨S1x1x64, .f32⟩
  | .local _ .vmem, ⟨6, _⟩ => ⟨S1x1936x64, .f32⟩
  | .local _ .vmem, ⟨7, _⟩ => ⟨S1x1936x64, .f32⟩
  | .local _ .vmem, ⟨8, _⟩ => ⟨S7396x64, .f32⟩
  | _, _ => ⟨S65x7396x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![65], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x7396x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1936x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Pool1RefIdeal.lean ====
abbrev S65x7396x64 : Shape := ⟨3, ![65, 7396, 64]⟩
abbrev S65x64 : Shape := ⟨2, ![65, 64]⟩
abbrev S65x86x86x64 : Shape := ⟨4, ![65, 86, 86, 64]⟩
abbrev S65x84x84x64 : Shape := ⟨4, ![65, 84, 84, 64]⟩
abbrev S65x1x1x64 : Shape := ⟨4, ![65, 1, 1, 64]⟩
abbrev S_ : Shape := ⟨0, ![]⟩
abbrev S65x42x42x64 : Shape := ⟨4, ![65, 42, 42, 64]⟩
abbrev S65x44x44x64 : Shape := ⟨4, ![65, 44, 44, 64]⟩
abbrev S65x1936x64 : Shape := ⟨3, ![65, 1936, 64]⟩

abbrev nBuf : Space → Nat
  | .hbm => 25
  | .vmem => 0
  | .smem => 0
  | _ => 0

abbrev bufTy : (tb : Table) → Fin (tcTables nBuf tb) → BufTy
  | .hbm, ⟨0, _⟩ => ⟨S65x7396x64, .f32⟩
  | .hbm, ⟨1, _⟩ => ⟨S65x64, .f32⟩
  | .hbm, ⟨2, _⟩ => ⟨S65x64, .f32⟩
  | .hbm, ⟨3, _⟩ => ⟨S65x86x86x64, .f32⟩
  | .hbm, ⟨4, _⟩ => ⟨S65x84x84x64, .f32⟩
  | .hbm, ⟨5, _⟩ => ⟨S65x1x1x64, .f32⟩
  | .hbm, ⟨6, _⟩ => ⟨S65x84x84x64, .f32⟩
  | .hbm, ⟨7, _⟩ => ⟨S65x84x84x64, .f32⟩
  | .hbm, ⟨8, _⟩ => ⟨S65x1x1x64, .f32⟩
  | .hbm, ⟨9, _⟩ => ⟨S65x84x84x64, .f32⟩
  | .hbm, ⟨10, _⟩ => ⟨S65x84x84x64, .f32⟩
  | .hbm, ⟨11, _⟩ => ⟨S_, .f32⟩
  | .hbm, ⟨12, _⟩ => ⟨S65x84x84x64, .f32⟩
  | .hbm, ⟨13, _⟩ => ⟨S65x84x84x64, .i1⟩
  | .hbm, ⟨14, _⟩ => ⟨S_, .f32⟩
  | .hbm, ⟨15, _⟩ => ⟨S65x84x84x64, .f32⟩
  | .hbm, ⟨16, _⟩ => ⟨S65x84x84x64, .f32⟩
  | .hbm, ⟨17, _⟩ => ⟨S65x84x84x64, .f32⟩
  | .hbm, ⟨18, _⟩ => ⟨S_, .f32⟩
  | .hbm, ⟨19, _⟩ => ⟨S_, .f32⟩
  | .hbm, ⟨20, _⟩ => ⟨S65x42x42x64, .f32⟩
  | .hbm, ⟨21, _⟩ => ⟨S_, .i32⟩
  | .hbm, ⟨22, _⟩ => ⟨S_, .f32⟩
  | .hbm, ⟨23, _⟩ => ⟨S65x44x44x64, .f32⟩
  | .hbm, ⟨24, _⟩ => ⟨S65x1936x64, .f32⟩
  | _, _ => ⟨S65x7396x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call1_v0 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Final.lean ====
abbrev S25x441x64 : Shape := ⟨3, ![25, 441, 64]⟩
abbrev S5x2205x64 : Shape := ⟨3, ![5, 2205, 64]⟩
abbrev S15x441x64 : Shape := ⟨3, ![15, 441, 64]⟩
abbrev S5x15 : Shape := ⟨2, ![5, 15]⟩
abbrev S_ : Shape := ⟨0, ![]⟩
abbrev S5x15x1 : Shape := ⟨3, ![5, 15, 1]⟩
abbrev S5x15x3 : Shape := ⟨3, ![5, 15, 3]⟩
abbrev S5x45 : Shape := ⟨2, ![5, 45]⟩
abbrev S5x1x45 : Shape := ⟨3, ![5, 1, 45]⟩
abbrev S25x1x5 : Shape := ⟨3, ![25, 1, 5]⟩
abbrev S1x441x64 : Shape := ⟨3, ![1, 441, 64]⟩
abbrev S1x1x5 : Shape := ⟨3, ![1, 1, 5]⟩
abbrev S441x64 : Shape := ⟨2, ![441, 64]⟩
abbrev S441x441 : Shape := ⟨2, ![441, 441]⟩
abbrev S441 : Shape := ⟨1, ![441]⟩
abbrev S441x1 : Shape := ⟨2, ![441, 1]⟩
abbrev S441x3 : Shape := ⟨2, ![441, 3]⟩
abbrev S441x45 : Shape := ⟨2, ![441, 45]⟩
abbrev S1x2205x64 : Shape := ⟨3, ![1, 2205, 64]⟩
abbrev S2205x64 : Shape := ⟨2, ![2205, 64]⟩
abbrev S441x2205 : Shape := ⟨2, ![441, 2205]⟩
abbrev S1x1x45 : Shape := ⟨3, ![1, 1, 45]⟩
abbrev S1x45 : Shape := ⟨2, ![1, 45]⟩
abbrev S441x48 : Shape := ⟨2, ![441, 48]⟩
abbrev S1x441x3 : Shape := ⟨3, ![1, 441, 3]⟩
abbrev S1 : Shape := ⟨1, ![1]⟩
abbrev S1x1x1 : Shape := ⟨3, ![1, 1, 1]⟩
abbrev S1x1 : Shape := ⟨2, ![1, 1]⟩
abbrev S1x5 : Shape := ⟨2, ![1, 5]⟩
abbrev S25x5 : Shape := ⟨2, ![25, 5]⟩

abbrev nBuf : Space → Nat
  | .hbm => 16
  | .vmem => 7
  | .smem => 0
  | _ => 0

abbrev bufTy : (tb : Table) → Fin (tcTables nBuf tb) → BufTy
  | .hbm, ⟨0, _⟩ => ⟨S25x441x64, .f32⟩
  | .hbm, ⟨1, _⟩ => ⟨S5x2205x64, .f32⟩
  | .hbm, ⟨2, _⟩ => ⟨S15x441x64, .f32⟩
  | .hbm, ⟨3, _⟩ => ⟨S5x15, .f32⟩
  | .hbm, ⟨4, _⟩ => ⟨S_, .f32⟩
  | .hbm, ⟨5, _⟩ => ⟨S5x15, .f32⟩
  | .hbm, ⟨6, _⟩ => ⟨S5x15, .f32⟩
  | .hbm, ⟨7, _⟩ => ⟨S_, .f32⟩
  | .hbm, ⟨8, _⟩ => ⟨S5x15, .f32⟩
  | .hbm, ⟨9, _⟩ => ⟨S5x15, .f32⟩
  | .hbm, ⟨10, _⟩ => ⟨S5x15x1, .f32⟩
  | .hbm, ⟨11, _⟩ => ⟨S5x15x3, .f32⟩
  | .hbm, ⟨12, _⟩ => ⟨S5x45, .f32⟩
  | .hbm, ⟨13, _⟩ => ⟨S5x1x45, .f32⟩
  | .hbm, ⟨14, _⟩ => ⟨S25x1x5, .f32⟩
  | .hbm, ⟨15, _⟩ => ⟨S25x5, .f32⟩
  | .local _ .vmem, ⟨0, _⟩ => ⟨S1x441x64, .f32⟩
  | .local _ .vmem, ⟨1, _⟩ => ⟨S1x441x64, .f32⟩
  | .local _ .vmem, ⟨2, _⟩ => ⟨S5x2205x64, .f32⟩
  | .local _ .vmem, ⟨3, _⟩ => ⟨S15x441x64, .f32⟩
  | .local _ .vmem, ⟨4, _⟩ => ⟨S5x1x45, .f32⟩
  | .local _ .vmem, ⟨5, _⟩ => ⟨S1x1x5, .f32⟩
  | .local _ .vmem, ⟨6, _⟩ => ⟨S1x1x5, .f32⟩
  | _, _ => ⟨S25x441x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x441x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x2205x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S15x441x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x1x45 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x5 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FinalRefIdeal.lean ====
abbrev S25x441x64 : Shape := ⟨3, ![25, 441, 64]⟩
abbrev S5x2205x64 : Shape := ⟨3, ![5, 2205, 64]⟩
abbrev S15x441x64 : Shape := ⟨3, ![15, 441, 64]⟩
abbrev S5x15 : Shape := ⟨2, ![5, 15]⟩
abbrev S5x2205x25x441 : Shape := ⟨4, ![5, 2205, 25, 441]⟩
abbrev S25x5x441x2205 : Shape := ⟨4, ![25, 5, 441, 2205]⟩
abbrev S25x441x15x441 : Shape := ⟨4, ![25, 441, 15, 441]⟩
abbrev S1x5x1x15x1 : Shape := ⟨5, ![1, 5, 1, 15, 1]⟩
abbrev S_ : Shape := ⟨0, ![]⟩
abbrev S25x1x441x15x441 : Shape := ⟨5, ![25, 1, 441, 15, 441]⟩
abbrev S25x5x441x15x441 : Shape := ⟨5, ![25, 5, 441, 15, 441]⟩
abbrev S25x5x441x6615 : Shape := ⟨4, ![25, 5, 441, 6615]⟩
abbrev S25x5x441x8820 : Shape := ⟨4, ![25, 5, 441, 8820]⟩
abbrev S25x5x441x3 : Shape := ⟨4, ![25, 5, 441, 3]⟩
abbrev S25x5 : Shape := ⟨2, ![25, 5]⟩

abbrev nBuf : Space → Nat
  | .hbm => 24
  | .vmem => 0
  | .smem => 0
  | _ => 0

abbrev bufTy : (tb : Table) → Fin (tcTables nBuf tb) → BufTy
  | .hbm, ⟨0, _⟩ => ⟨S25x441x64, .f32⟩
  | .hbm, ⟨1, _⟩ => ⟨S5x2205x64, .f32⟩
  | .hbm, ⟨2, _⟩ => ⟨S15x441x64, .f32⟩
  | .hbm, ⟨3, _⟩ => ⟨S5x15, .f32⟩
  | .hbm, ⟨4, _⟩ => ⟨S5x2205x25x441, .f32⟩
  | .hbm, ⟨5, _⟩ => ⟨S25x5x441x2205, .f32⟩
  | .hbm, ⟨6, _⟩ => ⟨S25x441x15x441, .f32⟩
  | .hbm, ⟨7, _⟩ => ⟨S1x5x1x15x1, .f32⟩
  | .hbm, ⟨8, _⟩ => ⟨S_, .f32⟩
  | .hbm, ⟨9, _⟩ => ⟨S1x5x1x15x1, .f32⟩
  | .hbm, ⟨10, _⟩ => ⟨S1x5x1x15x1, .i1⟩
  | .hbm, ⟨11, _⟩ => ⟨S25x1x441x15x441, .f32⟩
  | .hbm, ⟨12, _⟩ => ⟨S_, .f32⟩
  | .hbm, ⟨13, _⟩ => ⟨S_, .f32⟩
  | .hbm, ⟨14, _⟩ => ⟨S25x5x441x15x441, .i1⟩
  | .hbm, ⟨15, _⟩ => ⟨S25x5x441x15x441, .f32⟩
  | .hbm, ⟨16, _⟩ => ⟨S25x5x441x15x441, .f32⟩
  | .hbm, ⟨17, _⟩ => ⟨S25x5x441x15x441, .f32⟩
  | .hbm, ⟨18, _⟩ => ⟨S25x5x441x6615, .f32⟩
  | .hbm, ⟨19, _⟩ => ⟨S25x5x441x8820, .f32⟩
  | .hbm, ⟨20, _⟩ => ⟨S25x5x441x3, .f32⟩
  | .hbm, ⟨21, _⟩ => ⟨S25x5x441x3, .i32⟩
  | .hbm, ⟨22, _⟩ => ⟨S_, .f32⟩
  | .hbm, ⟨23, _⟩ => ⟨S25x5, .f32⟩
  | _, _ => ⟨S25x441x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_values : Ref sig .tc := ⟨.hbm, 20, rfl⟩
abbrev main_indices : Ref sig .tc := ⟨.hbm, 21, rfl⟩
abbrev main_cst_1 : Ref sig .tc := ⟨.hbm, 22, rfl⟩
abbrev main_v10 : Ref sig .tc := ⟨.hbm, 23, rfl⟩

abbrev nD : Nat := 1
abbrev τ : Topo := Topo.v7x

variable {F : FTy → Type} [FloatOps F]
-- ==== Sim.lean ====
abbrev S15x441x64 : Shape := ⟨3, ![15, 441, 64]⟩
abbrev S5x2205x64 : Shape := ⟨3, ![5, 2205, 64]⟩
abbrev S15x1x5 : Shape := ⟨3, ![15, 1, 5]⟩
abbrev S1x441x64 : Shape := ⟨3, ![1, 441, 64]⟩
abbrev S1x1x5 : Shape := ⟨3, ![1, 1, 5]⟩
abbrev S441x64 : Shape := ⟨2, ![441, 64]⟩
abbrev S1x2205x64 : Shape := ⟨3, ![1, 2205, 64]⟩
abbrev S2205x64 : Shape := ⟨2, ![2205, 64]⟩
abbrev S441x2205 : Shape := ⟨2, ![441, 2205]⟩
abbrev S441 : Shape := ⟨1, ![441]⟩
abbrev S441x1 : Shape := ⟨2, ![441, 1]⟩
abbrev S441x3 : Shape := ⟨2, ![441, 3]⟩
abbrev S1x441x3 : Shape := ⟨3, ![1, 441, 3]⟩
abbrev S1 : Shape := ⟨1, ![1]⟩
abbrev S1x1x1 : Shape := ⟨3, ![1, 1, 1]⟩
abbrev S1x1 : Shape := ⟨2, ![1, 1]⟩
abbrev S1x5 : Shape := ⟨2, ![1, 5]⟩
abbrev S15x5 : Shape := ⟨2, ![15, 5]⟩

abbrev nBuf : Space → Nat
  | .hbm => 4
  | .vmem => 5
  | .smem => 0
  | _ => 0

abbrev bufTy : (tb : Table) → Fin (tcTables nBuf tb) → BufTy
  | .hbm, ⟨0, _⟩ => ⟨S15x441x64, .f32⟩
  | .hbm, ⟨1, _⟩ => ⟨S5x2205x64, .f32⟩
  | .hbm, ⟨2, _⟩ => ⟨S15x1x5, .f32⟩
  | .hbm, ⟨3, _⟩ => ⟨S15x5, .f32⟩
  | .local _ .vmem, ⟨0, _⟩ => ⟨S1x441x64, .f32⟩
  | .local _ .vmem, ⟨1, _⟩ => ⟨S1x441x64, .f32⟩
  | .local _ .vmem, ⟨2, _⟩ => ⟨S5x2205x64, .f32⟩
  | .local _ .vmem, ⟨3, _⟩ => ⟨S1x1x5, .f32⟩
  | .local _ .vmem, ⟨4, _⟩ => ⟨S1x1x5, .f32⟩
  | _, _ => ⟨S15x441x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![15], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x441x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x2205x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SimRefIdeal.lean ====
abbrev S15x441x64 : Shape := ⟨3, ![15, 441, 64]⟩
abbrev S5x2205x64 : Shape := ⟨3, ![5, 2205, 64]⟩
abbrev S5x2205x15x441 : Shape := ⟨4, ![5, 2205, 15, 441]⟩
abbrev S15x5x441x2205 : Shape := ⟨4, ![15, 5, 441, 2205]⟩
abbrev S15x5x441x3 : Shape := ⟨4, ![15, 5, 441, 3]⟩
abbrev S_ : Shape := ⟨0, ![]⟩
abbrev S15x5 : Shape := ⟨2, ![15, 5]⟩

abbrev nBuf : Space → Nat
  | .hbm => 8
  | .vmem => 0
  | .smem => 0
  | _ => 0

abbrev bufTy : (tb : Table) → Fin (tcTables nBuf tb) → BufTy
  | .hbm, ⟨0, _⟩ => ⟨S15x441x64, .f32⟩
  | .hbm, ⟨1, _⟩ => ⟨S5x2205x64, .f32⟩
  | .hbm, ⟨2, _⟩ => ⟨S5x2205x15x441, .f32⟩
  | .hbm, ⟨3, _⟩ => ⟨S15x5x441x2205, .f32⟩
  | .hbm, ⟨4, _⟩ => ⟨S15x5x441x3, .f32⟩
  | .hbm, ⟨5, _⟩ => ⟨S15x5x441x3, .i32⟩
  | .hbm, ⟨6, _⟩ => ⟨S_, .f32⟩
  | .hbm, ⟨7, _⟩ => ⟨S15x5, .f32⟩
  | _, _ => ⟨S15x441x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_values : Ref sig .tc := ⟨.hbm, 4, rfl⟩
abbrev main_indices : Ref sig .tc := ⟨.hbm, 5, rfl⟩
abbrev main_cst : Ref sig .tc := ⟨.hbm, 6, rfl⟩
abbrev main_v2 : Ref sig .tc := ⟨.hbm, 7, rfl⟩

abbrev nD : Nat := 1
abbrev τ : Topo := Topo.v7x

variable {F : FTy → Type} [FloatOps F]
-- ==== Conv44.lean ====
abbrev S65x1936x64 : Shape := ⟨3, ![65, 1936, 64]⟩
abbrev S64x64x3x3 : Shape := ⟨4, ![64, 64, 3, 3]⟩
abbrev S3x3x64x64 : Shape := ⟨4, ![3, 3, 64, 64]⟩
abbrev S9x64x64 : Shape := ⟨3, ![9, 64, 64]⟩
abbrev S_ : Shape := ⟨0, ![]⟩
abbrev S42x42 : Shape := ⟨2, ![42, 42]⟩
abbrev S44x44 : Shape := ⟨2, ![44, 44]⟩
abbrev S1936x1 : Shape := ⟨2, ![1936, 1]⟩
abbrev S65x1x64 : Shape := ⟨3, ![65, 1, 64]⟩
abbrev S1x1936x64 : Shape := ⟨3, ![1, 1936, 64]⟩
abbrev S1x1x64 : Shape := ⟨3, ![1, 1, 64]⟩
abbrev S1936x64 : Shape := ⟨2, ![1936, 64]⟩
abbrev S45x64 : Shape := ⟨2, ![45, 64]⟩
abbrev S1891x64 : Shape := ⟨2, ![1891, 64]⟩
abbrev S1x64x64 : Shape := ⟨3, ![1, 64, 64]⟩
abbrev S64x64 : Shape := ⟨2, ![64, 64]⟩
abbrev S44x64 : Shape := ⟨2, ![44, 64]⟩
abbrev S1892x64 : Shape := ⟨2, ![1892, 64]⟩
abbrev S43x64 : Shape := ⟨2, ![43, 64]⟩
abbrev S1893x64 : Shape := ⟨2, ![1893, 64]⟩
abbrev S1x64 : Shape := ⟨2, ![1, 64]⟩
abbrev S1935x64 : Shape := ⟨2, ![1935, 64]⟩
abbrev S64 : Shape := ⟨1, ![64]⟩

abbrev nBuf : Space → Nat
  | .hbm => 13
  | .vmem => 10
  | .smem => 0
  | _ => 0

abbrev bufTy : (tb : Table) → Fin (tcTables nBuf tb) → BufTy
  | .hbm, ⟨0, _⟩ => ⟨S65x1936x64, .f32⟩
  | .hbm, ⟨1, _⟩ => ⟨S64x64x3x3, .f32⟩
  | .hbm, ⟨2, _⟩ => ⟨S3x3x64x64, .f32⟩
  | .hbm, ⟨3, _⟩ => ⟨S9x64x64, .f32⟩
  | .hbm, ⟨4, _⟩ => ⟨S_, .f32⟩
  | .hbm, ⟨5, _⟩ => ⟨S42x42, .f32⟩
  | .hbm, ⟨6, _⟩ => ⟨S_, .i32⟩
  | .hbm, ⟨7, _⟩ => ⟨S_, .f32⟩
  | .hbm, ⟨8, _⟩ => ⟨S44x44, .f32⟩
  | .hbm, ⟨9, _⟩ => ⟨S1936x1, .f32⟩
  | .hbm, ⟨10, _⟩ => ⟨S65x1936x64, .f32⟩
  | .hbm, ⟨11, _⟩ => ⟨S65x1x64, .f32⟩
  | .hbm, ⟨12, _⟩ => ⟨S65x1x64, .f32⟩
  | .local _ .vmem, ⟨0, _⟩ => ⟨S1x1936x64, .f32⟩
  | .local _ .vmem, ⟨1, _⟩ => ⟨S1x1936x64, .f32⟩
  | .local _ .vmem, ⟨2, _⟩ => ⟨S9x64x64, .f32⟩
  | .local _ .vmem, ⟨3, _⟩ => ⟨S1936x1, .f32⟩
  | .local _ .vmem, ⟨4, _⟩ => ⟨S1x1936x64, .f32⟩
  | .local _ .vmem, ⟨5, _⟩ => ⟨S1x1936x64, .f32⟩
  | .local _ .vmem, ⟨6, _⟩ => ⟨S1x1x64, .f32⟩
  | .local _ .vmem, ⟨7, _⟩ => ⟨S1x1x64, .f32⟩
  | .local _ .vmem, ⟨8, _⟩ => ⟨S1x1x64, .f32⟩
  | .local _ .vmem, ⟨9, _⟩ => ⟨S1x1x64, .f32⟩
  | _, _ => ⟨S65x1936x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![65], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1936x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1936x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1936x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Conv44RefIdeal.lean ====
abbrev S65x1936x64 : Shape := ⟨3, ![65, 1936, 64]⟩
abbrev S64x64x3x3 : Shape := ⟨4, ![64, 64, 3, 3]⟩
abbrev S65x44x44x64 : Shape := ⟨4, ![65, 44, 44, 64]⟩
abbrev S_ : Shape := ⟨0, ![]⟩
abbrev S65x42x42x64 : Shape := ⟨4, ![65, 42, 42, 64]⟩
abbrev S64x64x1x1 : Shape := ⟨4, ![64, 64, 1, 1]⟩
abbrev S64x64 : Shape := ⟨2, ![64, 64]⟩
abbrev S65x64 : Shape := ⟨2, ![65, 64]⟩
abbrev S65x1x64 : Shape := ⟨3, ![65, 1, 64]⟩

abbrev nBuf : Space → Nat
  | .hbm => 61
  | .vmem => 0
  | .smem => 0
  | _ => 0

abbrev bufTy : (tb : Table) → Fin (tcTables nBuf tb) → BufTy
  | .hbm, ⟨0, _⟩ => ⟨S65x1936x64, .f32⟩
  | .hbm, ⟨1, _⟩ => ⟨S64x64x3x3, .f32⟩
  | .hbm, ⟨2, _⟩ => ⟨S65x44x44x64, .f32⟩
  | .hbm, ⟨3, _⟩ => ⟨S_, .f32⟩
  | .hbm, ⟨4, _⟩ => ⟨S65x42x42x64, .f32⟩
  | .hbm, ⟨5, _⟩ => ⟨S65x42x42x64, .f32⟩
  | .hbm, ⟨6, _⟩ => ⟨S64x64x1x1, .f32⟩
  | .hbm, ⟨7, _⟩ => ⟨S64x64, .f32⟩
  | .hbm, ⟨8, _⟩ => ⟨S65x42x42x64, .f32⟩
  | .hbm, ⟨9, _⟩ => ⟨S65x42x42x64, .f32⟩
  | .hbm, ⟨10, _⟩ => ⟨S65x42x42x64, .f32⟩
  | .hbm, ⟨11, _⟩ => ⟨S64x64x1x1, .f32⟩
  | .hbm, ⟨12, _⟩ => ⟨S64x64, .f32⟩
  | .hbm, ⟨13, _⟩ => ⟨S65x42x42x64, .f32⟩
  | .hbm, ⟨14, _⟩ => ⟨S65x42x42x64, .f32⟩
  | .hbm, ⟨15, _⟩ => ⟨S65x42x42x64, .f32⟩
  | .hbm, ⟨16, _⟩ => ⟨S64x64x1x1, .f32⟩
  | .hbm, ⟨17, _⟩ => ⟨S64x64, .f32⟩
  | .hbm, ⟨18, _⟩ => ⟨S65x42x42x64, .f32⟩
  | .hbm, ⟨19, _⟩ => ⟨S65x42x42x64, .f32⟩
  | .hbm, ⟨20, _⟩ => ⟨S65x42x42x64, .f32⟩
  | .hbm, ⟨21, _⟩ => ⟨S64x64x1x1, .f32⟩
  | .hbm, ⟨22, _⟩ => ⟨S64x64, .f32⟩
  | .hbm, ⟨23, _⟩ => ⟨S65x42x42x64, .f32⟩
  | .hbm, ⟨24, _⟩ => ⟨S65x42x42x64, .f32⟩
  | .hbm, ⟨25, _⟩ => ⟨S65x42x42x64, .f32⟩
  | .hbm, ⟨26, _⟩ => ⟨S64x64x1x1, .f32⟩
  | .hbm, ⟨27, _⟩ => ⟨S64x64, .f32⟩
  | .hbm, ⟨28, _⟩ => ⟨S65x42x42x64, .f32⟩
  | .hbm, ⟨29, _⟩ => ⟨S65x42x42x64, .f32⟩
  | .hbm, ⟨30, _⟩ => ⟨S65x42x42x64, .f32⟩
  | .hbm, ⟨31, _⟩ => ⟨S64x64x1x1, .f32⟩
  | .hbm, ⟨32, _⟩ => ⟨S64x64, .f32⟩
  | .hbm, ⟨33, _⟩ => ⟨S65x42x42x64, .f32⟩
  | .hbm, ⟨34, _⟩ => ⟨S65x42x42x64, .f32⟩
  | .hbm, ⟨35, _⟩ => ⟨S65x42x42x64, .f32⟩
  | .hbm, ⟨36, _⟩ => ⟨S64x64x1x1, .f32⟩
  | .hbm, ⟨37, _⟩ => ⟨S64x64, .f32⟩
  | .hbm, ⟨38, _⟩ => ⟨S65x42x42x64, .f32⟩
  | .hbm, ⟨39, _⟩ => ⟨S65x42x42x64, .f32⟩
  | .hbm, ⟨40, _⟩ => ⟨S65x42x42x64, .f32⟩
  | .hbm, ⟨41, _⟩ => ⟨S64x64x1x1, .f32⟩
  | .hbm, ⟨42, _⟩ => ⟨S64x64, .f32⟩
  | .hbm, ⟨43, _⟩ => ⟨S65x42x42x64, .f32⟩
  | .hbm, ⟨44, _⟩ => ⟨S65x42x42x64, .f32⟩
  | .hbm, ⟨45, _⟩ => ⟨S65x42x42x64, .f32⟩
  | .hbm, ⟨46, _⟩ => ⟨S64x64x1x1, .f32⟩
  | .hbm, ⟨47, _⟩ => ⟨S64x64, .f32⟩
  | .hbm, ⟨48, _⟩ => ⟨S65x42x42x64, .f32⟩
  | .hbm, ⟨49, _⟩ => ⟨S65x42x42x64, .f32⟩
  | .hbm, ⟨50, _⟩ => ⟨S_, .f32⟩
  | .hbm, ⟨51, _⟩ => ⟨S65x64, .f32⟩
  | .hbm, ⟨52, _⟩ => ⟨S65x42x42x64, .f32⟩
  | .hbm, ⟨53, _⟩ => ⟨S_, .f32⟩
  | .hbm, ⟨54, _⟩ => ⟨S65x64, .f32⟩
  | .hbm, ⟨55, _⟩ => ⟨S_, .i32⟩
  | .hbm, ⟨56, _⟩ => ⟨S_, .f32⟩
  | .hbm, ⟨57, _⟩ => ⟨S65x44x44x64, .f32⟩
  | .hbm, ⟨58, _⟩ => ⟨S65x1936x64, .f32⟩
  | .hbm, ⟨59, _⟩ => ⟨S65x1x64, .f32⟩
  | .hbm, ⟨60, _⟩ => ⟨S65x1x64, .f32⟩
  | _, _ => ⟨S65x1936x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_cst_0 : Ref sig .tc := ⟨.hbm, 50, rfl⟩
abbrev main_v47 : Ref sig .tc := ⟨.hbm, 51, rfl⟩
abbrev main_v48 : Ref sig .tc := ⟨.hbm, 52, rfl⟩
abbrev main_cst_1 : Ref sig .tc := ⟨.hbm, 53, rfl⟩
abbrev main_v49 : Ref sig .tc := ⟨.hbm, 54, rfl⟩
abbrev main_c : Ref sig .tc := ⟨.hbm, 55, rfl⟩
abbrev main_call0_v0 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩

abbrev nD : Nat := 1
abbrev τ : Topo := Topo.v7x

variable {F : FTy → Type} [FloatOps F]
-- ==== Conv23.lean ====
abbrev S65x529x64 : Shape := ⟨3, ![65, 529, 64]⟩
abbrev S64x64x3x3 : Shape := ⟨4, ![64, 64, 3, 3]⟩
abbrev S3x3x64x64 : Shape := ⟨4, ![3, 3, 64, 64]⟩
abbrev S9x64x64 : Shape := ⟨3, ![9, 64, 64]⟩
abbrev S_ : Shape := ⟨0, ![]⟩
abbrev S21x21 : Shape := ⟨2, ![21, 21]⟩
abbrev S23x23 : Shape := ⟨2, ![23, 23]⟩
abbrev S529x1 : Shape := ⟨2, ![529, 1]⟩
abbrev S65x1x64 : Shape := ⟨3, ![65, 1, 64]⟩
abbrev S1x529x64 : Shape := ⟨3, ![1, 529, 64]⟩
abbrev S1x1x64 : Shape := ⟨3, ![1, 1, 64]⟩
abbrev S529x64 : Shape := ⟨2, ![529, 64]⟩
abbrev S24x64 : Shape := ⟨2, ![24, 64]⟩
abbrev S505x64 : Shape := ⟨2, ![505, 64]⟩
abbrev S1x64x64 : Shape := ⟨3, ![1, 64, 64]⟩
abbrev S64x64 : Shape := ⟨2, ![64, 64]⟩
abbrev S23x64 : Shape := ⟨2, ![23, 64]⟩
abbrev S506x64 : Shape := ⟨2, ![506, 64]⟩
abbrev S22x64 : Shape := ⟨2, ![22, 64]⟩
abbrev S507x64 : Shape := ⟨2, ![507, 64]⟩
abbrev S1x64 : Shape := ⟨2, ![1, 64]⟩
abbrev S528x64 : Shape := ⟨2, ![528, 64]⟩
abbrev S64 : Shape := ⟨1, ![64]⟩

abbrev nBuf : Space → Nat
  | .hbm => 13
  | .vmem => 10
  | .smem => 0
  | _ => 0

abbrev bufTy : (tb : Table) → Fin (tcTables nBuf tb) → BufTy
  | .hbm, ⟨0, _⟩ => ⟨S65x529x64, .f32⟩
  | .hbm, ⟨1, _⟩ => ⟨S64x64x3x3, .f32⟩
  | .hbm, ⟨2, _⟩ => ⟨S3x3x64x64, .f32⟩
  | .hbm, ⟨3, _⟩ => ⟨S9x64x64, .f32⟩
  | .hbm, ⟨4, _⟩ => ⟨S_, .f32⟩
  | .hbm, ⟨5, _⟩ => ⟨S21x21, .f32⟩
  | .hbm, ⟨6, _⟩ => ⟨S_, .i32⟩
  | .hbm, ⟨7, _⟩ => ⟨S_, .f32⟩
  | .hbm, ⟨8, _⟩ => ⟨S23x23, .f32⟩
  | .hbm, ⟨9, _⟩ => ⟨S529x1, .f32⟩
  | .hbm, ⟨10, _⟩ => ⟨S65x529x64, .f32⟩
  | .hbm, ⟨11, _⟩ => ⟨S65x1x64, .f32⟩
  | .hbm, ⟨12, _⟩ => ⟨S65x1x64, .f32⟩
  | .local _ .vmem, ⟨0, _⟩ => ⟨S1x529x64, .f32⟩
  | .local _ .vmem, ⟨1, _⟩ => ⟨S1x529x64, .f32⟩
  | .local _ .vmem, ⟨2, _⟩ => ⟨S9x64x64, .f32⟩
  | .local _ .vmem, ⟨3, _⟩ => ⟨S529x1, .f32⟩
  | .local _ .vmem, ⟨4, _⟩ => ⟨S1x529x64, .f32⟩
  | .local _ .vmem, ⟨5, _⟩ => ⟨S1x529x64, .f32⟩
  | .local _ .vmem, ⟨6, _⟩ => ⟨S1x1x64, .f32⟩
  | .local _ .vmem, ⟨7, _⟩ => ⟨S1x1x64, .f32⟩
  | .local _ .vmem, ⟨8, _⟩ => ⟨S1x1x64, .f32⟩
  | .local _ .vmem, ⟨9, _⟩ => ⟨S1x1x64, .f32⟩
  | _, _ => ⟨S65x529x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![65], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x529x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S529x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x529x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Conv23RefIdeal.lean ====
abbrev S65x529x64 : Shape := ⟨3, ![65, 529, 64]⟩
abbrev S64x64x3x3 : Shape := ⟨4, ![64, 64, 3, 3]⟩
abbrev S65x23x23x64 : Shape := ⟨4, ![65, 23, 23, 64]⟩
abbrev S_ : Shape := ⟨0, ![]⟩
abbrev S65x21x21x64 : Shape := ⟨4, ![65, 21, 21, 64]⟩
abbrev S64x64x1x1 : Shape := ⟨4, ![64, 64, 1, 1]⟩
abbrev S64x64 : Shape := ⟨2, ![64, 64]⟩
abbrev S65x64 : Shape := ⟨2, ![65, 64]⟩
abbrev S65x1x64 : Shape := ⟨3, ![65, 1, 64]⟩

abbrev nBuf : Space → Nat
  | .hbm => 61
  | .vmem => 0
  | .smem => 0
  | _ => 0

abbrev bufTy : (tb : Table) → Fin (tcTables nBuf tb) → BufTy
  | .hbm, ⟨0, _⟩ => ⟨S65x529x64, .f32⟩
  | .hbm, ⟨1, _⟩ => ⟨S64x64x3x3, .f32⟩
  | .hbm, ⟨2, _⟩ => ⟨S65x23x23x64, .f32⟩
  | .hbm, ⟨3, _⟩ => ⟨S_, .f32⟩
  | .hbm, ⟨4, _⟩ => ⟨S65x21x21x64, .f32⟩
  | .hbm, ⟨5, _⟩ => ⟨S65x21x21x64, .f32⟩
  | .hbm, ⟨6, _⟩ => ⟨S64x64x1x1, .f32⟩
  | .hbm, ⟨7, _⟩ => ⟨S64x64, .f32⟩
  | .hbm, ⟨8, _⟩ => ⟨S65x21x21x64, .f32⟩
  | .hbm, ⟨9, _⟩ => ⟨S65x21x21x64, .f32⟩
  | .hbm, ⟨10, _⟩ => ⟨S65x21x21x64, .f32⟩
  | .hbm, ⟨11, _⟩ => ⟨S64x64x1x1, .f32⟩
  | .hbm, ⟨12, _⟩ => ⟨S64x64, .f32⟩
  | .hbm, ⟨13, _⟩ => ⟨S65x21x21x64, .f32⟩
  | .hbm, ⟨14, _⟩ => ⟨S65x21x21x64, .f32⟩
  | .hbm, ⟨15, _⟩ => ⟨S65x21x21x64, .f32⟩
  | .hbm, ⟨16, _⟩ => ⟨S64x64x1x1, .f32⟩
  | .hbm, ⟨17, _⟩ => ⟨S64x64, .f32⟩
  | .hbm, ⟨18, _⟩ => ⟨S65x21x21x64, .f32⟩
  | .hbm, ⟨19, _⟩ => ⟨S65x21x21x64, .f32⟩
  | .hbm, ⟨20, _⟩ => ⟨S65x21x21x64, .f32⟩
  | .hbm, ⟨21, _⟩ => ⟨S64x64x1x1, .f32⟩
  | .hbm, ⟨22, _⟩ => ⟨S64x64, .f32⟩
  | .hbm, ⟨23, _⟩ => ⟨S65x21x21x64, .f32⟩
  | .hbm, ⟨24, _⟩ => ⟨S65x21x21x64, .f32⟩
  | .hbm, ⟨25, _⟩ => ⟨S65x21x21x64, .f32⟩
  | .hbm, ⟨26, _⟩ => ⟨S64x64x1x1, .f32⟩
  | .hbm, ⟨27, _⟩ => ⟨S64x64, .f32⟩
  | .hbm, ⟨28, _⟩ => ⟨S65x21x21x64, .f32⟩
  | .hbm, ⟨29, _⟩ => ⟨S65x21x21x64, .f32⟩
  | .hbm, ⟨30, _⟩ => ⟨S65x21x21x64, .f32⟩
  | .hbm, ⟨31, _⟩ => ⟨S64x64x1x1, .f32⟩
  | .hbm, ⟨32, _⟩ => ⟨S64x64, .f32⟩
  | .hbm, ⟨33, _⟩ => ⟨S65x21x21x64, .f32⟩
  | .hbm, ⟨34, _⟩ => ⟨S65x21x21x64, .f32⟩
  | .hbm, ⟨35, _⟩ => ⟨S65x21x21x64, .f32⟩
  | .hbm, ⟨36, _⟩ => ⟨S64x64x1x1, .f32⟩
  | .hbm, ⟨37, _⟩ => ⟨S64x64, .f32⟩
  | .hbm, ⟨38, _⟩ => ⟨S65x21x21x64, .f32⟩
  | .hbm, ⟨39, _⟩ => ⟨S65x21x21x64, .f32⟩
  | .hbm, ⟨40, _⟩ => ⟨S65x21x21x64, .f32⟩
  | .hbm, ⟨41, _⟩ => ⟨S64x64x1x1, .f32⟩
  | .hbm, ⟨42, _⟩ => ⟨S64x64, .f32⟩
  | .hbm, ⟨43, _⟩ => ⟨S65x21x21x64, .f32⟩
  | .hbm, ⟨44, _⟩ => ⟨S65x21x21x64, .f32⟩
  | .hbm, ⟨45, _⟩ => ⟨S65x21x21x64, .f32⟩
  | .hbm, ⟨46, _⟩ => ⟨S64x64x1x1, .f32⟩
  | .hbm, ⟨47, _⟩ => ⟨S64x64, .f32⟩
  | .hbm, ⟨48, _⟩ => ⟨S65x21x21x64, .f32⟩
  | .hbm, ⟨49, _⟩ => ⟨S65x21x21x64, .f32⟩
  | .hbm, ⟨50, _⟩ => ⟨S_, .f32⟩
  | .hbm, ⟨51, _⟩ => ⟨S65x64, .f32⟩
  | .hbm, ⟨52, _⟩ => ⟨S65x21x21x64, .f32⟩
  | .hbm, ⟨53, _⟩ => ⟨S_, .f32⟩
  | .hbm, ⟨54, _⟩ => ⟨S65x64, .f32⟩
  | .hbm, ⟨55, _⟩ => ⟨S_, .i32⟩
  | .hbm, ⟨56, _⟩ => ⟨S_, .f32⟩
  | .hbm, ⟨57, _⟩ => ⟨S65x23x23x64, .f32⟩
  | .hbm, ⟨58, _⟩ => ⟨S65x529x64, .f32⟩
  | .hbm, ⟨59, _⟩ => ⟨S65x1x64, .f32⟩
  | .hbm, ⟨60, _⟩ => ⟨S65x1x64, .f32⟩
  | _, _ => ⟨S65x529x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_cst_0 : Ref sig .tc := ⟨.hbm, 50, rfl⟩
abbrev main_v47 : Ref sig .tc := ⟨.hbm, 51, rfl⟩
abbrev main_v48 : Ref sig .tc := ⟨.hbm, 52, rfl⟩
abbrev main_cst_1 : Ref sig .tc := ⟨.hbm, 53, rfl⟩
abbrev main_v49 : Ref sig .tc := ⟨.hbm, 54, rfl⟩
abbrev main_c : Ref sig .tc := ⟨.hbm, 55, rfl⟩
abbrev main_call0_v0 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩

abbrev nD : Nat := 1
abbrev τ : Topo := Topo.v7x

variable {F : FTy → Type} [FloatOps F]
-- ==== Conv86.lean ====
abbrev S65x7396x3 : Shape := ⟨3, ![65, 7396, 3]⟩
abbrev S64x3x3x3 : Shape := ⟨4, ![64, 3, 3, 3]⟩
abbrev S3x3x3x64 : Shape := ⟨4, ![3, 3, 3, 64]⟩
abbrev S9x3x64 : Shape := ⟨3, ![9, 3, 64]⟩
abbrev S_ : Shape := ⟨0, ![]⟩
abbrev S84x84 : Shape := ⟨2, ![84, 84]⟩
abbrev S86x86 : Shape := ⟨2, ![86, 86]⟩
abbrev S7396x1 : Shape := ⟨2, ![7396, 1]⟩
abbrev S65x7396x64 : Shape := ⟨3, ![65, 7396, 64]⟩
abbrev S65x1x64 : Shape := ⟨3, ![65, 1, 64]⟩
abbrev S1x7396x3 : Shape := ⟨3, ![1, 7396, 3]⟩
abbrev S1x7396x64 : Shape := ⟨3, ![1, 7396, 64]⟩
abbrev S1x1x64 : Shape := ⟨3, ![1, 1, 64]⟩
abbrev S7396x3 : Shape := ⟨2, ![7396, 3]⟩
abbrev S87x3 : Shape := ⟨2, ![87, 3]⟩
abbrev S7309x3 : Shape := ⟨2, ![7309, 3]⟩
abbrev S1x3x64 : Shape := ⟨3, ![1, 3, 64]⟩
abbrev S3x64 : Shape := ⟨2, ![3, 64]⟩
abbrev S7396x64 : Shape := ⟨2, ![7396, 64]⟩
abbrev S86x3 : Shape := ⟨2, ![86, 3]⟩
abbrev S7310x3 : Shape := ⟨2, ![7310, 3]⟩
abbrev S85x3 : Shape := ⟨2, ![85, 3]⟩
abbrev S7311x3 : Shape := ⟨2, ![7311, 3]⟩
abbrev S1x3 : Shape := ⟨2, ![1, 3]⟩
abbrev S7395x3 : Shape := ⟨2, ![7395, 3]⟩
abbrev S64 : Shape := ⟨1, ![64]⟩
abbrev S1x64 : Shape := ⟨2, ![1, 64]⟩

abbrev nBuf : Space → Nat
  | .hbm => 13
  | .vmem => 10
  | .smem => 0
  | _ => 0

abbrev bufTy : (tb : Table) → Fin (tcTables nBuf tb) → BufTy
  | .hbm, ⟨0, _⟩ => ⟨S65x7396x3, .f32⟩
  | .hbm, ⟨1, _⟩ => ⟨S64x3x3x3, .f32⟩
  | .hbm, ⟨2, _⟩ => ⟨S3x3x3x64, .f32⟩
  | .hbm, ⟨3, _⟩ => ⟨S9x3x64, .f32⟩
  | .hbm, ⟨4, _⟩ => ⟨S_, .f32⟩
  | .hbm, ⟨5, _⟩ => ⟨S84x84, .f32⟩
  | .hbm, ⟨6, _⟩ => ⟨S_, .i32⟩
  | .hbm, ⟨7, _⟩ => ⟨S_, .f32⟩
  | .hbm, ⟨8, _⟩ => ⟨S86x86, .f32⟩
  | .hbm, ⟨9, _⟩ => ⟨S7396x1, .f32⟩
  | .hbm, ⟨10, _⟩ => ⟨S65x7396x64, .f32⟩
  | .hbm, ⟨11, _⟩ => ⟨S65x1x64, .f32⟩
  | .hbm, ⟨12, _⟩ => ⟨S65x1x64, .f32⟩
  | .local _ .vmem, ⟨0, _⟩ => ⟨S1x7396x3, .f32⟩
  | .local _ .vmem, ⟨1, _⟩ => ⟨S1x7396x3, .f32⟩
  | .local _ .vmem, ⟨2, _⟩ => ⟨S9x3x64, .f32⟩
  | .local _ .vmem, ⟨3, _⟩ => ⟨S7396x1, .f32⟩
  | .local _ .vmem, ⟨4, _⟩ => ⟨S1x7396x64, .f32⟩
  | .local _ .vmem, ⟨5, _⟩ => ⟨S1x7396x64, .f32⟩
  | .local _ .vmem, ⟨6, _⟩ => ⟨S1x1x64, .f32⟩
  | .local _ .vmem, ⟨7, _⟩ => ⟨S1x1x64, .f32⟩
  | .local _ .vmem, ⟨8, _⟩ => ⟨S1x1x64, .f32⟩
  | .local _ .vmem, ⟨9, _⟩ => ⟨S1x1x64, .f32⟩
  | _, _ => ⟨S65x7396x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![65], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x7396x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S7396x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x7396x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Conv86RefIdeal.lean ====
abbrev S65x7396x3 : Shape := ⟨3, ![65, 7396, 3]⟩
abbrev S64x3x3x3 : Shape := ⟨4, ![64, 3, 3, 3]⟩
abbrev S65x86x86x3 : Shape := ⟨4, ![65, 86, 86, 3]⟩
abbrev S_ : Shape := ⟨0, ![]⟩
abbrev S65x84x84x64 : Shape := ⟨4, ![65, 84, 84, 64]⟩
abbrev S65x84x84x3 : Shape := ⟨4, ![65, 84, 84, 3]⟩
abbrev S64x3x1x1 : Shape := ⟨4, ![64, 3, 1, 1]⟩
abbrev S64x3 : Shape := ⟨2, ![64, 3]⟩
abbrev S65x64 : Shape := ⟨2, ![65, 64]⟩
abbrev S65x86x86x64 : Shape := ⟨4, ![65, 86, 86, 64]⟩
abbrev S65x7396x64 : Shape := ⟨3, ![65, 7396, 64]⟩
abbrev S65x1x64 : Shape := ⟨3, ![65, 1, 64]⟩

abbrev nBuf : Space → Nat
  | .hbm => 61
  | .vmem => 0
  | .smem => 0
  | _ => 0

abbrev bufTy : (tb : Table) → Fin (tcTables nBuf tb) → BufTy
  | .hbm, ⟨0, _⟩ => ⟨S65x7396x3, .f32⟩
  | .hbm, ⟨1, _⟩ => ⟨S64x3x3x3, .f32⟩
  | .hbm, ⟨2, _⟩ => ⟨S65x86x86x3, .f32⟩
  | .hbm, ⟨3, _⟩ => ⟨S_, .f32⟩
  | .hbm, ⟨4, _⟩ => ⟨S65x84x84x64, .f32⟩
  | .hbm, ⟨5, _⟩ => ⟨S65x84x84x3, .f32⟩
  | .hbm, ⟨6, _⟩ => ⟨S64x3x1x1, .f32⟩
  | .hbm, ⟨7, _⟩ => ⟨S64x3, .f32⟩
  | .hbm, ⟨8, _⟩ => ⟨S65x84x84x64, .f32⟩
  | .hbm, ⟨9, _⟩ => ⟨S65x84x84x64, .f32⟩
  | .hbm, ⟨10, _⟩ => ⟨S65x84x84x3, .f32⟩
  | .hbm, ⟨11, _⟩ => ⟨S64x3x1x1, .f32⟩
  | .hbm, ⟨12, _⟩ => ⟨S64x3, .f32⟩
  | .hbm, ⟨13, _⟩ => ⟨S65x84x84x64, .f32⟩
  | .hbm, ⟨14, _⟩ => ⟨S65x84x84x64, .f32⟩
  | .hbm, ⟨15, _⟩ => ⟨S65x84x84x3, .f32⟩
  | .hbm, ⟨16, _⟩ => ⟨S64x3x1x1, .f32⟩
  | .hbm, ⟨17, _⟩ => ⟨S64x3, .f32⟩
  | .hbm, ⟨18, _⟩ => ⟨S65x84x84x64, .f32⟩
  | .hbm, ⟨19, _⟩ => ⟨S65x84x84x64, .f32⟩
  | .hbm, ⟨20, _⟩ => ⟨S65x84x84x3, .f32⟩
  | .hbm, ⟨21, _⟩ => ⟨S64x3x1x1, .f32⟩
  | .hbm, ⟨22, _⟩ => ⟨S64x3, .f32⟩
  | .hbm, ⟨23, _⟩ => ⟨S65x84x84x64, .f32⟩
  | .hbm, ⟨24, _⟩ => ⟨S65x84x84x64, .f32⟩
  | .hbm, ⟨25, _⟩ => ⟨S65x84x84x3, .f32⟩
  | .hbm, ⟨26, _⟩ => ⟨S64x3x1x1, .f32⟩
  | .hbm, ⟨27, _⟩ => ⟨S64x3, .f32⟩
  | .hbm, ⟨28, _⟩ => ⟨S65x84x84x64, .f32⟩
  | .hbm, ⟨29, _⟩ => ⟨S65x84x84x64, .f32⟩
  | .hbm, ⟨30, _⟩ => ⟨S65x84x84x3, .f32⟩
  | .hbm, ⟨31, _⟩ => ⟨S64x3x1x1, .f32⟩
  | .hbm, ⟨32, _⟩ => ⟨S64x3, .f32⟩
  | .hbm, ⟨33, _⟩ => ⟨S65x84x84x64, .f32⟩
  | .hbm, ⟨34, _⟩ => ⟨S65x84x84x64, .f32⟩
  | .hbm, ⟨35, _⟩ => ⟨S65x84x84x3, .f32⟩
  | .hbm, ⟨36, _⟩ => ⟨S64x3x1x1, .f32⟩
  | .hbm, ⟨37, _⟩ => ⟨S64x3, .f32⟩
  | .hbm, ⟨38, _⟩ => ⟨S65x84x84x64, .f32⟩
  | .hbm, ⟨39, _⟩ => ⟨S65x84x84x64, .f32⟩
  | .hbm, ⟨40, _⟩ => ⟨S65x84x84x3, .f32⟩
  | .hbm, ⟨41, _⟩ => ⟨S64x3x1x1, .f32⟩
  | .hbm, ⟨42, _⟩ => ⟨S64x3, .f32⟩
  | .hbm, ⟨43, _⟩ => ⟨S65x84x84x64, .f32⟩
  | .hbm, ⟨44, _⟩ => ⟨S65x84x84x64, .f32⟩
  | .hbm, ⟨45, _⟩ => ⟨S65x84x84x3, .f32⟩
  | .hbm, ⟨46, _⟩ => ⟨S64x3x1x1, .f32⟩
  | .hbm, ⟨47, _⟩ => ⟨S64x3, .f32⟩
  | .hbm, ⟨48, _⟩ => ⟨S65x84x84x64, .f32⟩
  | .hbm, ⟨49, _⟩ => ⟨S65x84x84x64, .f32⟩
  | .hbm, ⟨50, _⟩ => ⟨S_, .f32⟩
  | .hbm, ⟨51, _⟩ => ⟨S65x64, .f32⟩
  | .hbm, ⟨52, _⟩ => ⟨S65x84x84x64, .f32⟩
  | .hbm, ⟨53, _⟩ => ⟨S_, .f32⟩
  | .hbm, ⟨54, _⟩ => ⟨S65x64, .f32⟩
  | .hbm, ⟨55, _⟩ => ⟨S_, .i32⟩
  | .hbm, ⟨56, _⟩ => ⟨S_, .f32⟩
  | .hbm, ⟨57, _⟩ => ⟨S65x86x86x64, .f32⟩
  | .hbm, ⟨58, _⟩ => ⟨S65x7396x64, .f32⟩
  | .hbm, ⟨59, _⟩ => ⟨S65x1x64, .f32⟩
  | .hbm, ⟨60, _⟩ => ⟨S65x1x64, .f32⟩
  | _, _ => ⟨S65x7396x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_cst_0 : Ref sig .tc := ⟨.hbm, 50, rfl⟩
abbrev main_v47 : Ref sig .tc := ⟨.hbm, 51, rfl⟩
abbrev main_v48 : Ref sig .tc := ⟨.hbm, 52, rfl⟩
abbrev main_cst_1 : Ref sig .tc := ⟨.hbm, 53, rfl⟩
abbrev main_v49 : Ref sig .tc := ⟨.hbm, 54, rfl⟩
abbrev main_c : Ref sig .tc := ⟨.hbm, 55, rfl⟩
abbrev main_call0_v0 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩

abbrev nD : Nat := 1
abbrev τ : Topo := Topo.v7x

variable {F : FTy → Type} [FloatOps F]
-- ==== Apply.lean ====
abbrev S65x529x64 : Shape := ⟨3, ![65, 529, 64]⟩
abbrev S65x64 : Shape := ⟨2, ![65, 64]⟩
abbrev S_ : Shape := ⟨0, ![]⟩
abbrev S21x21 : Shape := ⟨2, ![21, 21]⟩
abbrev S23x23 : Shape := ⟨2, ![23, 23]⟩
abbrev S529x1 : Shape := ⟨2, ![529, 1]⟩
abbrev S65x1x64 : Shape := ⟨3, ![65, 1, 64]⟩
abbrev S1x529x64 : Shape := ⟨3, ![1, 529, 64]⟩
abbrev S1x1x64 : Shape := ⟨3, ![1, 1, 64]⟩
abbrev S529x64 : Shape := ⟨2, ![529, 64]⟩
abbrev S1x64 : Shape := ⟨2, ![1, 64]⟩

abbrev nBuf : Space → Nat
  | .hbm => 12
  | .vmem => 9
  | .smem => 0
  | _ => 0

abbrev bufTy : (tb : Table) → Fin (tcTables nBuf tb) → BufTy
  | .hbm, ⟨0, _⟩ => ⟨S65x529x64, .f32⟩
  | .hbm, ⟨1, _⟩ => ⟨S65x64, .f32⟩
  | .hbm, ⟨2, _⟩ => ⟨S65x64, .f32⟩
  | .hbm, ⟨3, _⟩ => ⟨S_, .f32⟩
  | .hbm, ⟨4, _⟩ => ⟨S21x21, .f32⟩
  | .hbm, ⟨5, _⟩ => ⟨S_, .i32⟩
  | .hbm, ⟨6, _⟩ => ⟨S_, .f32⟩
  | .hbm, ⟨7, _⟩ => ⟨S23x23, .f32⟩
  | .hbm, ⟨8, _⟩ => ⟨S529x1, .f32⟩
  | .hbm, ⟨9, _⟩ => ⟨S65x1x64, .f32⟩
  | .hbm, ⟨10, _⟩ => ⟨S65x1x64, .f32⟩
  | .hbm, ⟨11, _⟩ => ⟨S65x529x64, .f32⟩
  | .local _ .vmem, ⟨0, _⟩ => ⟨S1x529x64, .f32⟩
  | .local _ .vmem, ⟨1, _⟩ => ⟨S1x529x64, .f32⟩
  | .local _ .vmem, ⟨2, _⟩ => ⟨S1x1x64, .f32⟩
  | .local _ .vmem, ⟨3, _⟩ => ⟨S1x1x64, .f32⟩
  | .local _ .vmem, ⟨4, _⟩ => ⟨S1x1x64, .f32⟩
  | .local _ .vmem, ⟨5, _⟩ => ⟨S1x1x64, .f32⟩
  | .local _ .vmem, ⟨6, _⟩ => ⟨S529x1, .f32⟩
  | .local _ .vmem, ⟨7, _⟩ => ⟨S1x529x64, .f32⟩
  | .local _ .vmem, ⟨8, _⟩ => ⟨S1x529x64, .f32⟩
  | _, _ => ⟨S65x529x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![65], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x529x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S529x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x529x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ApplyRefIdeal.lean ====
abbrev S65x529x64 : Shape := ⟨3, ![65, 529, 64]⟩
abbrev S65x64 : Shape := ⟨2, ![65, 64]⟩
abbrev S65x23x23x64 : Shape := ⟨4, ![65, 23, 23, 64]⟩
abbrev S65x21x21x64 : Shape := ⟨4, ![65, 21, 21, 64]⟩
abbrev S65x1x1x64 : Shape := ⟨4, ![65, 1, 1, 64]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S65x529x64, .f32⟩
  | .hbm, ⟨1, _⟩ => ⟨S65x64, .f32⟩
  | .hbm, ⟨2, _⟩ => ⟨S65x64, .f32⟩
  | .hbm, ⟨3, _⟩ => ⟨S65x23x23x64, .f32⟩
  | .hbm, ⟨4, _⟩ => ⟨S65x21x21x64, .f32⟩
  | .hbm, ⟨5, _⟩ => ⟨S65x1x1x64, .f32⟩
  | .hbm, ⟨6, _⟩ => ⟨S65x21x21x64, .f32⟩
  | .hbm, ⟨7, _⟩ => ⟨S65x21x21x64, .f32⟩
  | .hbm, ⟨8, _⟩ => ⟨S65x1x1x64, .f32⟩
  | .hbm, ⟨9, _⟩ => ⟨S65x21x21x64, .f32⟩
  | .hbm, ⟨10, _⟩ => ⟨S65x21x21x64, .f32⟩
  | .hbm, ⟨11, _⟩ => ⟨S_, .f32⟩
  | .hbm, ⟨12, _⟩ => ⟨S65x21x21x64, .f32⟩
  | .hbm, ⟨13, _⟩ => ⟨S65x21x21x64, .i1⟩
  | .hbm, ⟨14, _⟩ => ⟨S_, .f32⟩
  | .hbm, ⟨15, _⟩ => ⟨S65x21x21x64, .f32⟩
  | .hbm, ⟨16, _⟩ => ⟨S65x21x21x64, .f32⟩
  | .hbm, ⟨17, _⟩ => ⟨S65x21x21x64, .f32⟩
  | .hbm, ⟨18, _⟩ => ⟨S_, .i32⟩
  | .hbm, ⟨19, _⟩ => ⟨S_, .f32⟩
  | .hbm, ⟨20, _⟩ => ⟨S65x23x23x64, .f32⟩
  | .hbm, ⟨21, _⟩ => ⟨S65x529x64, .f32⟩
  | _, _ => ⟨S65x529x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_call1_v0 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Norm.lean ====
abbrev S65x529x64 : Shape := ⟨3, ![65, 529, 64]⟩
abbrev S65x64 : Shape := ⟨2, ![65, 64]⟩
abbrev S65x1x64 : Shape := ⟨3, ![65, 1, 64]⟩
abbrev S65x441x64 : Shape := ⟨3, ![65, 441, 64]⟩
abbrev S1x529x64 : Shape := ⟨3, ![1, 529, 64]⟩
abbrev S1x1x64 : Shape := ⟨3, ![1, 1, 64]⟩
abbrev S1x441x64 : Shape := ⟨3, ![1, 441, 64]⟩
abbrev S529x64 : Shape := ⟨2, ![529, 64]⟩
abbrev S1x64 : Shape := ⟨2, ![1, 64]⟩
abbrev S529 : Shape := ⟨1, ![529]⟩
abbrev S529x1 : Shape := ⟨2, ![529, 1]⟩
abbrev S21x64 : Shape := ⟨2, ![21, 64]⟩
abbrev S1x21x64 : Shape := ⟨3, ![1, 21, 64]⟩

abbrev nBuf : Space → Nat
  | .hbm => 6
  | .vmem => 8
  | .smem => 0
  | _ => 0

abbrev bufTy : (tb : Table) → Fin (tcTables nBuf tb) → BufTy
  | .hbm, ⟨0, _⟩ => ⟨S65x529x64, .f32⟩
  | .hbm, ⟨1, _⟩ => ⟨S65x64, .f32⟩
  | .hbm, ⟨2, _⟩ => ⟨S65x64, .f32⟩
  | .hbm, ⟨3, _⟩ => ⟨S65x1x64, .f32⟩
  | .hbm, ⟨4, _⟩ => ⟨S65x1x64, .f32⟩
  | .hbm, ⟨5, _⟩ => ⟨S65x441x64, .f32⟩
  | .local _ .vmem, ⟨0, _⟩ => ⟨S1x529x64, .f32⟩
  | .local _ .vmem, ⟨1, _⟩ => ⟨S1x529x64, .f32⟩
  | .local _ .vmem, ⟨2, _⟩ => ⟨S1x1x64, .f32⟩
  | .local _ .vmem, ⟨3, _⟩ => ⟨S1x1x64, .f32⟩
  | .local _ .vmem, ⟨4, _⟩ => ⟨S1x1x64, .f32⟩
  | .local _ .vmem, ⟨5, _⟩ => ⟨S1x1x64, .f32⟩
  | .local _ .vmem, ⟨6, _⟩ => ⟨S1x441x64, .f32⟩
  | .local _ .vmem, ⟨7, _⟩ => ⟨S1x441x64, .f32⟩
  | _, _ => ⟨S65x529x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![65], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x529x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x441x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormRefIdeal.lean ====
abbrev S65x529x64 : Shape := ⟨3, ![65, 529, 64]⟩
abbrev S65x64 : Shape := ⟨2, ![65, 64]⟩
abbrev S65x23x23x64 : Shape := ⟨4, ![65, 23, 23, 64]⟩
abbrev S65x21x21x64 : Shape := ⟨4, ![65, 21, 21, 64]⟩
abbrev S65x1x1x64 : Shape := ⟨4, ![65, 1, 1, 64]⟩
abbrev S_ : Shape := ⟨0, ![]⟩
abbrev S65x441x64 : Shape := ⟨3, ![65, 441, 64]⟩
abbrev S65x441 : Shape := ⟨2, ![65, 441]⟩
abbrev S65x441x1 : Shape := ⟨3, ![65, 441, 1]⟩

abbrev nBuf : Space → Nat
  | .hbm => 26
  | .vmem => 0
  | .smem => 0
  | _ => 0

abbrev bufTy : (tb : Table) → Fin (tcTables nBuf tb) → BufTy
  | .hbm, ⟨0, _⟩ => ⟨S65x529x64, .f32⟩
  | .hbm, ⟨1, _⟩ => ⟨S65x64, .f32⟩
  | .hbm, ⟨2, _⟩ => ⟨S65x64, .f32⟩
  | .hbm, ⟨3, _⟩ => ⟨S65x23x23x64, .f32⟩
  | .hbm, ⟨4, _⟩ => ⟨S65x21x21x64, .f32⟩
  | .hbm, ⟨5, _⟩ => ⟨S65x1x1x64, .f32⟩
  | .hbm, ⟨6, _⟩ => ⟨S65x21x21x64, .f32⟩
  | .hbm, ⟨7, _⟩ => ⟨S65x21x21x64, .f32⟩
  | .hbm, ⟨8, _⟩ => ⟨S65x1x1x64, .f32⟩
  | .hbm, ⟨9, _⟩ => ⟨S65x21x21x64, .f32⟩
  | .hbm, ⟨10, _⟩ => ⟨S65x21x21x64, .f32⟩
  | .hbm, ⟨11, _⟩ => ⟨S_, .f32⟩
  | .hbm, ⟨12, _⟩ => ⟨S65x21x21x64, .f32⟩
  | .hbm, ⟨13, _⟩ => ⟨S65x21x21x64, .i1⟩
  | .hbm, ⟨14, _⟩ => ⟨S_, .f32⟩
  | .hbm, ⟨15, _⟩ => ⟨S65x21x21x64, .f32⟩
  | .hbm, ⟨16, _⟩ => ⟨S65x21x21x64, .f32⟩
  | .hbm, ⟨17, _⟩ => ⟨S65x21x21x64, .f32⟩
  | .hbm, ⟨18, _⟩ => ⟨S65x441x64, .f32⟩
  | .hbm, ⟨19, _⟩ => ⟨S65x441x64, .f32⟩
  | .hbm, ⟨20, _⟩ => ⟨S_, .f32⟩
  | .hbm, ⟨21, _⟩ => ⟨S65x441, .f32⟩
  | .hbm, ⟨22, _⟩ => ⟨S65x441x1, .f32⟩
  | .hbm, ⟨23, _⟩ => ⟨S65x441x1, .f32⟩
  | .hbm, ⟨24, _⟩ => ⟨S65x441x64, .f32⟩
  | .hbm, ⟨25, _⟩ => ⟨S65x441x64, .f32⟩
  | _, _ => ⟨S65x529x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_call1_v2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Tail.lean ====
abbrev S65x441x64 : Shape := ⟨3, ![65, 441, 64]⟩
abbrev S25x441x64 : Shape := ⟨3, ![25, 441, 64]⟩
abbrev S5x2205x64 : Shape := ⟨3, ![5, 2205, 64]⟩
abbrev S15x441x64 : Shape := ⟨3, ![15, 441, 64]⟩
abbrev S15x1x5 : Shape := ⟨3, ![15, 1, 5]⟩
abbrev S1x441x64 : Shape := ⟨3, ![1, 441, 64]⟩
abbrev S1x1x5 : Shape := ⟨3, ![1, 1, 5]⟩
abbrev S441x64 : Shape := ⟨2, ![441, 64]⟩
abbrev S1x2205x64 : Shape := ⟨3, ![1, 2205, 64]⟩
abbrev S2205x64 : Shape := ⟨2, ![2205, 64]⟩
abbrev S441x2205 : Shape := ⟨2, ![441, 2205]⟩
abbrev S441 : Shape := ⟨1, ![441]⟩
abbrev S441x1 : Shape := ⟨2, ![441, 1]⟩
abbrev S441x3 : Shape := ⟨2, ![441, 3]⟩
abbrev S1x441x3 : Shape := ⟨3, ![1, 441, 3]⟩
abbrev S1 : Shape := ⟨1, ![1]⟩
abbrev S1x1x1 : Shape := ⟨3, ![1, 1, 1]⟩
abbrev S1x1 : Shape := ⟨2, ![1, 1]⟩
abbrev S1x5 : Shape := ⟨2, ![1, 5]⟩
abbrev S15x5 : Shape := ⟨2, ![15, 5]⟩
abbrev S_ : Shape := ⟨0, ![]⟩
abbrev S15 : Shape := ⟨1, ![15]⟩
abbrev S15x1 : Shape := ⟨2, ![15, 1]⟩
abbrev S5x15 : Shape := ⟨2, ![5, 15]⟩
abbrev S5x10 : Shape := ⟨2, ![5, 10]⟩
abbrev S5x10x1 : Shape := ⟨3, ![5, 10, 1]⟩
abbrev S1x1x15 : Shape := ⟨3, ![1, 1, 15]⟩
abbrev S5x10x15 : Shape := ⟨3, ![5, 10, 15]⟩
abbrev S5x15x1 : Shape := ⟨3, ![5, 15, 1]⟩
abbrev S5x15x3 : Shape := ⟨3, ![5, 15, 3]⟩
abbrev S5x45 : Shape := ⟨2, ![5, 45]⟩
abbrev S5x1x45 : Shape := ⟨3, ![5, 1, 45]⟩
abbrev S25x1x5 : Shape := ⟨3, ![25, 1, 5]⟩
abbrev S441x441 : Shape := ⟨2, ![441, 441]⟩
abbrev S441x45 : Shape := ⟨2, ![441, 45]⟩
abbrev S1x1x45 : Shape := ⟨3, ![1, 1, 45]⟩
abbrev S1x45 : Shape := ⟨2, ![1, 45]⟩
abbrev S441x48 : Shape := ⟨2, ![441, 48]⟩
abbrev S25x5 : Shape := ⟨2, ![25, 5]⟩

abbrev nBuf : Space → Nat
  | .hbm => 44
  | .vmem => 12
  | .smem => 0
  | _ => 0

abbrev bufTy : (tb : Table) → Fin (tcTables nBuf tb) → BufTy
  | .hbm, ⟨0, _⟩ => ⟨S65x441x64, .f32⟩
  | .hbm, ⟨1, _⟩ => ⟨S25x441x64, .f32⟩
  | .hbm, ⟨2, _⟩ => ⟨S25x441x64, .f32⟩
  | .hbm, ⟨3, _⟩ => ⟨S5x2205x64, .f32⟩
  | .hbm, ⟨4, _⟩ => ⟨S15x441x64, .f32⟩
  | .hbm, ⟨5, _⟩ => ⟨S15x1x5, .f32⟩
  | .hbm, ⟨6, _⟩ => ⟨S15x5, .f32⟩
  | .hbm, ⟨7, _⟩ => ⟨S_, .f32⟩
  | .hbm, ⟨8, _⟩ => ⟨S15, .f32⟩
  | .hbm, ⟨9, _⟩ => ⟨S_, .f32⟩
  | .hbm, ⟨10, _⟩ => ⟨S15, .f32⟩
  | .hbm, ⟨11, _⟩ => ⟨S15, .f32⟩
  | .hbm, ⟨12, _⟩ => ⟨S15x1, .f32⟩
  | .hbm, ⟨13, _⟩ => ⟨S15x5, .f32⟩
  | .hbm, ⟨14, _⟩ => ⟨S15x5, .f32⟩
  | .hbm, ⟨15, _⟩ => ⟨S15x5, .f32⟩
  | .hbm, ⟨16, _⟩ => ⟨S_, .f32⟩
  | .hbm, ⟨17, _⟩ => ⟨S15, .f32⟩
  | .hbm, ⟨18, _⟩ => ⟨S15x1, .f32⟩
  | .hbm, ⟨19, _⟩ => ⟨S15x5, .f32⟩
  | .hbm, ⟨20, _⟩ => ⟨S15x5, .f32⟩
  | .hbm, ⟨21, _⟩ => ⟨S5x15, .f32⟩
  | .hbm, ⟨22, _⟩ => ⟨S5x10, .f32⟩
  | .hbm, ⟨23, _⟩ => ⟨S5x10, .i32⟩
  | .hbm, ⟨24, _⟩ => ⟨S5x10x1, .i32⟩
  | .hbm, ⟨25, _⟩ => ⟨S1x1x15, .i32⟩
  | .hbm, ⟨26, _⟩ => ⟨S5x10x15, .i32⟩
  | .hbm, ⟨27, _⟩ => ⟨S5x10x15, .i32⟩
  | .hbm, ⟨28, _⟩ => ⟨S5x10x15, .i1⟩
  | .hbm, ⟨29, _⟩ => ⟨S5x10x15, .f32⟩
  | .hbm, ⟨30, _⟩ => ⟨S_, .f32⟩
  | .hbm, ⟨31, _⟩ => ⟨S5x15, .f32⟩
  | .hbm, ⟨32, _⟩ => ⟨S_, .f32⟩
  | .hbm, ⟨33, _⟩ => ⟨S5x15, .f32⟩
  | .hbm, ⟨34, _⟩ => ⟨S5x15, .f32⟩
  | .hbm, ⟨35, _⟩ => ⟨S_, .f32⟩
  | .hbm, ⟨36, _⟩ => ⟨S5x15, .f32⟩
  | .hbm, ⟨37, _⟩ => ⟨S5x15, .f32⟩
  | .hbm, ⟨38, _⟩ => ⟨S5x15x1, .f32⟩
  | .hbm, ⟨39, _⟩ => ⟨S5x15x3, .f32⟩
  | .hbm, ⟨40, _⟩ => ⟨S5x45, .f32⟩
  | .hbm, ⟨41, _⟩ => ⟨S5x1x45, .f32⟩
  | .hbm, ⟨42, _⟩ => ⟨S25x1x5, .f32⟩
  | .hbm, ⟨43, _⟩ => ⟨S25x5, .f32⟩
  | .local _ .vmem, ⟨0, _⟩ => ⟨S1x441x64, .f32⟩
  | .local _ .vmem, ⟨1, _⟩ => ⟨S1x441x64, .f32⟩
  | .local _ .vmem, ⟨2, _⟩ => ⟨S5x2205x64, .f32⟩
  | .local _ .vmem, ⟨3, _⟩ => ⟨S1x1x5, .f32⟩
  | .local _ .vmem, ⟨4, _⟩ => ⟨S1x1x5, .f32⟩
  | .local _ .vmem, ⟨5, _⟩ => ⟨S1x441x64, .f32⟩
  | .local _ .vmem, ⟨6, _⟩ => ⟨S1x441x64, .f32⟩
  | .local _ .vmem, ⟨7, _⟩ => ⟨S5x2205x64, .f32⟩
  | .local _ .vmem, ⟨8, _⟩ => ⟨S15x441x64, .f32⟩
  | .local _ .vmem, ⟨9, _⟩ => ⟨S5x1x45, .f32⟩
  | .local _ .vmem, ⟨10, _⟩ => ⟨S1x1x5, .f32⟩
  | .local _ .vmem, ⟨11, _⟩ => ⟨S1x1x5, .f32⟩
  | _, _ => ⟨S65x441x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_1 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_values : Ref sig .tc := ⟨.hbm, 22, rfl⟩
abbrev main_indices : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![15], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x441x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x2205x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x441x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S5x2205x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S15x441x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S5x1x45 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x1x5 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== TailRefIdeal.lean ====
abbrev S65x441x64 : Shape := ⟨3, ![65, 441, 64]⟩
abbrev S25x441x64 : Shape := ⟨3, ![25, 441, 64]⟩
abbrev S5x2205x64 : Shape := ⟨3, ![5, 2205, 64]⟩
abbrev S15x441x64 : Shape := ⟨3, ![15, 441, 64]⟩
abbrev S5x2205x15x441 : Shape := ⟨4, ![5, 2205, 15, 441]⟩
abbrev S15x5x441x2205 : Shape := ⟨4, ![15, 5, 441, 2205]⟩
abbrev S15x5x441x3 : Shape := ⟨4, ![15, 5, 441, 3]⟩
abbrev S_ : Shape := ⟨0, ![]⟩
abbrev S15x5 : Shape := ⟨2, ![15, 5]⟩
abbrev S15 : Shape := ⟨1, ![15]⟩
abbrev S15x1 : Shape := ⟨2, ![15, 1]⟩
abbrev S5x15 : Shape := ⟨2, ![5, 15]⟩
abbrev S5x10 : Shape := ⟨2, ![5, 10]⟩
abbrev S5x10x1 : Shape := ⟨3, ![5, 10, 1]⟩
abbrev S1x1x15 : Shape := ⟨3, ![1, 1, 15]⟩
abbrev S5x10x15 : Shape := ⟨3, ![5, 10, 15]⟩
abbrev S5x2205x25x441 : Shape := ⟨4, ![5, 2205, 25, 441]⟩
abbrev S25x5x441x2205 : Shape := ⟨4, ![25, 5, 441, 2205]⟩
abbrev S25x441x15x441 : Shape := ⟨4, ![25, 441, 15, 441]⟩
abbrev S1x5x1x15x1 : Shape := ⟨5, ![1, 5, 1, 15, 1]⟩
abbrev S25x1x441x15x441 : Shape := ⟨5, ![25, 1, 441, 15, 441]⟩
abbrev S25x5x441x15x441 : Shape := ⟨5, ![25, 5, 441, 15, 441]⟩
abbrev S25x5x441x6615 : Shape := ⟨4, ![25, 5, 441, 6615]⟩
abbrev S25x5x441x8820 : Shape := ⟨4, ![25, 5, 441, 8820]⟩
abbrev S25x5x441x3 : Shape := ⟨4, ![25, 5, 441, 3]⟩
abbrev S25x5 : Shape := ⟨2, ![25, 5]⟩

abbrev nBuf : Space → Nat
  | .hbm => 56
  | .vmem => 0
  | .smem => 0
  | _ => 0

abbrev bufTy : (tb : Table) → Fin (tcTables nBuf tb) → BufTy
  | .hbm, ⟨0, _⟩ => ⟨S65x441x64, .f32⟩
  | .hbm, ⟨1, _⟩ => ⟨S25x441x64, .f32⟩
  | .hbm, ⟨2, _⟩ => ⟨S25x441x64, .f32⟩
  | .hbm, ⟨3, _⟩ => ⟨S5x2205x64, .f32⟩
  | .hbm, ⟨4, _⟩ => ⟨S15x441x64, .f32⟩
  | .hbm, ⟨5, _⟩ => ⟨S5x2205x15x441, .f32⟩
  | .hbm, ⟨6, _⟩ => ⟨S15x5x441x2205, .f32⟩
  | .hbm, ⟨7, _⟩ => ⟨S15x5x441x3, .f32⟩
  | .hbm, ⟨8, _⟩ => ⟨S15x5x441x3, .i32⟩
  | .hbm, ⟨9, _⟩ => ⟨S_, .f32⟩
  | .hbm, ⟨10, _⟩ => ⟨S15x5, .f32⟩
  | .hbm, ⟨11, _⟩ => ⟨S_, .f32⟩
  | .hbm, ⟨12, _⟩ => ⟨S15, .f32⟩
  | .hbm, ⟨13, _⟩ => ⟨S_, .f32⟩
  | .hbm, ⟨14, _⟩ => ⟨S15, .f32⟩
  | .hbm, ⟨15, _⟩ => ⟨S15, .f32⟩
  | .hbm, ⟨16, _⟩ => ⟨S15x1, .f32⟩
  | .hbm, ⟨17, _⟩ => ⟨S15x5, .f32⟩
  | .hbm, ⟨18, _⟩ => ⟨S15x5, .f32⟩
  | .hbm, ⟨19, _⟩ => ⟨S15x5, .f32⟩
  | .hbm, ⟨20, _⟩ => ⟨S_, .f32⟩
  | .hbm, ⟨21, _⟩ => ⟨S15, .f32⟩
  | .hbm, ⟨22, _⟩ => ⟨S15x1, .f32⟩
  | .hbm, ⟨23, _⟩ => ⟨S15x5, .f32⟩
  | .hbm, ⟨24, _⟩ => ⟨S15x5, .f32⟩
  | .hbm, ⟨25, _⟩ => ⟨S5x15, .f32⟩
  | .hbm, ⟨26, _⟩ => ⟨S5x10, .f32⟩
  | .hbm, ⟨27, _⟩ => ⟨S5x10, .i32⟩
  | .hbm, ⟨28, _⟩ => ⟨S5x10x1, .i32⟩
  | .hbm, ⟨29, _⟩ => ⟨S1x1x15, .i32⟩
  | .hbm, ⟨30, _⟩ => ⟨S5x10x15, .i32⟩
  | .hbm, ⟨31, _⟩ => ⟨S5x10x15, .i32⟩
  | .hbm, ⟨32, _⟩ => ⟨S5x10x15, .i1⟩
  | .hbm, ⟨33, _⟩ => ⟨S5x10x15, .f32⟩
  | .hbm, ⟨34, _⟩ => ⟨S_, .f32⟩
  | .hbm, ⟨35, _⟩ => ⟨S5x15, .f32⟩
  | .hbm, ⟨36, _⟩ => ⟨S5x2205x25x441, .f32⟩
  | .hbm, ⟨37, _⟩ => ⟨S25x5x441x2205, .f32⟩
  | .hbm, ⟨38, _⟩ => ⟨S25x441x15x441, .f32⟩
  | .hbm, ⟨39, _⟩ => ⟨S1x5x1x15x1, .f32⟩
  | .hbm, ⟨40, _⟩ => ⟨S_, .f32⟩
  | .hbm, ⟨41, _⟩ => ⟨S1x5x1x15x1, .f32⟩
  | .hbm, ⟨42, _⟩ => ⟨S1x5x1x15x1, .i1⟩
  | .hbm, ⟨43, _⟩ => ⟨S25x1x441x15x441, .f32⟩
  | .hbm, ⟨44, _⟩ => ⟨S_, .f32⟩
  | .hbm, ⟨45, _⟩ => ⟨S_, .f32⟩
  | .hbm, ⟨46, _⟩ => ⟨S25x5x441x15x441, .i1⟩
  | .hbm, ⟨47, _⟩ => ⟨S25x5x441x15x441, .f32⟩
  | .hbm, ⟨48, _⟩ => ⟨S25x5x441x15x441, .f32⟩
  | .hbm, ⟨49, _⟩ => ⟨S25x5x441x15x441, .f32⟩
  | .hbm, ⟨50, _⟩ => ⟨S25x5x441x6615, .f32⟩
  | .hbm, ⟨51, _⟩ => ⟨S25x5x441x8820, .f32⟩
  | .hbm, ⟨52, _⟩ => ⟨S25x5x441x3, .f32⟩
  | .hbm, ⟨53, _⟩ => ⟨S25x5x441x3, .i32⟩
  | .hbm, ⟨54, _⟩ => ⟨S_, .f32⟩
  | .hbm, ⟨55, _⟩ => ⟨S25x5, .f32⟩
  | _, _ => ⟨S65x441x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_values : Ref sig .tc := ⟨.hbm, 7, rfl⟩
abbrev main_indices : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_values_3 : Ref sig .tc := ⟨.hbm, 26, rfl⟩
abbrev main_indices_4 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_values_8 : Ref sig .tc := ⟨.hbm, 52, rfl⟩
abbrev main_indices_9 : Ref sig .tc := ⟨.hbm, 53, rfl⟩
abbrev main_cst_10 : Ref sig .tc := ⟨.hbm, 54, rfl⟩
abbrev main_v31 : Ref sig .tc := ⟨.hbm, 55, rfl⟩

abbrev nD : Nat := 1
abbrev τ : Topo := Topo.v7x

variable {F : FTy → Type} [FloatOps F]
-- ==== Pool2.lean ====
abbrev S65x1936x64 : Shape := ⟨3, ![65, 1936, 64]⟩
abbrev S65x64 : Shape := ⟨2, ![65, 64]⟩
abbrev S65x1x64 : Shape := ⟨3, ![65, 1, 64]⟩
abbrev S65x529x64 : Shape := ⟨3, ![65, 529, 64]⟩
abbrev S1x1936x64 : Shape := ⟨3, ![1, 1936, 64]⟩
abbrev S1x1x64 : Shape := ⟨3, ![1, 1, 64]⟩
abbrev S1x529x64 : Shape := ⟨3, ![1, 529, 64]⟩
abbrev S1936x64 : Shape := ⟨2, ![1936, 64]⟩
abbrev S1x64 : Shape := ⟨2, ![1, 64]⟩
abbrev S1935x64 : Shape := ⟨2, ![1935, 64]⟩
abbrev S1892x64 : Shape := ⟨2, ![1892, 64]⟩
abbrev S44x64 : Shape := ⟨2, ![44, 64]⟩
abbrev S529x64 : Shape := ⟨2, ![529, 64]⟩
abbrev S21x64 : Shape := ⟨2, ![21, 64]⟩
abbrev S1x21x64 : Shape := ⟨3, ![1, 21, 64]⟩

abbrev nBuf : Space → Nat
  | .hbm => 6
  | .vmem => 9
  | .smem => 0
  | _ => 0

abbrev bufTy : (tb : Table) → Fin (tcTables nBuf tb) → BufTy
  | .hbm, ⟨0, _⟩ => ⟨S65x1936x64, .f32⟩
  | .hbm, ⟨1, _⟩ => ⟨S65x64, .f32⟩
  | .hbm, ⟨2, _⟩ => ⟨S65x64, .f32⟩
  | .hbm, ⟨3, _⟩ => ⟨S65x1x64, .f32⟩
  | .hbm, ⟨4, _⟩ => ⟨S65x1x64, .f32⟩
  | .hbm, ⟨5, _⟩ => ⟨S65x529x64, .f32⟩
  | .local _ .vmem, ⟨0, _⟩ => ⟨S1x1936x64, .f32⟩
  | .local _ .vmem, ⟨1, _⟩ => ⟨S1x1936x64, .f32⟩
  | .local _ .vmem, ⟨2, _⟩ => ⟨S1x1x64, .f32⟩
  | .local _ .vmem, ⟨3, _⟩ => ⟨S1x1x64, .f32⟩
  | .local _ .vmem, ⟨4, _⟩ => ⟨S1x1x64, .f32⟩
  | .local _ .vmem, ⟨5, _⟩ => ⟨S1x1x64, .f32⟩
  | .local _ .vmem, ⟨6, _⟩ => ⟨S1x529x64, .f32⟩
  | .local _ .vmem, ⟨7, _⟩ => ⟨S1x529x64, .f32⟩
  | .local _ .vmem, ⟨8, _⟩ => ⟨S1936x64, .f32⟩
  | _, _ => ⟨S65x1936x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![65], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1936x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x529x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Pool2RefIdeal.lean ====
abbrev S65x1936x64 : Shape := ⟨3, ![65, 1936, 64]⟩
abbrev S65x64 : Shape := ⟨2, ![65, 64]⟩
abbrev S65x44x44x64 : Shape := ⟨4, ![65, 44, 44, 64]⟩
abbrev S65x42x42x64 : Shape := ⟨4, ![65, 42, 42, 64]⟩
abbrev S65x1x1x64 : Shape := ⟨4, ![65, 1, 1, 64]⟩
abbrev S_ : Shape := ⟨0, ![]⟩
abbrev S65x21x21x64 : Shape := ⟨4, ![65, 21, 21, 64]⟩
abbrev S65x23x23x64 : Shape := ⟨4, ![65, 23, 23, 64]⟩
abbrev S65x529x64 : Shape := ⟨3, ![65, 529, 64]⟩

abbrev nBuf : Space → Nat
  | .hbm => 25
  | .vmem => 0
  | .smem => 0
  | _ => 0

abbrev bufTy : (tb : Table) → Fin (tcTables nBuf tb) → BufTy
  | .hbm, ⟨0, _⟩ => ⟨S65x1936x64, .f32⟩
  | .hbm, ⟨1, _⟩ => ⟨S65x64, .f32⟩
  | .hbm, ⟨2, _⟩ => ⟨S65x64, .f32⟩
  | .hbm, ⟨3, _⟩ => ⟨S65x44x44x64, .f32⟩
  | .hbm, ⟨4, _⟩ => ⟨S65x42x42x64, .f32⟩
  | .hbm, ⟨5, _⟩ => ⟨S65x1x1x64, .f32⟩
  | .hbm, ⟨6, _⟩ => ⟨S65x42x42x64, .f32⟩
  | .hbm, ⟨7, _⟩ => ⟨S65x42x42x64, .f32⟩
  | .hbm, ⟨8, _⟩ => ⟨S65x1x1x64, .f32⟩
  | .hbm, ⟨9, _⟩ => ⟨S65x42x42x64, .f32⟩
  | .hbm, ⟨10, _⟩ => ⟨S65x42x42x64, .f32⟩
  | .hbm, ⟨11, _⟩ => ⟨S_, .f32⟩
  | .hbm, ⟨12, _⟩ => ⟨S65x42x42x64, .f32⟩
  | .hbm, ⟨13, _⟩ => ⟨S65x42x42x64, .i1⟩
  | .hbm, ⟨14, _⟩ => ⟨S_, .f32⟩
  | .hbm, ⟨15, _⟩ => ⟨S65x42x42x64, .f32⟩
  | .hbm, ⟨16, _⟩ => ⟨S65x42x42x64, .f32⟩
  | .hbm, ⟨17, _⟩ => ⟨S65x42x42x64, .f32⟩
  | .hbm, ⟨18, _⟩ => ⟨S_, .f32⟩
  | .hbm, ⟨19, _⟩ => ⟨S_, .f32⟩
  | .hbm, ⟨20, _⟩ => ⟨S65x21x21x64, .f32⟩
  | .hbm, ⟨21, _⟩ => ⟨S_, .i32⟩
  | .hbm, ⟨22, _⟩ => ⟨S_, .f32⟩
  | .hbm, ⟨23, _⟩ => ⟨S65x23x23x64, .f32⟩
  | .hbm, ⟨24, _⟩ => ⟨S65x529x64, .f32⟩
  | _, _ => ⟨S65x1936x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call1_v0 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Proof.Bands.lean ====
/-
  A buffer of `N` rows filled with one value and then stored over band by band: band `k` is the `H` rows that start at
  row `W * (k + 1) + 1`. What the buffer reads afterwards, row by row.
-/
module

public import Idealize.ShloMosaic.Lib.Pipeline.Value
public import Idealize.ShloMosaic.Lib.WritesUnit

@[expose] public section

noncomputable section

namespace Cert.Bands

open Idealize.ShloMosaic Idealize.SL.Sem

variable {Val : EltTy → Type} {e : EltTy} {N H W C : ℕ}

/-- The band of `H` rows from row `W * (n + 1) + 1` lies inside the buffer. -/
theorem inb {n : ℕ} (h : W * (n + 1) + 1 + H ≤ N) :
    ∀ a, (![0, W * (n + 1) + 1, 0] : Fin 3 → ℕ) a + (![1, H, C] : Fin 3 → ℕ) a ≤ (⟨3, ![1, N, C]⟩ : Shape).size a := fun a => by
  match a with
  | ⟨0, _⟩ => exact Nat.le_refl 1
  | ⟨1, _⟩ => exact h
  | ⟨2, _⟩ => exact (Nat.zero_add C).le

theorem inb_all : ∀ a, (![0, 0, 0] : Fin 3 → ℕ) a + (![1, N, C] : Fin 3 → ℕ) a ≤ (⟨3, ![1, N, C]⟩ : Shape).size a := fun a => by
  match a with
  | ⟨0, _⟩ => exact Nat.le_refl 1
  | ⟨1, _⟩ => exact (Nat.zero_add N).le
  | ⟨2, _⟩ => exact (Nat.zero_add C).le

/-- The stores, last first: bands `n - 1, …, 0` of the family `P`, over one store of `Z` to the whole buffer. -/
def pieces {K : ℕ} (hK : W * K + 1 + H ≤ N) (Z : (⟨3, ![1, N, C]⟩ : Shape).Idx → Val e)
    (P : Fin K → (⟨3, ![1, H, C]⟩ : Shape).Idx → Val e) : (n : ℕ) → n ≤ K → List (View.Piece Val ⟨3, ![1, N, C]⟩ e)
  | 0, _ => [⟨Rect.unit ![0, 0, 0] ![1, N, C] inb_all, Z⟩]
  | n + 1, h => ⟨Rect.unit ![0, W * (n + 1) + 1, 0] ![1, H, C]
      (inb (Nat.le_trans (Nat.add_le_add_right (Nat.add_le_add_right (Nat.mul_le_mul_left W h) 1) H) hK)), P ⟨n, h⟩⟩
      :: pieces hK Z P n (Nat.le_of_succ_le h)

variable {K : ℕ} (hK : W * K + 1 + H ≤ N)
variable (Z : (⟨3, ![1, N, C]⟩ : Shape).Idx → Val e) (P : Fin K → (⟨3, ![1, H, C]⟩ : Shape).Idx → Val e)

/-- The fill holds every index. -/
theorem cover : ∀ (n : ℕ) (h : n ≤ K) (y : (⟨3, ![1, N, C]⟩ : Shape).Idx), ∃ p ∈ pieces hK Z P n h, y ∈ p.1.set
  | 0, _, y => ⟨_, List.mem_singleton_self _, View.mem_set_unit_zero (S := ⟨3, ![1, N, C]⟩)
      (funext fun a => by fin_cases a <;> rfl) inb_all y⟩
  | n + 1, h, y => by
    obtain ⟨p, hp, hy⟩ := cover n (Nat.le_of_succ_le h) y
    exact ⟨p, List.mem_cons_of_mem _ hp, hy⟩

variable [∀ e, Nonempty (Val e)]

theorem canon_hit {off size : Fin 3 → ℕ} (hi : ∀ a, off a + size a ≤ (⟨3, ![1, N, C]⟩ : Shape).size a)
    (w : (Rect.unit (s := ⟨3, ![1, N, C]⟩) off size hi).shape.Idx → Val e) (L : List (View.Piece Val ⟨3, ![1, N, C]⟩ e))
    (y : (⟨3, ![1, N, C]⟩ : Shape).Idx) (x : (Rect.unit (s := ⟨3, ![1, N, C]⟩) off size hi).shape.Idx)
    (hx : ∀ a, (y a).val = off a + (x a).val) :
    View.canon ((⟨Rect.unit off size hi, w⟩ : View.Piece Val ⟨3, ![1, N, C]⟩ e) :: L) y = w x := by
  have hy : (Rect.unit (s := ⟨3, ![1, N, C]⟩) off size hi).emb x = y := funext fun a => Fin.ext (by
    show off a + 1 * (x a).val = (y a).val
    rw [hx a, Nat.one_mul])
  rw [← hy]
  exact View.canon_cons_emb _ w L x

theorem canon_miss {off size : Fin 3 → ℕ} (hi : ∀ a, off a + size a ≤ (⟨3, ![1, N, C]⟩ : Shape).size a)
    (w : (Rect.unit (s := ⟨3, ![1, N, C]⟩) off size hi).shape.Idx → Val e) (L : List (View.Piece Val ⟨3, ![1, N, C]⟩ e))
    (y : (⟨3, ![1, N, C]⟩ : Shape).Idx) (ha : (y 1 : ℕ) < off 1 ∨ off 1 + size 1 ≤ (y 1 : ℕ)) :
    View.canon ((⟨Rect.unit off size hi, w⟩ : View.Piece Val ⟨3, ![1, N, C]⟩ e) :: L) y = View.canon L y := by
  refine View.canon_cons_of_not_mem _ L ?_
  rw [Rect.mem_set_unit]
  intro hall
  have := hall 1
  omega

/-- Row `j` of band `k` reads row `j` of `P k`. -/
theorem canon_band (hHW : H ≤ W) : ∀ (n : ℕ) (h : n ≤ K) (k : Fin K) (_ : k.val < n) (y : (⟨3, ![1, N, C]⟩ : Shape).Idx)
    (x : (⟨3, ![1, H, C]⟩ : Shape).Idx) (_ : (y 1 : ℕ) = W * (k.val + 1) + 1 + (x 1 : ℕ)) (_ : (y 2 : ℕ) = (x 2 : ℕ)),
    View.canon (pieces hK Z P n h) y = P k x
  | 0, _, k, hk, _, _, _, _ => absurd hk (Nat.not_lt_zero k)
  | n + 1, h, k, hk, y, x, h1, h2 => by
    have hx : (x 1 : ℕ) < H := (x 1).isLt
    have hy0 : (y 0 : ℕ) = 0 := by have : (y 0 : ℕ) < 1 := (y 0).isLt; omega
    have hx0 : (x 0 : ℕ) = 0 := by have : (x 0 : ℕ) < 1 := (x 0).isLt; omega
    by_cases hkn : k.val = n
    · subst hkn
      exact canon_hit _ (P k) _ y x fun a => by
        match a with
        | ⟨0, _⟩ => exact (show (y 0 : ℕ) = 0 + (x 0 : ℕ) by omega)
        | ⟨1, _⟩ => exact h1
        | ⟨2, _⟩ => exact (show (y 2 : ℕ) = 0 + (x 2 : ℕ) by omega)
    · have hlt : k.val + 1 ≤ n := by omega
      have hm : W * (k.val + 1) ≤ W * n := Nat.mul_le_mul_left W hlt
      have hs : W * (n + 1) = W * n + W := Nat.mul_succ W n
      refine (canon_miss _ (P ⟨n, h⟩) _ y (Or.inl ?_)).trans (canon_band hHW n _ k (by omega) y x h1 h2)
      show (y 1 : ℕ) < W * (n + 1) + 1
      omega

/-- A row in no band reads the fill. -/
theorem canon_fill : ∀ (n : ℕ) (h : n ≤ K) (y : (⟨3, ![1, N, C]⟩ : Shape).Idx)
    (_ : ∀ k < n, (y 1 : ℕ) < W * (k + 1) + 1 ∨ W * (k + 1) + 1 + H ≤ (y 1 : ℕ)),
    View.canon (pieces hK Z P n h) y = Z y
  | 0, _, y, _ => canon_hit _ Z _ y y fun a => by
      match a with
      | ⟨0, _⟩ => exact (Nat.zero_add _).symm
      | ⟨1, _⟩ => exact (Nat.zero_add _).symm
      | ⟨2, _⟩ => exact (Nat.zero_add _).symm
  | n + 1, h, y, hy =>
    (canon_miss _ (P ⟨n, h⟩) _ y (hy n (Nat.lt_succ_self n))).trans
      (canon_fill n _ y fun k hk => hy k (Nat.lt_succ_of_lt hk))

variable {sig : RefSig} {κ : Kind} {sp : Space}

/-- What the stores leave in any buffer, whatever it held. -/
theorem read_pieces (v : View sig κ sp (⟨3, ![1, N, C]⟩ : Shape) e) (f : v.ty.Contents Val) :
    v.read Val (v.writes Val f (pieces hK Z P K (Nat.le_refl K))) = View.canon (pieces hK Z P K (Nat.le_refl K)) :=
  View.read_writes_eq_canon v f _ (cover hK Z P K _)

/-! ## Every second row -/

variable {M : ℕ} (hM : ∀ a, 0 < (⟨2, ![M, C]⟩ : Shape).size a)

include hM in
theorem mod_lt_size (g : Fin 2 → ℕ) (a : Fin 2) : g a % (⟨2, ![M, C]⟩ : Shape).size a < (⟨2, ![M, C]⟩ : Shape).size a :=
  Nat.mod_lt _ (hM a)

/-- Every second row of `X` from row `o` on (row numbers beyond the end taken modulo the extent; none is, below). -/
def evenRows (o : ℕ) (X : (⟨2, ![M, C]⟩ : Shape).Idx → Val e) : (⟨2, ![H, C]⟩ : Shape).Idx → Val e := fun x =>
  X fun a => ⟨_, mod_lt_size hM ![o + 2 * (x 0 : ℕ), (x 1 : ℕ)] a⟩

theorem evenRows_apply {o : ℕ} (X : (⟨2, ![M, C]⟩ : Shape).Idx → Val e) (x : (⟨2, ![H, C]⟩ : Shape).Idx)
    (y : (⟨2, ![M, C]⟩ : Shape).Idx) (h0 : (y 0 : ℕ) = o + 2 * (x 0 : ℕ)) (h1 : (y 1 : ℕ) = (x 1 : ℕ)) :
    evenRows hM o X x = X y := by
  unfold evenRows
  congr 1
  funext a
  refine Fin.ext ?_
  match a with
  | ⟨0, _⟩ => exact (congrArg (· % M) h0.symm).trans (Nat.mod_eq_of_lt (y 0).isLt)
  | ⟨1, _⟩ => exact (congrArg (· % C) h1.symm).trans (Nat.mod_eq_of_lt (y 1).isLt)

/-- A strided load of a buffer that was just written whole. -/
theorem load_evenRows (w : View sig κ sp (⟨2, ![M, C]⟩ : Shape) e) (X : (⟨2, ![M, C]⟩ : Shape).Idx → Val e)
    (hi : ∀ a, (![0, 0] : Fin 2 → ℕ) a + (![M, C] : Fin 2 → ℕ) a ≤ (⟨2, ![M, C]⟩ : Shape).size a) (o : ℕ) (hB) :
    w.readCov (Val := Val) [⟨Rect.unit ![0, 0] ![M, C] hi, X⟩] (⟨![o, 0], ![H, C], ![2, 1], hB⟩ : LoadRect ⟨2, ![M, C]⟩)
      = evenRows hM o X := by
  rw [View.readCov_eq_canon']
  funext x
  rw [View.canon_unit_zero (funext fun a => by fin_cases a <;> rfl)]
  refine (evenRows_apply hM X _ _ ?_ ?_).symm
  · rfl
  · show 0 + 1 * (x 1 : ℕ) = (x 1 : ℕ)
    omega

end Cert.Bands

end
-- ==== Proof.Pool1Run.lean ====
/-
  One grid point of the pooling kernel: what its run leaves in the output block.
-/
module

public import proofs.«01_k».proof.Proof.Gen.Pool1Ideal.Frame
public import proofs.«01_k».proof.Proof.Gen.Pool1Ideal.Skeleton
public import proofs.«01_k».proof.Proof.Bands
public import Idealize.ShloMosaic.Lib.Claim

@[expose] public section

set_option maxRecDepth 16384

noncomputable section

namespace Cert.Pool1Ideal.Body

open Cert.Pool1Ideal Cert.Pool1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0, 0] : Fin 3 → ℕ) = fun _ => 0 := funext fun a => by fin_cases a <;> rfl

theorem pos : ∀ a, 0 < S7396x64.size a := by decide

theorem inb_row (n : Fin 42) : ∀ a, S42x64.size a = 0 ∨
    (![172 * n.val + 87, 0] : Fin 2 → ℕ) a + (![2, 1] : Fin 2 → ℕ) a * (S42x64.size a - 1) < S7396x64.size a := fun a => by
  have := n.isLt
  refine Or.inr ?_
  match a with
  | ⟨0, _⟩ => show 172 * n.val + 87 + 2 * 41 < 7396; omega
  | ⟨1, _⟩ => show 0 + 1 * 63 < 64; omega

/-- The stored band of pooled row `n`: every second row of `X` from row `172 n + 87`. -/
def band (X : Vec F S7396x64 .f32) (n : Fin 42) : Vec F S1x42x64 .f32 :=
  shapeCast S1x42x64 (Cert.Bands.evenRows (Val := Elt F) (e := .f32) pos (172 * n.val + 87) X : Vec F S42x64 .f32) shapeCasts_S42x64_S1x42x64

/-- What the stores leave in the output block: the zero block, then the 42 bands of `X`. -/
def scatter (X : Vec F S7396x64 .f32) : Vec F S1x1936x64 .f32 :=
  View.canon (Cert.Bands.pieces (Val := Elt F) (e := .f32) (W := 44) (H := 42) (K := 42) (by decide) (k0_pay7 (F := F)) (band X) 42 (Nat.le_refl 42))

/-- What the body leaves in the output block. -/
def out (x0 : Vec F S1x7396x64 .f32) (x1 x2 : Vec F S1x1x64 .f32) : Vec F S1x1936x64 .f32 := scatter (k0_pay6 x0 x1 x2)

theorem read_scatter {sg : RefSig} {κ κ' : Kind} {sp sp' : Space} (v : View sg κ sp S1x1936x64 .f32) (f : v.ty.Contents (Elt F))
    (w : View sg κ' sp' S7396x64 .f32) (X X' : Vec F S7396x64 .f32) (hX : X = X') :
    v.read (Elt F) (v.writes (Elt F) f (Cert.Bands.pieces (Val := Elt F) (e := .f32) (W := 44) (H := 42) (K := 42) (by decide) (k0_pay7 (F := F))
      (fun n => shapeCast S1x42x64 (w.readCov (Val := Elt F) [⟨Rect.unit ![0, 0] S7396x64.size inb_S7396x64_S7396x64_0_0, X⟩]
        (⟨![172 * n.val + 87, 0], S42x64.size, ![2, 1], inb_row n⟩ : LoadRect S7396x64) : Vec F S42x64 .f32) shapeCasts_S42x64_S1x42x64)
      42 (Nat.le_refl 42))) = scatter X' := by
  subst hX
  refine (Cert.Bands.read_pieces _ _ _ v f).trans ?_
  unfold scatter
  congr 2
  funext n
  exact congrArg (fun z => shapeCast S1x42x64 z shapeCasts_S42x64_S1x42x64) (Cert.Bands.load_evenRows pos w X _ _ _)

set_option maxHeartbeats 1000000 in
theorem run1 (c : Dev nD) (i : grid0.Coords) (arg1 : Memref sig .tc .vmem S1x7396x64 .f32) (harg1 : arg1.IsWhole) (arg2 : Memref sig .tc .vmem S1x1x64 .f32) (harg2 : arg2.IsWhole) (arg3 : Memref sig .tc .vmem S1x1x64 .f32) (harg3 : arg3.IsWhole) (arg4 : Memref sig .tc .vmem S1x1936x64 .f32) (harg4 : arg4.IsWhole) (arg5 : Memref sig .tc .vmem S7396x64 .f32) (harg5 : arg5.IsWhole)
    (x0 : Vec F S1x7396x64 .f32) (x1 : Vec F S1x1x64 .f32) (x2 : Vec F S1x1x64 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare (out x0 x1 x2) ∗ (∃ d, owns (c : Thread nD τ) arg5 fullShare d)) -∗ K ⟨⟩))
          ⊢ wp frame (wpE (defs₀ (F := F)) Variants.none c none) E (cc0__apply_pool_kern i arg1 harg1 arg2 harg2 arg3 harg3 arg4 harg4 arg5 harg5) K := by
    intro E K
    simp only [cc0__apply_pool_kern_eq_skeleton]; unfold cc0__apply_pool_kern_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg1.eq_unread hf0; obtain rfl := harg2.eq_unread hf1; obtain rfl := harg3.eq_unread hf2
    sl_exec
    sl_step
    iapply Hk
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro
      refine read_scatter _ _ arg5.view _ _ ?_
      rw [View.readAt_eq_ld, View.readAt_eq_ld, View.readAt_eq_ld, hf0, hf1, hf2, View.ld_unit_zero hz, View.ld_unit_zero hz, View.ld_unit_zero hz]
    · iexists _, _; isplitr; swap; · iexact HS0
      ipureintro; rfl

/-! ## The pipeline's data -/

variable (m : (ℓ : Loc nD τ sig) → Buf (Elt F) ℓ) (ρ : Dev nD → PrngReg)

/-- The scratch operand. -/
abbrev scratch : Memref sig .tc .vmem S7396x64 .f32 := Memref.whole cc0_scratch0

/-- The arrays as the region finds them; after the body at a point each input block in place and the output block at `out` of
    the input blocks; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = out (iblk m c 0 t) (iblk m c 1 t) (iblk m c 2 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

theorem Phi_eq (c : Dev nD) : (Pipeline.ΦA spec0 c : sProp 𝕄)
    = iprop(iprop((∃ d, owns (c : Thread nD τ) scratch fullShare d)) ∗ (∃ r, prngReg c r)) := by
  unfold Pipeline.ΦA; rw [scopedRest0_eq]; simp only [scratch, owns_whole]; try rfl

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  rw [show (dats m 0 c).Φ t.castSucc = Pipeline.ΦA spec0 c from rfl, Phi_eq]
  iintro ⟨⟨HS, Hg⟩, Ho, ⟨%d0, H0⟩, ⟨%d1, H1⟩, ⟨%d2, H2⟩, ⟨%d3, H3⟩⟩
  iapply ((run1 c (grid0.coords t) _ _ _ _ _ _ _ _ _ _ (iblk m c 0 t) (iblk m c 1 t) (iblk m c 2 t)) Set.univ _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS Hg]
  · isplitl [HS]
    · iexact HS
    iexact Hg
  isplitl [Ho]; · iexact Ho
  isplitl [H0]; · iexact H0
  isplitl [H1]; · iexact H1
  isplitl [H2]; · iexact H2
  iexact H3

theorem row_defs (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, row_defs]
  exact triple_restated (sound_body m c t) rfl .rfl fun _ => .rfl

set_option backward.isDefEq.respectTransparency.types false in
/-- The launch's run: every array of the pipeline at its contents, every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end unchanged, every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Pool1Ideal.Body

end
-- ==== Proof.Window.lean ====
module

public import Idealize.ShloMosaic.Lib.Pointwise

@[expose] public section

namespace Cert.Window

open Idealize.ShloMosaic

/-- The positions of a two by two window of a rank-four array, in row-major order. -/
theorem pos22 : ∀ n : Fin (⟨4, ![1, 2, 2, 1]⟩ : Shape).numel,
    ((⟨4, ![1, 2, 2, 1]⟩ : Shape).rowMajor.symm n 0).val = 0 ∧ ((⟨4, ![1, 2, 2, 1]⟩ : Shape).rowMajor.symm n 1).val = n.val / 2
      ∧ ((⟨4, ![1, 2, 2, 1]⟩ : Shape).rowMajor.symm n 2).val = n.val % 2 ∧ ((⟨4, ![1, 2, 2, 1]⟩ : Shape).rowMajor.symm n 3).val = 0 := by
  decide +kernel

theorem ofBits_bot : Ideal.ofBits FTy.f32 4286578688#32 = ⊥ := by
  simp [Ideal.ofBits, Ideal.ieee]

/-- Two by two maximum pooling with stride two of a rank-four array, from least element: the maximum of the four. -/
theorem pool22 {N H W C H' W' : Nat} (x : FVec Ideal ⟨4, ![N, H, W, C]⟩ .f32) {u : Shape} (init : FVec Ideal u .f32)
    (h : (⟨4, ![N, H, W, C]⟩ : Shape).ReduceWindows ![1, 2, 2, 1] ![1, 2, 2, 1] ![0, 0, 0, 0] ![0, 0, 0, 0] ⟨4, ![N, H', W', C]⟩)
    (hu : 0 < u.numel) (hi : ∀ k, init k = ⊥) (b : Fin N) (i : Fin H') (j : Fin W') (c : Fin C) (X : Nat → Nat → EReal)
    (hH : 2 * i.val + 1 < H) (hW : 2 * j.val + 1 < W)
    (hx : ∀ (i : Fin H) (j : Fin W), x (ix4 b i j c) = X i.val j.val) :
    Host.reduceWindow (FloatOps.maximumf (F := Ideal) (φ := .f32)) ![1, 2, 2, 1] ![1, 2, 2, 1] ![0, 0, 0, 0] ![0, 0, 0, 0] x init h hu (ix4 b i j c)
      = max (max (X (2 * i.val) (2 * j.val)) (X (2 * i.val) (2 * j.val + 1)))
          (max (X (2 * i.val + 1) (2 * j.val)) (X (2 * i.val + 1) (2 * j.val + 1))) := by
  unfold Host.reduceWindow
  dsimp only
  rw [hi]
  refine Eq.trans (List.foldl_ext _ (fun (r : EReal) (n : Fin (⟨4, ![1, 2, 2, 1]⟩ : Shape).numel) =>
      max r (X (2 * i.val + n.val / 2) (2 * j.val + n.val % 2))) ⊥ (fun r n _ => ?_)) ?_
  · refine congrArg (max r) ?_
    obtain ⟨e0, e1, e2, e3⟩ := pos22 n
    have hn : n.val < 4 := n.isLt
    have hin : ∀ a : Fin 4, (![0, 0, 0, 0] : Fin 4 → Nat) a ≤ ((ix4 b i j c : (⟨4, ![N, H', W', C]⟩ : Shape).Idx) (a.cast h.1.symm)).val * (![1, 2, 2, 1] : Fin 4 → Nat) a + ((⟨4, ![1, 2, 2, 1]⟩ : Shape).rowMajor.symm n a).val
            ∧ ((ix4 b i j c : (⟨4, ![N, H', W', C]⟩ : Shape).Idx) (a.cast h.1.symm)).val * (![1, 2, 2, 1] : Fin 4 → Nat) a + ((⟨4, ![1, 2, 2, 1]⟩ : Shape).rowMajor.symm n a).val - (![0, 0, 0, 0] : Fin 4 → Nat) a < (![N, H, W, C] : Fin 4 → Nat) a := by
      intro a
      match a with
      | ⟨0, _⟩ => exact ⟨Nat.zero_le _, by show b.val * 1 + ((⟨4, ![1, 2, 2, 1]⟩ : Shape).rowMajor.symm n 0).val - 0 < N; have := b.isLt; omega⟩
      | ⟨1, _⟩ => exact ⟨Nat.zero_le _, by show i.val * 2 + ((⟨4, ![1, 2, 2, 1]⟩ : Shape).rowMajor.symm n 1).val - 0 < H; omega⟩
      | ⟨2, _⟩ => exact ⟨Nat.zero_le _, by show j.val * 2 + ((⟨4, ![1, 2, 2, 1]⟩ : Shape).rowMajor.symm n 2).val - 0 < W; omega⟩
      | ⟨3, _⟩ => exact ⟨Nat.zero_le _, by show c.val * 1 + ((⟨4, ![1, 2, 2, 1]⟩ : Shape).rowMajor.symm n 3).val - 0 < C; have := c.isLt; omega⟩
    rw [dif_pos hin]
    refine Eq.trans (congrArg x ?_) (hx ⟨2 * i.val + n.val / 2, by omega⟩ ⟨2 * j.val + n.val % 2, by omega⟩)
    funext a
    apply Fin.ext
    match a with
    | ⟨0, _⟩ => show b.val * 1 + ((⟨4, ![1, 2, 2, 1]⟩ : Shape).rowMajor.symm n 0).val - 0 = b.val; omega
    | ⟨1, _⟩ => show i.val * 2 + ((⟨4, ![1, 2, 2, 1]⟩ : Shape).rowMajor.symm n 1).val - 0 = 2 * i.val + n.val / 2; omega
    | ⟨2, _⟩ => show j.val * 2 + ((⟨4, ![1, 2, 2, 1]⟩ : Shape).rowMajor.symm n 2).val - 0 = 2 * j.val + n.val % 2; omega
    | ⟨3, _⟩ => show c.val * 1 + ((⟨4, ![1, 2, 2, 1]⟩ : Shape).rowMajor.symm n 3).val - 0 = c.val; omega
  have fin4 : ∀ (Y : Nat → EReal), (List.finRange (⟨4, ![1, 2, 2, 1]⟩ : Shape).numel).foldl (fun r n => max r (Y n.val)) ⊥
      = max (max (max (max ⊥ (Y 0)) (Y 1)) (Y 2)) (Y 3) := fun Y => rfl
  refine Eq.trans (fin4 fun n => X (2 * i.val + n / 2) (2 * j.val + n % 2)) ?_
  rw [max_eq_right bot_le, max_assoc]
  rfl

end Cert.Window

end
-- ==== Proof.Pool1Pure.lean ====
module

public import proofs.«01_k».proof.Proof.Pool1Run
public import proofs.«01_k».proof.Proof.Window
public import Idealize.ShloMosaic.Lib.Pointwise

@[expose] public section

set_option maxRecDepth 100000

noncomputable section

namespace Cert.Pool1Ideal.Pure

open Idealize.ShloMosaic Idealize.ShloMosaic.TcCoe
open Cert.Pool1Ideal.Gen

/-- The leaky rectifier with slope 0.2 (the word the program spells). -/
def leaky (z : EReal) : EReal := if 0 ≤ z then z else Ideal.ofBits FTy.f32 1045220557#32 * z

/-- One element of the activated image: the affine map of a row, rectified. -/
def act (x0 : FVec Ideal S1x7396x64 .f32) (x1 x2 : FVec Ideal S1x1x64 .f32) (p : Fin 7396) (ch : Fin 64) : EReal :=
  leaky (x0 (ix3 0 p ch) * x1 (ix3 0 0 ch) + x2 (ix3 0 0 ch))

/-- One element of what the body stages in its scratch: the maximum of four neighbours. -/
theorem pay6_at (x0 : FVec Ideal S1x7396x64 .f32) (x1 x2 : FVec Ideal S1x1x64 .f32) (p : Fin 7396) (hp : p.val + 87 < 7396) (ch : Fin 64) :
    k0_pay6 (F := Ideal) x0 x1 x2 (ix2 p ch)
      = max (max (act x0 x1 x2 p ch) (act x0 x1 x2 ⟨1 + p.val, by omega⟩ ch))
          (max (act x0 x1 x2 ⟨86 + p.val, by omega⟩ ch) (act x0 x1 x2 ⟨1 + (86 + p.val), by omega⟩ ch)) := by
  have h1 : p.val < 7395 := by omega
  have h2 : p.val < 7310 := by omega
  have h3 : 86 + p.val < 7395 := by omega
  pointwise [k0_pay6]
  simp only [dif_pos h1, dif_pos h2, dif_pos h3, act, leaky]

end Cert.Pool1Ideal.Pure

end
-- ==== Proof.Pool1Value.lean ====
module

public import proofs.«01_k».proof.Proof.Pool1Pure
public import proofs.«01_k».proof.Proof.Gen.Pool1RefIdeal
public import Idealize.ShloMosaic.Lib.Pointwise
public import Idealize.ShloMosaic.Lib.Pipeline.ValueKit
public import Idealize.ShloMosaic.Lib.Claim

@[expose] public section

set_option maxRecDepth 16384

noncomputable section

namespace Cert.Pool1Ideal.Value

open Idealize.ShloMosaic Idealize.ShloMosaic.TcCoe Idealize.SL.Sem
open Idealize.ShloMosaic.Pipeline (Dat)
open Cert.Pool1Ideal.Gen Cert.Pool1Ideal.Body Cert.Pool1Ideal.Pure

/-- The affine map and rectifier at image `b`, row `p` of the padded image, channel `ch`. -/
def actAt (a0 : FVec Ideal S65x7396x64 .f32) (a1 a2 : FVec Ideal S65x64 .f32) (b : Fin 65) (ch : Fin 64) (p : Nat) : EReal :=
  if h : p < 7396 then leaky (a0 (ix3 b ⟨p, h⟩ ch) * a1 (ix2 b ch) + a2 (ix2 b ch)) else 0

/-- The pooled image: in the inside of the padded grid the maximum of four activated neighbours, zero on the border. -/
def pooled (a0 : FVec Ideal S65x7396x64 .f32) (a1 a2 : FVec Ideal S65x64 .f32) (b : Fin 65) (r : Nat) (ch : Fin 64) : EReal :=
  if (1 ≤ r / 44 ∧ r / 44 - 1 < 42) ∧ 1 ≤ r % 44 ∧ r % 44 - 1 < 42 then
    max (max (actAt a0 a1 a2 b ch (172 * (r / 44 - 1) + 87 + 2 * (r % 44 - 1)))
          (actAt a0 a1 a2 b ch (172 * (r / 44 - 1) + 87 + 2 * (r % 44 - 1) + 1)))
      (max (actAt a0 a1 a2 b ch (172 * (r / 44 - 1) + 87 + 2 * (r % 44 - 1) + 86))
        (actAt a0 a1 a2 b ch (172 * (r / 44 - 1) + 87 + 2 * (r % 44 - 1) + 87)))
  else 0

def target (a0 : FVec Ideal S65x7396x64 .f32) (a1 a2 : FVec Ideal S65x64 .f32) : FVec Ideal S65x1936x64 .f32 :=
  fun i => pooled a0 a1 a2 (i 0) (i 1).val (i 2)

theorem idx : ∀ t : Fin cfg0.N, win0_0.index t = ![t.val, 0, 0] ∧ win0_1.index t = ![t.val, 0, 0] ∧ win0_2.index t = ![t.val, 0, 0]
    ∧ win0_3.index t = ![t.val, 0, 0] :=
  (by decide +kernel : ∀ t : Fin grid0.N, _)

theorem zero_bits : Ideal.ofBits FTy.f32 0#32 = 0 := by simp [Ideal.ofBits, Ideal.ieee]

/-- One element of the band stored for pooled row `n`. -/
theorem band_at (X : FVec Ideal S7396x64 .f32) (n s : Fin 42) (ch : Fin 64) (hb : 172 * n.val + 87 + 2 * s.val < 7396) :
    band (F := Ideal) X n (ix3 0 s ch) = X (ix2 ⟨172 * n.val + 87 + 2 * s.val, hb⟩ ch) := by
  pointwise [band]
  exact Cert.Bands.evenRows_apply (Val := Elt Ideal) (e := .f32) pos X (ix2 s ch) (ix2 ⟨172 * n.val + 87 + 2 * s.val, hb⟩ ch) rfl rfl

/-- The output block at an element of band `n`. -/
theorem scatter_hit (X : FVec Ideal S7396x64 .f32) (n s : Fin 42) (ch : Fin 64) (y : S1x1936x64.Idx)
    (h1 : (y 1).val = 44 * (n.val + 1) + 1 + s.val) (h2 : (y 2).val = ch.val) :
    scatter (F := Ideal) X y = band (F := Ideal) X n (ix3 0 s ch) := by
  unfold scatter
  exact Cert.Bands.canon_band (Val := Elt Ideal) (e := .f32) (W := 44) (H := 42) (N := 1936) (C := 64) (K := 42) (by decide)
    (k0_pay7 (F := Ideal)) (band (F := Ideal) X) (by decide) 42 (Nat.le_refl 42) n n.isLt y (ix3 0 s ch) h1 h2

/-- The output block outside every band: zero. -/
theorem scatter_fill (X : FVec Ideal S7396x64 .f32) (y : S1x1936x64.Idx)
    (h : ∀ k < 42, (y 1).val < 44 * (k + 1) + 1 ∨ 44 * (k + 1) + 1 + 42 ≤ (y 1).val) : scatter (F := Ideal) X y = (0 : EReal) := by
  unfold scatter
  refine (Cert.Bands.canon_fill (Val := Elt Ideal) (e := .f32) (W := 44) (H := 42) (N := 1936) (C := 64) (K := 42) (by decide)
    (k0_pay7 (F := Ideal)) (band (F := Ideal) X) 42 (Nat.le_refl 42) y h).trans ?_
  pointwise [k0_pay7]

/-- The output block of blocks whose elements are named: the pooled image of one `b`. -/
theorem out_at (a0 : FVec Ideal S65x7396x64 .f32) (a1 a2 : FVec Ideal S65x64 .f32) (b : Fin 65) (x0 : FVec Ideal S1x7396x64 .f32) (x1 x2 : FVec Ideal S1x1x64 .f32)
    (h0 : ∀ p ch, x0 (ix3 0 p ch) = a0 (ix3 b p ch)) (h1 : ∀ ch, x1 (ix3 0 0 ch) = a1 (ix2 b ch)) (h2 : ∀ ch, x2 (ix3 0 0 ch) = a2 (ix2 b ch))
    (y : S1x1936x64.Idx) (r : Nat) (ch : Fin 64) (hy : (y 1).val = r) (hy2 : (y 2).val = ch.val) :
    out (F := Ideal) x0 x1 x2 y = pooled a0 a1 a2 b r ch := by
  have hact : ∀ (p : Fin 7396) q, p.val = q → act x0 x1 x2 p ch = actAt a0 a1 a2 b ch q := fun p q hp => by
    subst hp
    rw [act, actAt, dif_pos p.isLt, h0, h1, h2]
  have hr : r < 1936 := hy ▸ (y 1).isLt
  unfold pooled
  split
  · next h =>
    obtain ⟨⟨hq1, hq⟩, hs1, hs⟩ := h
    have hp : 172 * (r / 44 - 1) + 87 + 2 * (r % 44 - 1) + 87 < 7396 := by omega
    refine (scatter_hit _ ⟨_, hq⟩ ⟨_, hs⟩ ch y (by rw [hy]; dsimp only; omega) hy2).trans ?_
    refine (band_at _ _ _ _ (by dsimp only; omega)).trans ?_
    refine (pay6_at x0 x1 x2 _ hp ch).trans ?_
    refine congrArg₂ max (congrArg₂ max ?_ ?_) (congrArg₂ max ?_ ?_) <;> exact hact _ _ (by first | (dsimp only; done) | (dsimp only; omega))
  · next h =>
    exact scatter_fill _ y (by rw [hy]; omega)

theorem final (m : (ℓ : Loc nD τ sig) → Buf (Elt Ideal) ℓ) (c : Dev nD) :
    (dats m 0 c).arrAt 3 (cfgs 0).N = target (m (c.tc.loc main_arg0)) (m (c.tc.loc main_arg1)) (m (c.tc.loc main_arg2)) := by
  refine (dats m 0 c).arrAt_eq_of_covers 3 _ (by decide +kernel) fun t _ y => ?_
  blk_simp [idx t]
  rw [after3]
  refine (out_at (m (c.tc.loc main_arg0)) (m (c.tc.loc main_arg1)) (m (c.tc.loc main_arg2)) ⟨t.val, t.isLt⟩ _ _ _ (fun p ch => ?_) (fun ch => ?_) (fun ch => ?_) y _ _ rfl rfl).trans ?_
  · blk_point [iblk, V, idx t]
  · blk_point [iblk, V, idx t]
  · blk_point [iblk, V, idx t]
  · show _ = pooled _ _ _ _ _ _
    congr 1
    · exact Fin.ext (by blk_simp [idx t])
    · blk_simp [idx t]
    · exact Fin.ext (by blk_simp [idx t])

end Cert.Pool1Ideal.Value

namespace Cert.Pool1RefIdeal.Value

open Idealize.ShloMosaic Idealize.ShloMosaic.TcCoe Idealize.SL.Sem
open Cert.Pool1RefIdeal.Gen
open Cert.Pool1Ideal.Value (actAt pooled target zero_bits)
open Cert.Pool1Ideal.Pure (leaky)

/-- The affine map of the inside of the image, as the reference writes it. -/
def affine (a0 : FVec Ideal S65x7396x64 .f32) (a1 a2 : FVec Ideal S65x64 .f32) : FVec Ideal S65x84x84x64 .f32 :=
  addf
    (mulf
      (extractStridedSlice S65x84x84x64 ![0, 1, 1, 0] (shapeCast S65x86x86x64 a0 shapeCasts_S65x7396x64_S65x86x86x64)
        slices_S65x86x86x64_S65x84x84x64_0_1_1_0)
      (broadcastInDim S65x84x84x64 ![0, 1, 2, 3] bcast_S65x1x1x64_S65x84x84x64_0_1_2_3
        (broadcastInDim S65x1x1x64 ![0, 3] bcast_S65x64_S65x1x1x64_0_3 a1)))
    (broadcastInDim S65x84x84x64 ![0, 1, 2, 3] bcast_S65x1x1x64_S65x84x84x64_0_1_2_3
      (broadcastInDim S65x1x1x64 ![0, 3] bcast_S65x64_S65x1x1x64_0_3 a2))

/-- The rectifier on top of it. -/
def rectified (a0 : FVec Ideal S65x7396x64 .f32) (a1 a2 : FVec Ideal S65x64 .f32) : FVec Ideal S65x84x84x64 .f32 :=
  select (cmpf .oge (affine a0 a1 a2) (broadcastInDim S65x84x84x64 ![] bcast_S_S65x84x84x64 (constant S_ FTy.f32 0#32)))
    (affine a0 a1 a2)
    (mulf (broadcastInDim S65x84x84x64 ![] bcast_S_S65x84x84x64 (constant S_ FTy.f32 1045220557#32)) (affine a0 a1 a2))

/-- The maximum over windows of two by two. -/
def windows (a0 : FVec Ideal S65x7396x64 .f32) (a1 a2 : FVec Ideal S65x64 .f32) : FVec Ideal S65x42x42x64 .f32 :=
  Host.reduceWindow FloatOps.maximumf ![1, 2, 2, 1] ![1, 2, 2, 1] ![0, 0, 0, 0] ![0, 0, 0, 0] (rectified a0 a1 a2)
    (broadcastInDim S_ ![] bcast_S_S_ (constant S_ FTy.f32 4286578688#32) : FVec Ideal S_ .f32)
    reduceWindows_S65x84x84x64_S65x42x42x64_w1s1p0_0_w2s2p0_0_w2s2p0_0_w1s1p0_0 h_S_

/-- The reference's result over its three arguments. -/
def REF (a0 : FVec Ideal S65x7396x64 .f32) (a1 a2 : FVec Ideal S65x64 .f32) : FVec Ideal S65x1936x64 .f32 :=
  shapeCast S65x1936x64 (pad S65x44x44x64 ![0, 1, 1, 0] ![0, 1, 1, 0] ![0, 0, 0, 0] (windows a0 a1 a2)
    (sitofp FTy.f32 (constantI S_ 32 0#32) : FVec Ideal S_ .f32) pads_S65x42x42x64_S65x44x44x64_000_110_110_000 h_S_) shapeCasts_S65x44x44x64_S65x1936x64

theorem rectified_at (a0 : FVec Ideal S65x7396x64 .f32) (a1 a2 : FVec Ideal S65x64 .f32) (b : Fin 65) (i j : Fin 84) (ch : Fin 64) :
    rectified a0 a1 a2 (ix4 b i j ch) = actAt a0 a1 a2 b ch (86 * (i.val + 1) + (j.val + 1)) := by
  rw [actAt, dif_pos (by omega)]
  have e : (1 + i.val) * 86 + (1 + j.val) = 86 * (i.val + 1) + (j.val + 1) := by omega
  pointwise [rectified, affine, leaky]
  simp only [e]

theorem windows_at (a0 : FVec Ideal S65x7396x64 .f32) (a1 a2 : FVec Ideal S65x64 .f32) (b : Fin 65) (i j : Fin 42) (ch : Fin 64) :
    windows a0 a1 a2 (ix4 b i j ch) =
      max (max (actAt a0 a1 a2 b ch (86 * (2 * i.val + 1) + (2 * j.val + 1))) (actAt a0 a1 a2 b ch (86 * (2 * i.val + 1) + (2 * j.val + 1 + 1))))
        (max (actAt a0 a1 a2 b ch (86 * (2 * i.val + 1 + 1) + (2 * j.val + 1))) (actAt a0 a1 a2 b ch (86 * (2 * i.val + 1 + 1) + (2 * j.val + 1 + 1)))) :=
  Cert.Window.pool22 (rectified a0 a1 a2) _ _ _ (fun _ => Cert.Window.ofBits_bot) b i j ch (fun p q => actAt a0 a1 a2 b ch (86 * (p + 1) + (q + 1)))
    (by omega) (by omega) (fun p q => rectified_at a0 a1 a2 b p q ch)

theorem REF_eq (a0 : FVec Ideal S65x7396x64 .f32) (a1 a2 : FVec Ideal S65x64 .f32) : REF a0 a1 a2 = target a0 a1 a2 := by
  funext y
  idx_vars y
  pointwise [REF, target]
  unfold pooled
  by_cases h : (1 ≤ y1.val / 44 ∧ y1.val / 44 - 1 < 42) ∧ 1 ≤ y1.val % 44 ∧ y1.val % 44 - 1 < 42
  · rw [dif_pos h, if_pos h, windows_at]
    congr 2 <;> congr 1 <;> (dsimp only; omega)
  · rw [dif_neg h, if_neg h]
    simp [FloatOps.sitofp]

end Cert.Pool1RefIdeal.Value
end
-- ==== Proof.TopThree.lean ====
module

public import Idealize.ShloMosaic.Lib.Pointwise
public import Idealize.ShloMosaic.Lib.SortFacts

@[expose] public section

/-! The three largest members of a finite family of extended reals, found by three rounds of "take the
maximum, then overwrite every member that reaches it by −4". -/

namespace Cert.TopThree

/-- The value that overwrites a member already taken. -/
noncomputable def low : EReal := ((-4 : ℝ) : EReal)

section Rounds
variable {ι : Type} [Fintype ι]

/-- The largest member. -/
noncomputable def top (x : ι → EReal) : EReal := Finset.univ.sup x

/-- The family with its largest member overwritten. -/
noncomputable def cut (x : ι → EReal) (i : ι) : EReal := if top x ≤ x i then low else x i

/-- What the three rounds take, in order. -/
noncomputable def best (x : ι → EReal) : Fin 3 → EReal
  | 0 => top x
  | 1 => top (cut x)
  | 2 => top (cut (cut x))

theorem le_top (x : ι → EReal) (i : ι) : x i ≤ top x := Finset.le_sup (Finset.mem_univ i)

theorem top_mem [Nonempty ι] (x : ι → EReal) : ∃ i, x i = top x := by
  obtain ⟨i, _, h⟩ := Finset.exists_mem_eq_sup Finset.univ Finset.univ_nonempty x
  exact ⟨i, h.symm⟩

theorem top_eq {x : ι → EReal} {v : EReal} {i : ι} (hi : x i = v) (h : ∀ i, x i ≤ v) : top x = v :=
  le_antisymm (Finset.sup_le fun i _ => h i) (hi ▸ le_top x i)

theorem cut_cases (x : ι → EReal) (i : ι) : cut x i = low ∨ cut x i = x i ∧ x i < top x := by
  unfold cut
  split
  · exact .inl rfl
  · rename_i h
    exact .inr ⟨rfl, not_le.1 h⟩

theorem cut_keeps {x : ι → EReal} {i : ι} (h : x i ≠ top x) : cut x i = x i := by
  unfold cut
  rw [if_neg fun h' => h (le_antisymm (le_top x i) h')]

/-- Each taken value is a member or −4. -/
theorem best_mem [Nonempty ι] (x : ι → EReal) (k : Fin 3) : best x k = low ∨ ∃ i, x i = best x k := by
  match k with
  | 0 => exact .inr (top_mem x)
  | 1 =>
    obtain ⟨i, hi⟩ := top_mem (cut x)
    rcases cut_cases x i with h | h
    · exact .inl (hi.symm.trans h)
    · exact .inr ⟨i, h.1.symm.trans hi⟩
  | 2 =>
    obtain ⟨i, hi⟩ := top_mem (cut (cut x))
    rcases cut_cases (cut x) i with h | h
    · exact .inl (hi.symm.trans h)
    · rcases cut_cases x i with h' | h'
      · exact .inl ((hi.symm.trans h.1).trans h')
      · exact .inr ⟨i, ((hi.symm.trans h.1).trans h'.1).symm⟩

/-- `x` has no member above `v3` other than `v1` and `v2`, which are larger in that order. -/
structure Below (x : ι → EReal) (v1 v2 v3 : EReal) : Prop where
  first : v2 < v1
  second : v3 < v2
  third : low < v3
  all : ∀ i, x i = v1 ∨ x i = v2 ∨ x i ≤ v3

variable {x : ι → EReal} {v1 v2 v3 : EReal}

theorem Below.le (h : Below x v1 v2 v3) (i : ι) : x i ≤ v1 := by
  rcases h.all i with e | e | e
  · exact e.le
  · exact e.le.trans h.first.le
  · exact e.trans (h.second.trans h.first).le

theorem Below.one (h : Below x v1 v2 v3) {i : ι} (hi : x i = v1) : best x 0 = v1 := top_eq hi h.le

/-- Members below the maximum, when `v1` is not the one taken first or is. -/
theorem Below.two (h : Below x v1 v2 v3) {i : ι} (hi : x i = v2) :
    (top x = v2 ∨ top x = v1 ∧ top (cut x) = v2) := by
  haveI : Nonempty ι := ⟨i⟩
  by_cases e : x i = top x
  · exact .inl (e.symm.trans hi)
  · have ht : top x = v1 := by
      obtain ⟨m, hm⟩ := top_mem x
      have hlt : v2 < top x := hi ▸ lt_of_le_of_ne (le_top x i) e
      rcases h.all m with k | k | k
      · exact hm.symm.trans k
      · exact absurd (hm.symm.trans k) hlt.ne'
      · exact absurd (hm ▸ k) (not_le.2 (h.second.trans hlt))
    refine .inr ⟨ht, top_eq ((cut_keeps e).trans hi) fun m => ?_⟩
    rcases cut_cases x m with k | ⟨k, k'⟩
    · rw [k]
      exact (h.third.trans h.second).le
    · rw [k]
      rcases h.all m with w | w | w
      · exact absurd (w.trans ht.symm) k'.ne
      · exact w.le
      · exact w.trans h.second.le

/-- A member `v3` is among the three values taken. -/
theorem Below.three (h : Below x v1 v2 v3) {i : ι} (hi : x i = v3) : ∃ k, best x k = v3 := by
  haveI : Nonempty ι := ⟨i⟩
  by_cases e : x i = top x
  · exact ⟨0, e.symm.trans hi⟩
  have e1 := cut_keeps e
  by_cases f : cut x i = top (cut x)
  · exact ⟨1, (f.symm.trans e1).trans hi⟩
  have f1 := cut_keeps f
  refine ⟨2, top_eq ((f1.trans e1).trans hi) fun m => ?_⟩
  rcases cut_cases (cut x) m with k | ⟨k, kt⟩
  · rw [k]
    exact h.third.le
  rcases cut_cases x m with w | ⟨w, wt⟩
  · rw [k, w]
    exact h.third.le
  rw [k, w]
  rcases h.all m with z | z | z
  · obtain ⟨n, hn⟩ := top_mem x
    exact absurd (hn ▸ h.le n) (not_le.2 (z ▸ wt))
  · obtain ⟨n, hn⟩ := top_mem (cut x)
    have big : v2 < top (cut x) := by
      rw [w, z] at kt
      exact kt
    rcases cut_cases x n with u | ⟨u, ut⟩
    · rw [← hn, u] at big
      exact absurd (h.third.trans (h.second.trans big)) (lt_irrefl _)
    · have vn : v2 < x n := by
        rw [← u, hn]
        exact big
      rcases h.all n with y | y | y
      · obtain ⟨n', hn'⟩ := top_mem x
        exact absurd (hn' ▸ h.le n') (not_le.2 (y ▸ ut))
      · exact absurd y vn.ne'
      · exact absurd (vn.trans_le y) (not_lt.2 h.second.le)
  · exact z

/-- With all three among the members, the rounds take exactly them. -/
theorem Below.best_eq (h : Below x v1 v2 v3) {i1 i2 i3 : ι} (h1 : x i1 = v1) (h2 : x i2 = v2) (h3 : x i3 = v3) :
    best x 0 = v1 ∧ best x 1 = v2 ∧ best x 2 = v3 := by
  have a := h.one h1
  have b : top (cut x) = v2 := by
    rcases h.two h2 with e | e
    · exact absurd (e.symm.trans a) h.first.ne
    · exact e.2
  refine ⟨a, b, ?_⟩
  obtain ⟨k, hk⟩ := h.three h3
  match k with
  | 0 => exact absurd (hk.symm.trans a) (h.second.trans h.first).ne
  | 1 => exact absurd (hk.symm.trans b) h.second.ne
  | 2 => exact hk

end Rounds

section Merge
variable {κ α β τ : Type} [Fintype κ] [Fintype α] [Fintype β] [Nonempty α] [Nonempty β]

theorem low_lt : low < ((-3 : ℝ) : EReal) := EReal.coe_lt_coe_iff.2 (by norm_num)

/-- **Taking three from every part and then three of what was taken.**  `own` counts always; part `t` of `extra`
counts only where `on t`, and what it gave is lowered by 4 elsewhere.  When all members lie in [−1, 1], and
`v1 > v2 > v3` are the three largest of the members that count, the rounds over the taken values end at them. -/
theorem merge {cand : κ → EReal} {own : α → EReal} {extra : τ → β → EReal} {on : τ → Prop} {cm : τ → EReal}
    {v1 v2 v3 : EReal}
    (hcand : ∀ l, (∃ k, cand l = best own k) ∨ ∃ t k, cand l = best (extra t) k + cm t)
    (hown : ∀ k, ∃ l, cand l = best own k) (hextra : ∀ t k, ∃ l, cand l = best (extra t) k + cm t)
    (hon : ∀ t, on t → cm t = 0) (hoff : ∀ t, ¬ on t → cm t = low)
    (hle : ∀ t m, extra t m ≤ 1)
    (h12 : v2 < v1) (h23 : v3 < v2) (h3 : -1 ≤ v3)
    (aown : ∀ m, own m = v1 ∨ own m = v2 ∨ own m ≤ v3)
    (aextra : ∀ t, on t → ∀ m, extra t m = v1 ∨ extra t m = v2 ∨ extra t m ≤ v3)
    (att : ∀ v, v = v1 ∨ v = v2 ∨ v = v3 → (∃ m, own m = v) ∨ ∃ t, on t ∧ ∃ m, extra t m = v) :
    best cand 0 = v1 ∧ best cand 1 = v2 ∧ best cand 2 = v3 := by
  have hm1 : ((-3 : ℝ) : EReal) < v3 := lt_of_lt_of_le (by
    rw [show (-1 : EReal) = ((-1 : ℝ) : EReal) from by norm_num]
    exact EReal.coe_lt_coe_iff.2 (by norm_num)) h3
  have hlow : low < v3 := low_lt.trans hm1
  have bo : Below own v1 v2 v3 := ⟨h12, h23, hlow, aown⟩
  have be : ∀ t, on t → Below (extra t) v1 v2 v3 := fun t ht => ⟨h12, h23, hlow, aextra t ht⟩
  have find : ∀ {ι : Type} [Fintype ι] {x : ι → EReal}, Below x v1 v2 v3 → ∀ v, v = v1 ∨ v = v2 ∨ v = v3 →
      (∃ m, x m = v) → ∃ k, best x k = v := by
    intro ι _ x b v hv hm
    obtain ⟨m, hm⟩ := hm
    rcases hv with rfl | rfl | rfl
    · exact ⟨0, b.one hm⟩
    · rcases b.two hm with e | e
      · exact ⟨0, e⟩
      · exact ⟨1, e.2⟩
    · exact b.three hm
  have got : ∀ v, v = v1 ∨ v = v2 ∨ v = v3 → ∃ l, cand l = v := by
    intro v hv
    rcases att v hv with hm | ⟨t, ht, hm⟩
    · obtain ⟨k, hk⟩ := find bo v hv hm
      obtain ⟨l, hl⟩ := hown k
      exact ⟨l, hl.trans hk⟩
    · obtain ⟨k, hk⟩ := find (be t ht) v hv hm
      obtain ⟨l, hl⟩ := hextra t k
      exact ⟨l, by rw [hl, hk, hon t ht, add_zero]⟩
  have member : ∀ {ι : Type} [Fintype ι] [Nonempty ι] {x : ι → EReal}, (∀ m, x m = v1 ∨ x m = v2 ∨ x m ≤ v3) →
      ∀ k, best x k = v1 ∨ best x k = v2 ∨ best x k ≤ v3 := by
    intro ι _ _ x hx k
    rcases best_mem x k with e | ⟨m, e⟩
    · exact .inr (.inr (e ▸ hlow.le))
    · exact e ▸ hx m
  have bc : Below cand v1 v2 v3 := ⟨h12, h23, hlow, by
    intro l
    rcases hcand l with ⟨k, e⟩ | ⟨t, k, e⟩
    · rw [e]
      exact member aown k
    · by_cases ht : on t
      · rw [e, hon t ht, add_zero]
        exact member (aextra t ht) k
      · refine .inr (.inr ?_)
        rw [e, hoff t ht]
        have : best (extra t) k ≤ 1 := by
          rcases best_mem (extra t) k with e | ⟨m, e⟩
          · rw [e]
            exact (EReal.coe_le_coe_iff.2 (by norm_num : (-4 : ℝ) ≤ 1))
          · exact e ▸ hle t m
        refine (add_le_add_left this low).trans (le_trans ?_ hm1.le)
        rw [low, ← EReal.coe_one, ← EReal.coe_add]
        exact EReal.coe_le_coe_iff.2 (by norm_num)⟩
  obtain ⟨l1, e1⟩ := got v1 (.inl rfl)
  obtain ⟨l2, e2⟩ := got v2 (.inr (.inl rfl))
  obtain ⟨l3, e3⟩ := got v3 (.inr (.inr rfl))
  exact bc.best_eq e1 e2 e3

end Merge

end Cert.TopThree
-- ==== Proof.Rows.lean ====
module

public import proofs.«01_k».proof.Proof.TopThree
public import proofs.«01_k».proof.Proof.Gen.FinalIdeal.Frame
public import Idealize.ShloMosaic.Lib.Pointwise
public import Idealize.ShloMosaic.Lib.Pipeline.ValueKit
public import Idealize.ShloMosaic.Lib.Claim

@[expose] public section

set_option maxRecDepth 16384

noncomputable section

namespace Cert.FinalIdeal.Rows

open Idealize.ShloMosaic
open Cert.FinalIdeal.Gen
open Cert.TopThree

section Text
variable {F : FTy → Type} [FloatOps F] {N : Nat}

/-- Every row's maximum, as a column. -/
def rowTop (h : (⟨2, ![441, N]⟩ : Shape).Reduces [1] S441) (x : FVec F ⟨2, ![441, N]⟩ .f32) : FVec F S441x1 .f32 :=
  shapeCast S441x1 (multiReduction .maximumf [1] S441 x 0xFF800000#32 h (.inl rfl) rfl) shapeCasts_S441_S441x1

/-- The entries that reach the given column overwritten by −4. -/
def rowCut (hb : S441x1.Broadcasts ⟨2, ![441, N]⟩) (x : FVec F ⟨2, ![441, N]⟩ .f32) (m : FVec F S441x1 .f32) : FVec F ⟨2, ![441, N]⟩ .f32 :=
  select (cmpf .oge x (broadcastTo _ m hb)) (broadcast _ (Scalar.ofBits .f32 0xC0800000#32)) x

/-- Three rounds along every row. -/
def rowBest (h : (⟨2, ![441, N]⟩ : Shape).Reduces [1] S441) (hb : S441x1.Broadcasts ⟨2, ![441, N]⟩) (x : FVec F ⟨2, ![441, N]⟩ .f32) : FVec F S441x3 .f32 :=
  concatenate S441x3 1 [⟨S441x1, rowTop h x⟩, ⟨S441x1, rowTop h (rowCut hb x (rowTop h x))⟩,
    ⟨S441x1, rowTop h (rowCut hb (rowCut hb x (rowTop h x)) (rowTop h (rowCut hb x (rowTop h x))))⟩]
    concatenates_S441x1_S441x1_S441x1_S441x3_d1

/-- Inner products of the query rows with one image's rows. -/
def imageDots (q : FVec F S441x64 .f32) (u : FVec F S1x441x64 .f32) : FVec F S441x441 .f32 :=
  matmul dot_S441x64_S441x64_S441x441_1_1_0_0_n_n none q (shapeCast S441x64 u shapeCasts_S1x441x64_S441x64) (constant S441x441 .f32 0x00000000#32)

/-- Inner products of the query rows with one class's rows. -/
def classDots (q : FVec F S441x64 .f32) (s : FVec F S1x2205x64 .f32) : FVec F S441x2205 .f32 :=
  matmul dot_S441x64_S2205x64_S441x2205_1_1_0_0_n_n none q (shapeCast S2205x64 s shapeCasts_S1x2205x64_S2205x64) (constant S441x2205 .f32 0x00000000#32)

/-- Three values of every row against one image. -/
def part (q : FVec F S441x64 .f32) (u : FVec F S1x441x64 .f32) : FVec F S441x3 .f32 :=
  rowBest reduces_S441x441_S441 broadcasts_S441x1_S441x441 (imageDots q u)

/-- The values kept for one class: its own three of every row, and the images' lowered by the class's mask. -/
def kept (q : FVec F S441x64 .f32) (p : FVec F S441x45 .f32) (s : FVec F S1x2205x64 .f32) (m : FVec F S1x1x45 .f32) : FVec F S441x48 .f32 :=
  concatenate S441x48 1 [⟨S441x3, rowBest reduces_S441x2205_S441 broadcasts_S441x1_S441x2205 (classDots q s)⟩,
    ⟨S441x45, addf p (broadcastTo S441x45 (shapeCast S1x45 m shapeCasts_S1x1x45_S1x45) broadcasts_S1x45_S441x45)⟩]
    concatenates_S441x3_S441x45_S441x48_d1

/-- The sum of a table of three values a row. -/
def total (x : FVec F S441x3 .f32) : FVec F S1x1 .f32 :=
  broadcast S1x1 (extractAt ![0, 0, 0] (shapeCast S1x1x1 (multiReduction .add [1, 2] S1 (shapeCast S1x441x3 x shapeCasts_S441x3_S1x441x3)
    0x00000000#32 reduces_S1x441x3_S1 (.inl rfl) rfl) shapeCasts_S1_S1x1x1) inpos_S1x1x1_p0_0_0)

/-- One class's score. -/
def score (q : FVec F S441x64 .f32) (p : FVec F S441x45 .f32) (s : FVec F S1x2205x64 .f32) (m : FVec F S1x1x45 .f32) : FVec F S1x1 .f32 :=
  total (rowBest reduces_S441x48_S441 broadcasts_S441x1_S441x48 (kept q p s m))

/-- Image `t` of the table. -/
abbrev imageRect (t : Fin 15) : Rect S15x441x64 :=
  Rect.unit (s := S15x441x64) ![t.val, 0, 0] S1x441x64.size (fun a => by
    match a with
    | 0 => exact Nat.succ_le_of_lt t.isLt
    | 1 => exact Nat.le_refl _
    | 2 => exact Nat.le_refl _)

/-- Class `j` of the table of support rows. -/
abbrev classRect (j : Fin 5) : Rect S5x2205x64 :=
  Rect.unit (s := S5x2205x64) ![j.val, 0, 0] S1x2205x64.size (fun a => by
    match a with
    | 0 => exact Nat.succ_le_of_lt j.isLt
    | 1 => exact Nat.le_refl _
    | 2 => exact Nat.le_refl _)

/-- Class `j`'s mask. -/
abbrev maskRect (j : Fin 5) : Rect S5x1x45 :=
  Rect.unit (s := S5x1x45) ![j.val, 0, 0] S1x1x45.size (fun a => by
    match a with
    | 0 => exact Nat.succ_le_of_lt j.isLt
    | 1 => exact Nat.le_refl _
    | 2 => exact Nat.le_refl _)

/-- All images' values side by side. -/
def parts (q : FVec F S441x64 .f32) (u : Vec F S15x441x64 .f32) : FVec F S441x45 .f32 :=
  concatenate S441x45 1 (List.ofFn fun t : Fin 15 => ⟨S441x3, part q (View.ld u (imageRect t))⟩)
    concatenates_S441x3_S441x3_S441x3_S441x3_S441x3_S441x3_S441x3_S441x3_S441x3_S441x3_S441x3_S441x3_S441x3_S441x3_S441x3_S441x45_d1

/-- Class `j`'s score from the blocks. -/
def scoreOf (x0 : Vec F S1x441x64 .f32) (x1 : Vec F S5x2205x64 .f32) (x2 : Vec F S15x441x64 .f32) (x3 : Vec F S5x1x45 .f32) (j : Fin 5) :
    FVec F S1x1 .f32 :=
  score (k0_pay2 (View.ld x0 r0_0)) (parts (k0_pay2 (View.ld x0 r0_0)) x2) (View.ld x1 (classRect j)) (View.ld x3 (maskRect j))

/-- The five scores. -/
def scores (x0 : Vec F S1x441x64 .f32) (x1 : Vec F S5x2205x64 .f32) (x2 : Vec F S15x441x64 .f32) (x3 : Vec F S5x1x45 .f32) : FVec F S1x1x5 .f32 :=
  shapeCast S1x1x5 (concatenate S1x5 1 (List.ofFn fun j : Fin 5 => ⟨S1x1, scoreOf x0 x1 x2 x3 j⟩)
    concatenates_S1x1_S1x1_S1x1_S1x1_S1x1_S1x5_d1) shapeCasts_S1x5_S1x1x5

/-- The values of the images as the printed text computes them, part by part. -/
theorem parts_eq (x0 : Vec F S1x441x64 .f32) (x1 : Vec F S5x2205x64 .f32) (x2 : Vec F S15x441x64 .f32) (x3 : Vec F S5x1x45 .f32) :
    k0_pay40 x0 x1 x2 x3 = parts (k0_pay2 (View.ld x0 r0_0)) x2 := rfl

theorem out_eq (x0 : Vec F S1x441x64 .f32) (x1 : Vec F S5x2205x64 .f32) (x2 : Vec F S15x441x64 .f32) (x3 : Vec F S5x1x45 .f32) :
    out0_4 x0 x1 x2 x3 = View.canon [⟨r0_26, scores x0 x1 x2 x3⟩] := by
  unfold out0_4
  rw [parts_eq]
  rfl

end Text
end Cert.FinalIdeal.Rows
-- ==== Proof.RowsAt.lean ====
module

public import proofs.«01_k».proof.Proof.Rows

@[expose] public section

set_option maxRecDepth 16384

noncomputable section

namespace Cert.FinalIdeal.Rows

open Idealize.ShloMosaic
open Cert.FinalIdeal.Gen
open Cert.TopThree

theorem bot_bits : Ideal.ofBits FTy.f32 0xFF800000#32 = ⊥ := by
  simp [Ideal.ofBits, Ideal.ieee]

theorem low_bits : Ideal.ofBits FTy.f32 0xC0800000#32 = low := by
  simp [Ideal.ofBits, Ideal.ieee, low, -EReal.coe_mul]
  norm_num

section
variable {N : Nat} (h : (⟨2, ![441, N]⟩ : Shape).Reduces [1] S441) (hb : S441x1.Broadcasts ⟨2, ![441, N]⟩)

theorem rowTop_at (x : FVec Ideal ⟨2, ![441, N]⟩ .f32) (i : Fin 441) (k : Fin 1) :
    rowTop h x (ix2 i k) = top fun m : Fin N => x (ix2 i m) := by
  pointwise [rowTop]
  rw [bot_bits]
  rfl

theorem rowCut_at (x : FVec Ideal ⟨2, ![441, N]⟩ .f32) (i : Fin 441) (y : Fin N → EReal) (hx : ∀ n, x (ix2 i n) = y n) (n : Fin N) :
    rowCut hb x (rowTop h x) (ix2 i n) = cut y n := by
  have e : (fun m : Fin N => x (ix2 i m)) = y := funext hx
  pointwise [rowCut]
  rw [rowTop_at, e, hx, low_bits]
  rfl

theorem rowBest_at (x : FVec Ideal ⟨2, ![441, N]⟩ .f32) (i : Fin 441) (y : Fin N → EReal) (hx : ∀ n, x (ix2 i n) = y n) (k : Fin 3) :
    rowBest h hb x (ix2 i k) = best y k := by
  have e0 : ∀ {z : FVec Ideal ⟨2, ![441, N]⟩ .f32} {w : Fin N → EReal}, (∀ n, z (ix2 i n) = w n) → ∀ k, rowTop h z (ix2 i k) = top w :=
    fun hz k => (rowTop_at h _ i k).trans (congrArg top (funext hz))
  have e1 := rowCut_at h hb x i y hx
  have e2 := rowCut_at h hb _ i _ e1
  pointwise [rowBest]
  match k with
  | 0 => exact e0 hx _
  | 1 => exact e0 e1 _
  | 2 => exact e0 e2 _

end

/-- A row's inner product with one image's row. -/
def imageDot (x0 : Vec Ideal S1x441x64 .f32) (x2 : Vec Ideal S15x441x64 .f32) (i : Fin 441) (t : Fin 15) (m : Fin 441) : EReal :=
  ∑ c : Fin 64, (x0 (ix3 0 i c) : EReal) * x2 (ix3 t m c)

/-- A row's inner product with one class's row. -/
def classDot (x0 : Vec Ideal S1x441x64 .f32) (x1 : Vec Ideal S5x2205x64 .f32) (i : Fin 441) (j : Fin 5) (m : Fin 2205) : EReal :=
  ∑ c : Fin 64, (x0 (ix3 0 i c) : EReal) * x1 (ix3 j m c)

theorem part_at (x0 : Vec Ideal S1x441x64 .f32) (x2 : Vec Ideal S15x441x64 .f32) (t : Fin 15) (i : Fin 441) (k : Fin 3) :
    part (k0_pay2 (View.ld x0 r0_0)) (View.ld x2 (imageRect t)) (ix2 i k) = best (imageDot x0 x2 i t) k := by
  refine rowBest_at _ _ _ i _ (fun m => ?_) k
  pointwise [imageDots, k0_pay2, imageDot]

theorem parts_at (x0 : Vec Ideal S1x441x64 .f32) (x2 : Vec Ideal S15x441x64 .f32) (i : Fin 441) (t : Fin 15) (k : Fin 3) (l : Fin 45)
    (hl : l.val = 3 * t.val + k.val) :
    parts (k0_pay2 (View.ld x0 r0_0)) x2 (ix2 i l) = best (imageDot x0 x2 i t) k := by
  refine Eq.trans ?_ (part_at x0 x2 t i k)
  refine concatenate_ofFn_apply (t := S441x45) (s₁ := S441x3) 1 (fun t : Fin 15 => part (k0_pay2 (View.ld x0 r0_0)) (View.ld x2 (imageRect t)))
    _ rfl 3 rfl (ix2 i l) t ?_ (ix2 i k) ?_ ?_
  · show l.val / 3 = t.val
    omega
  · show k.val = l.val % 3
    omega
  · intro b hb
    match b, hb with
    | 0, _ => rfl
    | 1, hb => exact absurd rfl hb

theorem own_at (x0 : Vec Ideal S1x441x64 .f32) (x1 : Vec Ideal S5x2205x64 .f32) (j : Fin 5) (i : Fin 441) (k : Fin 3) :
    rowBest reduces_S441x2205_S441 broadcasts_S441x1_S441x2205 (classDots (k0_pay2 (View.ld x0 r0_0)) (View.ld x1 (classRect j))) (ix2 i k)
      = best (classDot x0 x1 i j) k := by
  refine rowBest_at _ _ _ i _ (fun m => ?_) k
  pointwise [classDots, k0_pay2, classDot]

/-- The values kept for class `j` in row `i`. -/
def cand (x0 : Vec Ideal S1x441x64 .f32) (x1 : Vec Ideal S5x2205x64 .f32) (x2 : Vec Ideal S15x441x64 .f32) (x3 : Vec Ideal S5x1x45 .f32)
    (j : Fin 5) (i : Fin 441) (l : Fin 48) : EReal :=
  kept (k0_pay2 (View.ld x0 r0_0)) (parts (k0_pay2 (View.ld x0 r0_0)) x2) (View.ld x1 (classRect j)) (View.ld x3 (maskRect j)) (ix2 i l)

section
variable (x0 : Vec Ideal S1x441x64 .f32) (x1 : Vec Ideal S5x2205x64 .f32) (x2 : Vec Ideal S15x441x64 .f32) (x3 : Vec Ideal S5x1x45 .f32)

theorem cand_own (j : Fin 5) (i : Fin 441) (k : Fin 3) (l : Fin 48) (hl : l.val = k.val) :
    cand x0 x1 x2 x3 j i l = best (classDot x0 x1 i j) k := by
  rw [← own_at]
  obtain ⟨l, hb⟩ := l
  obtain rfl : l = k.val := hl
  pointwise [cand, kept]

theorem cand_image (j : Fin 5) (i : Fin 441) (t : Fin 15) (k : Fin 3) (l : Fin 48) (hl : l.val = 3 + 3 * t.val + k.val) (n : Fin 45)
    (hn : n.val = 3 * t.val + k.val) :
    cand x0 x1 x2 x3 j i l = best (imageDot x0 x2 i t) k + x3 (ix3 j 0 n) := by
  rw [← parts_at x0 x2 i t k n hn]
  obtain ⟨l, hb⟩ := l
  obtain rfl : l = n.val + 3 := by
    have : l = _ := hl
    omega
  pointwise [cand, kept]
  rw [dif_neg (by omega)]
  rfl

theorem total_at (x : FVec Ideal S441x3 .f32) (i j : Fin 1) : total x (ix2 i j) = ∑ a : Fin 441, ∑ k : Fin 3, (x (ix2 a k) : EReal) := by
  pointwise [total]

theorem scoreOf_at (j : Fin 5) (a b : Fin 1) :
    scoreOf x0 x1 x2 x3 j (ix2 a b) = ∑ i : Fin 441, ∑ k : Fin 3, best (cand x0 x1 x2 x3 j i) k := by
  refine (total_at _ a b).trans (Finset.sum_congr rfl fun i _ => Finset.sum_congr rfl fun k _ => ?_)
  exact rowBest_at _ _ _ i _ (fun _ => rfl) k

theorem out_at (j : Fin 5) (a b : Fin 1) :
    out0_4 x0 x1 x2 x3 (ix3 a b j) = ∑ i : Fin 441, ∑ k : Fin 3, best (cand x0 x1 x2 x3 j i) k := by
  have hz : (![0, 0, 0] : Fin S1x1x5.rank → Nat) = fun _ => 0 := by
    funext a
    match a with
    | 0 => rfl
    | 1 => rfl
    | 2 => rfl
  rw [out_eq, ← scoreOf_at x0 x1 x2 x3 j 0 0]
  refine (congrFun (View.canon_unit_zero (Val := Elt Ideal) (e := .f32) hz _ (scores x0 x1 x2 x3)) (ix3 a b j)).trans ?_
  pointwise [scores]

end

end Cert.FinalIdeal.Rows
-- ==== Proof.Sorted.lean ====
module

public import Idealize.ShloMosaic.Lib.Pointwise
public import Idealize.ShloMosaic.Lib.SortFacts

@[expose] public section

noncomputable section

namespace Cert.Sorted

open Idealize.ShloMosaic

/-- The arrangement that the descending sort of a row makes. -/
abbrev order {n : Nat} (x : Fin n → EReal) : Fin n → Fin n :=
  sortedFrom fun l l' : Fin n => Ideal.cmpTotal .gt (x l) (x l') == 1#1

/-- It is a permutation under which the row descends. -/
theorem order_spec {n : Nat} (x : Fin n → EReal) :
    Function.Injective (order x) ∧ Function.Surjective (order x) ∧ ∀ k k' : Fin n, k < k' → x (order x k') ≤ x (order x k) := by
  have hc : ∀ x y : EReal, (Ideal.cmpTotal .gt x y == 1#1) = decide (y < x) := by
    intro x y
    show (BitVec.ofBool (decide (y < x)) == 1#1) = decide (y < x)
    cases decide (y < x) <;> rfl
  refine ⟨sortedFrom_injective _, sortedFrom_surjective _, fun k k' hk => ?_⟩
  have h := sortedFrom_noInversion (fun l l' : Fin n => Ideal.cmpTotal .gt (x l) (x l') == 1#1)
    (fun l l' : Fin n => Ideal.cmpTotal .gt (x l) (x l') == 1#1)
    (fun l l' e => by
      simp only [hc, decide_eq_true_eq, decide_eq_false_iff_not] at e ⊢
      exact not_lt.2 e.le)
    (fun _ _ e => e)
    (fun l l' l'' e e' => by
      simp only [hc, decide_eq_false_iff_not, not_lt] at e e' ⊢
      exact e.trans e') k k' hk
  simp only [hc, decide_eq_false_iff_not, not_lt] at h
  simpa only [order, hc] using h

/-- The order of the members of one row, told by the first three of its sorted sequence. -/
theorem first_three {n : Nat} (hn : 3 ≤ n) (x : Fin n → EReal) (p : Fin n → Fin n) (hs : Function.Surjective p)
    (ho : ∀ k k' : Fin n, k < k' → x (p k') ≤ x (p k)) (l : Fin n) :
    x l = x (p ⟨0, by omega⟩) ∨ x l = x (p ⟨1, by omega⟩) ∨ x l ≤ x (p ⟨2, by omega⟩) := by
  obtain ⟨k, rfl⟩ := hs l
  rcases Nat.lt_or_ge k.val 1 with h | h
  · exact Or.inl (congrArg (fun k => x (p k)) (Fin.ext (by dsimp only; omega)))
  · rcases Nat.lt_or_ge k.val 2 with h' | h'
    · exact Or.inr (Or.inl (congrArg (fun k => x (p k)) (Fin.ext (by dsimp only; omega))))
    · refine Or.inr (Or.inr ?_)
      rcases Nat.lt_or_ge k.val 3 with h'' | h''
      · exact le_of_eq (congrArg (fun k => x (p k)) (Fin.ext (by dsimp only; omega)))
      · exact ho _ _ (Fin.lt_def.2 (by dsimp only; omega))

end Cert.Sorted

end
-- ==== Proof.FinalRef.lean ====
module

public import proofs.«01_k».proof.Proof.TopThree
public import proofs.«01_k».proof.Proof.Sorted
public import proofs.«01_k».proof.Proof.Gen.FinalRefIdeal
public import proofs.«01_k».proof.Proof.Gen.Pre_distinct
public import Idealize.ShloMosaic.Lib.Pointwise
public import Idealize.ShloMosaic.Lib.ReduceAll
public import Idealize.ShloMosaic.Lib.Claim

@[expose] public section

set_option maxRecDepth 16384

noncomputable section

namespace Cert.FinalRefIdeal.Value

open Idealize.ShloMosaic
open Cert.FinalRefIdeal.Gen

/-- Inner products of all queries with all classes. -/
def own (a0 : FVec Ideal S25x441x64 .f32) (a1 : FVec Ideal S5x2205x64 .f32) : FVec Ideal S25x5x441x2205 .f32 :=
  transpose S25x5x441x2205 [2, 0, 3, 1] (Host.dotGeneral dot_S5x2205x64_S25x441x64_S5x2205x25x441_2_2_01_01_n_n none a1 a0)
    transposes_S5x2205x25x441_S25x5x441x2205_2_0_3_1

/-- Inner products of all queries with all images. -/
def extra (a0 : FVec Ideal S25x441x64 .f32) (a2 : FVec Ideal S15x441x64 .f32) : FVec Ideal S25x441x15x441 .f32 :=
  Host.dotGeneral dot_S25x441x64_S15x441x64_S25x441x15x441_2_2_01_01_n_n none a0 a2

/-- The images' inner products where the image is selected for the class, least elsewhere. -/
def chosen (a0 : FVec Ideal S25x441x64 .f32) (a2 : FVec Ideal S15x441x64 .f32) (a3 : FVec Ideal S5x15 .f32) : FVec Ideal S25x5x441x15x441 .f32 :=
  select
    (broadcastInDim S25x5x441x15x441 ![0, 1, 2, 3, 4] bcast_S1x5x1x15x1_S25x5x441x15x441_0_1_2_3_4
      (cmpf .ogt (broadcastInDim S1x5x1x15x1 ![1, 3] bcast_S5x15_S1x5x1x15x1_1_3 a3)
        (broadcastInDim S1x5x1x15x1 ![] bcast_S_S1x5x1x15x1 (constant S_ .f32 0x3F000000#32 : FVec Ideal S_ .f32))))
    (broadcastInDim S25x5x441x15x441 ![0, 1, 2, 3, 4] bcast_S25x1x441x15x441_S25x5x441x15x441_0_1_2_3_4
      (broadcastInDim S25x1x441x15x441 ![0, 2, 3, 4] bcast_S25x441x15x441_S25x1x441x15x441_0_2_3_4 (extra a0 a2)))
    (broadcastInDim S25x5x441x15x441 ![] bcast_S_S25x5x441x15x441 (id (constant S_ .f32 0xFF800000#32 : FVec Ideal S_ .f32)))

/-- Everything a class's three values are taken from. -/
def pool (a0 : FVec Ideal S25x441x64 .f32) (a1 : FVec Ideal S5x2205x64 .f32) (a2 : FVec Ideal S15x441x64 .f32) (a3 : FVec Ideal S5x15 .f32) :
    FVec Ideal S25x5x441x8820 .f32 :=
  concatenate S25x5x441x8820 3 [⟨S25x5x441x2205, own a0 a1⟩,
    ⟨S25x5x441x6615, shapeCast S25x5x441x6615 (chosen a0 a2 a3) shapeCasts_S25x5x441x15x441_S25x5x441x6615⟩]
    concatenates_S25x5x441x2205_S25x5x441x6615_S25x5x441x8820_d3

/-- The three greatest. -/
def values (a0 : FVec Ideal S25x441x64 .f32) (a1 : FVec Ideal S5x2205x64 .f32) (a2 : FVec Ideal S15x441x64 .f32) (a3 : FVec Ideal S5x15 .f32) :
    FVec Ideal S25x5x441x3 .f32 :=
  (Host.topK S25x5x441x3 3 (FloatOps.cmpfTotal .gt) (pool a0 a1 a2 a3) sliceFits_S25x5x441x8820_S25x5x441x3).1

/-- The reference's result over its four arguments. -/
def REF (a0 : FVec Ideal S25x441x64 .f32) (a1 : FVec Ideal S5x2205x64 .f32) (a2 : FVec Ideal S15x441x64 .f32) (a3 : FVec Ideal S5x15 .f32) :
    FVec Ideal S25x5 .f32 :=
  Host.reduceAdd (values a0 a1 a2 a3) (constant S_ .f32 0x00000000#32) reducesTo_S25x5x441x3_S25x5_d2_3 h_S_

section
variable (a0 : FVec Ideal S25x441x64 .f32) (a1 : FVec Ideal S5x2205x64 .f32) (a2 : FVec Ideal S15x441x64 .f32) (a3 : FVec Ideal S5x15 .f32)

theorem own_at (b : Fin 25) (j : Fin 5) (i : Fin 441) (m : Fin 2205) :
    own a0 a1 (ix4 b j i m) = ∑ c : Fin 64, (a0 (ix3 b i c) : EReal) * a1 (ix3 j m c) := by
  pointwise [own]
  exact Finset.sum_congr rfl fun c _ => mul_comm _ _

theorem extra_at (b : Fin 25) (i : Fin 441) (t : Fin 15) (m : Fin 441) :
    extra a0 a2 (ix4 b i t m) = ∑ c : Fin 64, (a0 (ix3 b i c) : EReal) * a2 (ix3 t m c) := by
  pointwise [extra]

theorem pool_own (b : Fin 25) (j : Fin 5) (i : Fin 441) (m : Fin 2205) (l : Fin 8820) (hl : l.val = m.val) :
    pool a0 a1 a2 a3 (ix4 b j i l) = own a0 a1 (ix4 b j i m) := by
  obtain ⟨l, hb⟩ := l
  obtain rfl : l = m.val := hl
  pointwise [pool]

theorem half_bits : Ideal.ofBits FTy.f32 0x3F000000#32 = ((1 / 2 : ℝ) : EReal) := by
  simp [Ideal.ofBits, Ideal.ieee, -EReal.coe_mul]
  norm_num

theorem bot_bits : Ideal.ofBits FTy.f32 0xFF800000#32 = ⊥ := by
  simp [Ideal.ofBits, Ideal.ieee]

theorem chosen_at (b : Fin 25) (j : Fin 5) (i : Fin 441) (t : Fin 15) (m : Fin 441) :
    chosen a0 a2 a3 (ix5 b j i t m) = if ((1 / 2 : ℝ) : EReal) < a3 (ix2 j t) then extra a0 a2 (ix4 b i t m) else ⊥ := by
  pointwise [chosen]
  rw [half_bits]
  refine if_congr Iff.rfl rfl ?_
  exact bot_bits

theorem pool_chosen (b : Fin 25) (j : Fin 5) (i : Fin 441) (t : Fin 15) (m : Fin 441) (l : Fin 8820)
    (hl : l.val = 2205 + (441 * t.val + m.val)) :
    pool a0 a1 a2 a3 (ix4 b j i l) = chosen a0 a2 a3 (ix5 b j i t m) := by
  obtain ⟨l, hb⟩ := l
  obtain rfl : l = 2205 + (441 * t.val + m.val) := hl
  pointwise [pool]

theorem REF_at (b : Fin 25) (j : Fin 5) :
    REF a0 a1 a2 a3 (ix2 b j) = ∑ i : Fin 441, ∑ k : Fin 3, (values a0 a1 a2 a3 (ix4 b j i k) : EReal) := by
  pointwise [REF]

theorem values_at (b : Fin 25) (j : Fin 5) (i : Fin 441) (k : Fin 3) :
    values a0 a1 a2 a3 (ix4 b j i k) = pool a0 a1 a2 a3 (ix4 b j i
      (sortedFrom (fun l l' : Fin 8820 => Ideal.cmpTotal .gt (pool a0 a1 a2 a3 (ix4 b j i l)) (pool a0 a1 a2 a3 (ix4 b j i l')) == 1#1)
        ⟨k.val, by omega⟩)) := by
  have along : ∀ q n : Fin 8820, (ix4 b j i q : S25x5x441x8820.Idx).along 3 n = ix4 b j i n := by
    intro q n
    funext a
    match a with
    | 0 => rfl
    | 1 => rfl
    | 2 => rfl
    | 3 => rfl
  unfold values Host.topK Host.sort2
  pointwise []
  simp only [along]
  rfl

/-- The three values are taken at the first three positions of an arrangement in descending order. -/
theorem values_sorted (b : Fin 25) (j : Fin 5) (i : Fin 441) :
    ∃ p : Fin 8820 → Fin 8820, Function.Injective p ∧ Function.Surjective p
      ∧ (∀ k k' : Fin 8820, k < k' → pool a0 a1 a2 a3 (ix4 b j i (p k')) ≤ pool a0 a1 a2 a3 (ix4 b j i (p k)))
      ∧ ∀ k : Fin 3, values a0 a1 a2 a3 (ix4 b j i k) = pool a0 a1 a2 a3 (ix4 b j i (p ⟨k.val, by omega⟩)) := by
  obtain ⟨hi, hs, ho⟩ := Cert.Sorted.order_spec fun l : Fin 8820 => (pool a0 a1 a2 a3 (ix4 b j i l) : EReal)
  exact ⟨_, hi, hs, ho, fun k => values_at a0 a1 a2 a3 b j i k⟩

theorem one_bits : Ideal.ofBits FTy.f32 0x3F800000#32 = 1 := by
  simp [Ideal.ofBits, Ideal.ieee, -EReal.coe_mul]
  norm_num

theorem minus_bits : Ideal.ofBits FTy.f32 0xBF800000#32 = -1 := by
  simp [Ideal.ofBits, Ideal.ieee, -EReal.coe_mul]
  norm_num

theorem zero_bits : Ideal.ofBits FTy.f32 0x00000000#32 = 0 := by
  simp [Ideal.ofBits, Ideal.ieee]

theorem holds_of_one {p : Prop} [Decidable p] (h : BitVec.ofBool (decide p) = 1#1) : p := by
  by_contra hp
  rw [decide_eq_false hp] at h
  exact absurd h (by decide)

theorem above_of_one {s : Shape} (x y : FVec Ideal s .f32) (i : s.Idx) (h : cmpf .ogt x y i = 1#1) : (y i : EReal) < x i :=
  holds_of_one h

theorem or_one {x y : BitVec 1} (h : IntOp.ori x y = 1#1) : x = 1#1 ∨ y = 1#1 := by
  revert x y
  decide

theorem column_at (v : FVec Ideal S25x5x441x3 .f32) (b : Fin 25) (j : Fin 5) (i : Fin 441) :
    shapeCast Cert.Pre_distinct.S25x5x441 (extractStridedSlice Cert.Pre_distinct.S25x5x441x1 ![0, 0, 0, 0] v
        Cert.Pre_distinct.Gen.slices_S25x5x441x3_S25x5x441x1_0_0_0_0) Cert.Pre_distinct.Gen.shapeCasts_S25x5x441x1_S25x5x441 (ix3 b j i) = v (ix4 b j i 0)
    ∧ shapeCast Cert.Pre_distinct.S25x5x441 (extractStridedSlice Cert.Pre_distinct.S25x5x441x1 ![0, 0, 0, 1] v
        Cert.Pre_distinct.Gen.slices_S25x5x441x3_S25x5x441x1_0_0_0_1) Cert.Pre_distinct.Gen.shapeCasts_S25x5x441x1_S25x5x441 (ix3 b j i) = v (ix4 b j i 1)
    ∧ shapeCast Cert.Pre_distinct.S25x5x441 (extractStridedSlice Cert.Pre_distinct.S25x5x441x1 ![0, 0, 0, 2] v
        Cert.Pre_distinct.Gen.slices_S25x5x441x3_S25x5x441x1_0_0_0_2) Cert.Pre_distinct.Gen.shapeCasts_S25x5x441x1_S25x5x441 (ix3 b j i) = v (ix4 b j i 2) := by
  refine ⟨?_, ?_, ?_⟩ <;> pointwise []

/-- What the precondition says, entry by entry. -/
theorem distinct_at (h : Cert.Pre_distinct.fn (F := Ideal) a0 a1 a2 a3 = fun _ => 1#1) :
    (∀ b j i m, (-1 : EReal) ≤ own a0 a1 (ix4 b j i m) ∧ own a0 a1 (ix4 b j i m) ≤ (1 : EReal))
    ∧ (∀ b i t m, (-1 : EReal) ≤ extra a0 a2 (ix4 b i t m) ∧ extra a0 a2 (ix4 b i t m) ≤ (1 : EReal))
    ∧ (∀ j t, a3 (ix2 j t) = (0 : EReal) ∨ a3 (ix2 j t) = (1 : EReal))
    ∧ (∀ b j i, (values a0 a1 a2 a3 (ix4 b j i 1) : EReal) < values a0 a1 a2 a3 (ix4 b j i 0))
    ∧ (∀ b j i, (values a0 a1 a2 a3 (ix4 b j i 2) : EReal) < values a0 a1 a2 a3 (ix4 b j i 1)) := by
  have hs : Subsingleton S_.Idx := ⟨fun x y => funext fun a => nomatch a⟩
  have h0 := congrFun h ix0
  unfold Cert.Pre_distinct.fn Cert.Pre_distinct.fn_part1 Cert.Pre_distinct.fn_part2 at h0
  obtain ⟨h0, h5⟩ := IntOp.andi_eq_one.1 h0
  obtain ⟨h0, h4⟩ := IntOp.andi_eq_one.1 h0
  obtain ⟨h0, h3⟩ := IntOp.andi_eq_one.1 h0
  obtain ⟨h1, h2⟩ := IntOp.andi_eq_one.1 h0
  have between : ∀ x : EReal, IntOp.andi (BitVec.ofBool (decide (Ideal.ofBits FTy.f32 0xBF800000#32 ≤ x)))
      (BitVec.ofBool (decide (x ≤ Ideal.ofBits FTy.f32 0x3F800000#32))) = 1#1 → -1 ≤ x ∧ x ≤ 1 := by
    intro x e
    obtain ⟨e1, e2⟩ := IntOp.andi_eq_one.1 e
    have f1 := holds_of_one e1
    have f2 := holds_of_one e2
    rw [minus_bits] at f1
    rw [one_bits] at f2
    exact ⟨f1, f2⟩
  refine ⟨fun b j i m => ?_, fun b i t m => ?_, fun j t => ?_, fun b j i => ?_, fun b j i => ?_⟩
  · exact between _ (Host.reduce_andi_all _ _ _ _ _ h1 (ix4 b j i m))
  · exact between _ (Host.reduce_andi_all _ _ _ _ _ h2 (ix4 b i t m))
  · have e : IntOp.ori (BitVec.ofBool (decide ((a3 (ix2 j t) : EReal) = Ideal.ofBits FTy.f32 0x00000000#32)))
        (BitVec.ofBool (decide ((a3 (ix2 j t) : EReal) = Ideal.ofBits FTy.f32 0x3F800000#32))) = 1#1 :=
      Host.reduce_andi_all _ _ _ _ _ h3 (ix2 j t)
    rw [one_bits, zero_bits] at e
    exact (or_one e).imp holds_of_one holds_of_one
  · obtain ⟨c0, c1, -⟩ := column_at (values a0 a1 a2 a3) b j i
    rw [← c0, ← c1]
    exact above_of_one _ _ _ (Host.reduce_andi_all _ _ _ _ _ h4 (ix3 b j i))
  · obtain ⟨-, c1, c2⟩ := column_at (values a0 a1 a2 a3) b j i
    rw [← c1, ← c2]
    exact above_of_one _ _ _ (Host.reduce_andi_all _ _ _ _ _ h5 (ix3 b j i))

end

end Cert.FinalRefIdeal.Value
-- ==== Proof.FinalJoin.lean ====
module

public import proofs.«01_k».proof.Proof.RowsAt
public import proofs.«01_k».proof.Proof.FinalRef

@[expose] public section

set_option maxRecDepth 16384

noncomputable section

namespace Cert.FinalJoin

open Idealize.ShloMosaic
open Cert.TopThree
open Cert.Sorted (first_three)
open Cert.FinalIdeal.Rows (cand imageDot classDot cand_own cand_image)
open Cert.FinalRefIdeal.Value

/-- Among three members one is no larger than the third of the sorted sequence. -/
theorem third_ge {n : Nat} (hn : 3 ≤ n) (x : Fin n → EReal) (p : Fin n → Fin n) (hi : Function.Injective p) (hs : Function.Surjective p)
    (ho : ∀ k k' : Fin n, k < k' → x (p k') ≤ x (p k)) (a : EReal) (h : ∀ l : Fin n, l.val < 3 → a ≤ x l) :
    a ≤ x (p ⟨2, by omega⟩) := by
  have key : ∃ k : Fin n, 2 ≤ k.val ∧ (p k).val < 3 := by
    obtain ⟨k0, h0⟩ := hs ⟨0, by omega⟩
    obtain ⟨k1, h1⟩ := hs ⟨1, by omega⟩
    obtain ⟨k2, h2⟩ := hs ⟨2, by omega⟩
    have d01 : k0.val ≠ k1.val := fun e => by
      have := h0.symm.trans ((congrArg p (Fin.ext e)).trans h1)
      simp at this
    have d02 : k0.val ≠ k2.val := fun e => by
      have := h0.symm.trans ((congrArg p (Fin.ext e)).trans h2)
      simp at this
    have d12 : k1.val ≠ k2.val := fun e => by
      have := h1.symm.trans ((congrArg p (Fin.ext e)).trans h2)
      simp at this
    by_cases g0 : 2 ≤ k0.val
    · exact ⟨k0, g0, by rw [h0]; dsimp only; omega⟩
    · by_cases g1 : 2 ≤ k1.val
      · exact ⟨k1, g1, by rw [h1]; dsimp only; omega⟩
      · exact ⟨k2, by omega, by rw [h2]; dsimp only; omega⟩
  obtain ⟨k, hk, hp⟩ := key
  refine (h _ hp).trans ?_
  rcases Nat.lt_or_ge k.val 3 with h'' | h''
  · exact le_of_eq (congrArg (fun k => x (p k)) (Fin.ext (by dsimp only; omega)))
  · exact ho _ _ (Fin.lt_def.2 (by dsimp only; omega))

variable (a0 : FVec Ideal Cert.FinalRefIdeal.S25x441x64 .f32) (a1 : FVec Ideal Cert.FinalRefIdeal.S5x2205x64 .f32)
  (a2 : FVec Ideal Cert.FinalRefIdeal.S15x441x64 .f32) (a3 : FVec Ideal Cert.FinalRefIdeal.S5x15 .f32)
  (x0 : Vec Ideal Cert.FinalIdeal.S1x441x64 .f32) (x1 : Vec Ideal Cert.FinalIdeal.S5x2205x64 .f32)
  (x2 : Vec Ideal Cert.FinalIdeal.S15x441x64 .f32) (x3 : Vec Ideal Cert.FinalIdeal.S5x1x45 .f32)

theorem half_lt_one : ((1 / 2 : ℝ) : EReal) < 1 := by
  rw [show (1 : EReal) = ((1 : ℝ) : EReal) from rfl]
  exact EReal.coe_lt_coe_iff.2 (by norm_num)

theorem zero_le_half : ¬ ((1 / 2 : ℝ) : EReal) < 0 := by
  rw [show (0 : EReal) = ((0 : ℝ) : EReal) from rfl]
  exact fun h => absurd (EReal.coe_lt_coe_iff.1 h) (by norm_num)

theorem one_sub_one : (1 : EReal) - 1 = 0 := by
  have h : ((1 : ℝ) : EReal) - ((1 : ℝ) : EReal) = 0 := by
    rw [← EReal.coe_sub, sub_self]
    rfl
  exact h

theorem low_eq : ((0 : EReal) - 1) * ((4 : ℝ) : EReal) = low := by
  rw [show (0 : EReal) - 1 = ((-1 : ℝ) : EReal) from by norm_num, ← EReal.coe_mul]
  exact congrArg _ (by norm_num)

theorem own_eq (b : Fin 25) (h0 : ∀ i c, x0 (ix3 0 i c) = a0 (ix3 b i c)) (h1 : ∀ j m c, x1 (ix3 j m c) = a1 (ix3 j m c))
    (i : Fin 441) (j : Fin 5) : classDot x0 x1 i j = fun m => own a0 a1 (ix4 b j i m) := by
  funext m
  rw [own_at]
  exact Finset.sum_congr rfl fun c _ => by rw [h0, h1]

theorem extra_eq (b : Fin 25) (h0 : ∀ i c, x0 (ix3 0 i c) = a0 (ix3 b i c)) (h2 : ∀ t m c, x2 (ix3 t m c) = a2 (ix3 t m c))
    (i : Fin 441) (t : Fin 15) : imageDot x0 x2 i t = fun m => extra a0 a2 (ix4 b i t m) := by
  funext m
  rw [extra_at]
  exact Finset.sum_congr rfl fun c _ => by rw [h0, h2]

/-- The three values kept in the end by the kernel's rounds are the reference's three. -/
theorem best_cand (hd : Cert.Pre_distinct.fn (F := Ideal) a0 a1 a2 a3 = fun _ => 1#1) (b : Fin 25)
    (h0 : ∀ i c, x0 (ix3 0 i c) = a0 (ix3 b i c)) (h1 : ∀ j m c, x1 (ix3 j m c) = a1 (ix3 j m c))
    (h2 : ∀ t m c, x2 (ix3 t m c) = a2 (ix3 t m c))
    (h3 : ∀ (j : Fin 5) (t : Fin 15) (k : Fin 3) (n : Fin 45), n.val = 3 * t.val + k.val → x3 (ix3 j 0 n) = ((a3 (ix2 j t) : EReal) - 1) * ((4 : ℝ) : EReal))
    (j : Fin 5) (i : Fin 441) (k : Fin 3) :
    best (cand x0 x1 x2 x3 j i) k = values a0 a1 a2 a3 (ix4 b j i k) := by
  obtain ⟨bo, be, bs, d01, d12⟩ := distinct_at a0 a1 a2 a3 hd
  obtain ⟨p, hi, hs, ho, hv⟩ := values_sorted a0 a1 a2 a3 b j i
  have v0 := hv 0
  have v1 := hv 1
  have v2 := hv 2
  have three := first_three (by omega) (fun l => (pool a0 a1 a2 a3 (ix4 b j i l) : EReal)) p hs ho
  have third : (-1 : EReal) ≤ values a0 a1 a2 a3 (ix4 b j i 2) := by
    rw [v2]
    refine third_ge (by omega) (fun l => (pool a0 a1 a2 a3 (ix4 b j i l) : EReal)) p hi hs ho (-1) fun l hl => ?_
    rw [pool_own a0 a1 a2 a3 b j i ⟨l.val, by omega⟩ l rfl]
    exact (bo _ _ _ _).1
  have onv : ∀ t, a3 (ix2 j t) = (1 : EReal) → ∀ m, chosen a0 a2 a3 (ix5 b j i t m) = extra a0 a2 (ix4 b i t m) := fun t ht m => by
    rw [chosen_at, ht, if_pos half_lt_one]
  have m := merge (cand := cand x0 x1 x2 x3 j i) (own := fun m => own a0 a1 (ix4 b j i m))
    (extra := fun t m => extra a0 a2 (ix4 b i t m)) (on := fun t => a3 (ix2 j t) = (1 : EReal))
    (cm := fun t => ((a3 (ix2 j t) : EReal) - 1) * ((4 : ℝ) : EReal))
    (v1 := values a0 a1 a2 a3 (ix4 b j i 0)) (v2 := values a0 a1 a2 a3 (ix4 b j i 1)) (v3 := values a0 a1 a2 a3 (ix4 b j i 2))
    (fun l => by
      by_cases hl : l.val < 3
      · refine Or.inl ⟨⟨l.val, hl⟩, ?_⟩
        rw [cand_own x0 x1 x2 x3 j i ⟨l.val, hl⟩ l rfl, own_eq a0 a1 x0 x1 b h0 h1]
      · refine Or.inr ⟨⟨(l.val - 3) / 3, by omega⟩, ⟨(l.val - 3) % 3, by omega⟩, ?_⟩
        have hn : l.val - 3 = 3 * ((l.val - 3) / 3) + (l.val - 3) % 3 := by omega
        rw [cand_image x0 x1 x2 x3 j i ⟨(l.val - 3) / 3, by omega⟩ ⟨(l.val - 3) % 3, by omega⟩ l (by dsimp only; omega)
          ⟨l.val - 3, by omega⟩ hn, h3 j ⟨(l.val - 3) / 3, by omega⟩ ⟨(l.val - 3) % 3, by omega⟩ _ hn, extra_eq a0 a2 x0 x2 b h0 h2])
    (fun k => ⟨⟨k.val, by omega⟩, by rw [cand_own x0 x1 x2 x3 j i k _ rfl, own_eq a0 a1 x0 x1 b h0 h1]⟩)
    (fun t k => ⟨⟨3 + 3 * t.val + k.val, by omega⟩, by
      rw [cand_image x0 x1 x2 x3 j i t k _ rfl ⟨3 * t.val + k.val, by omega⟩ rfl, h3 j t k _ rfl, extra_eq a0 a2 x0 x2 b h0 h2]⟩)
    (fun t ht => by
      rw [ht, one_sub_one, zero_mul])
    (fun t ht => by
      rw [(bs j t).resolve_right ht]
      exact low_eq)
    (fun t m => (be b i t m).2)
    (d01 b j i) (d12 b j i) third
    (fun m => by
      have := three ⟨m.val, by omega⟩
      rw [pool_own a0 a1 a2 a3 b j i m _ rfl] at this
      rw [v0, v1, v2]
      exact this)
    (fun t ht m => by
      have := three ⟨2205 + (441 * t.val + m.val), by omega⟩
      rw [pool_chosen a0 a1 a2 a3 b j i t m _ rfl, onv t ht] at this
      rw [v0, v1, v2]
      exact this)
    (fun v h => by
      have hge : (-1 : EReal) ≤ v := by
        rcases h with h | h | h <;> rw [h]
        · exact third.trans ((d12 b j i).le.trans (d01 b j i).le)
        · exact third.trans (d12 b j i).le
        · exact third
      have hl : ∃ l : Fin 8820, pool a0 a1 a2 a3 (ix4 b j i l) = v := by
        rcases h with h | h | h
        · exact ⟨_, v0.symm.trans h.symm⟩
        · exact ⟨_, v1.symm.trans h.symm⟩
        · exact ⟨_, v2.symm.trans h.symm⟩
      obtain ⟨l, hl⟩ := hl
      by_cases h' : l.val < 2205
      · exact Or.inl ⟨⟨l.val, h'⟩, (pool_own a0 a1 a2 a3 b j i ⟨l.val, h'⟩ l rfl).symm.trans hl⟩
      · refine Or.inr ⟨⟨(l.val - 2205) / 441, by omega⟩, ?_⟩
        have hc := (pool_chosen a0 a1 a2 a3 b j i ⟨(l.val - 2205) / 441, by omega⟩ ⟨(l.val - 2205) % 441, by omega⟩ l (by dsimp only; omega)).symm.trans hl
        rcases bs j ⟨(l.val - 2205) / 441, by omega⟩ with hz | ho1
        · rw [chosen_at, hz, if_neg zero_le_half] at hc
          exact absurd (hc ▸ hge : (-1 : EReal) ≤ ⊥) (by
            rw [le_bot_iff]
            exact EReal.coe_ne_bot (-1))
        · exact ⟨ho1, ⟨(l.val - 2205) % 441, by omega⟩, (onv _ ho1 _).symm.trans hc⟩)
  match k with
  | 0 => exact m.1
  | 1 => exact m.2.1
  | 2 => exact m.2.2

end Cert.FinalJoin

end
-- ==== Proof.FinalValue.lean ====
module

public import proofs.«01_k».proof.Proof.FinalJoin
public import proofs.«01_k».proof.Proof.Gen.FinalIdeal.Frame
public import Idealize.ShloMosaic.Lib.Pipeline.ValueKit
public import Idealize.ShloMosaic.Lib.Claim

@[expose] public section

set_option maxRecDepth 16384

noncomputable section

namespace Cert.FinalIdeal.Value

open Idealize.ShloMosaic Idealize.ShloMosaic.TcCoe Idealize.SL.Sem
open Cert.FinalIdeal Cert.FinalIdeal.Gen
open Cert.FinalRefIdeal.Value (REF REF_at values)

/-- Every window's block index at every point of the grid. -/
theorem idx : ∀ t : Fin cfg0.N, win0_0.index t = ![t.val, 0, 0] ∧ win0_1.index t = ![0, 0, 0] ∧ win0_2.index t = ![0, 0, 0]
    ∧ win0_3.index t = ![0, 0, 0] ∧ win0_4.index t = ![t.val, 0, 0] :=
  (by decide +kernel : ∀ t : Fin grid0.N, _)

theorem four_bits : Ideal.ofBits FTy.f32 0x40800000#32 = ((4 : ℝ) : EReal) := by
  simp [Ideal.ofBits, Ideal.ieee, -EReal.coe_mul]
  norm_num

/-- The kernel's result array, over the reference's result: the same entries with an axis of one between. -/
def target (a0 : FVec Ideal S25x441x64 .f32) (a1 : FVec Ideal S5x2205x64 .f32) (a2 : FVec Ideal S15x441x64 .f32) (a3 : FVec Ideal S5x15 .f32) :
    FVec Ideal S25x1x5 .f32 := fun y => REF a0 a1 a2 a3 (ix2 (y 0) (y 2))

/-- The mask's entries: for each class and image, three times over, the selection less one, fourfold. -/
def mask (a3 : FVec Ideal S5x15 .f32) : FVec Ideal S5x1x45 .f32 :=
  shapeCast S5x1x45
    (shapeCast S5x45
      (broadcastInDim S5x15x3 ![0, 1, 2] bcast_S5x15x1_S5x15x3_0_1_2
        (broadcastInDim S5x15x1 ![0, 1] bcast_S5x15_S5x15x1_0_1
          (mulf (subf a3 (broadcastInDim S5x15 ![] bcast_S_S5x15 (constant S_ .f32 0x3F800000#32 : FVec Ideal S_ .f32)))
            (broadcastInDim S5x15 ![] bcast_S_S5x15 (constant S_ .f32 0x40800000#32 : FVec Ideal S_ .f32)))))
      shapeCasts_S5x15x3_S5x45)
    shapeCasts_S5x45_S5x1x45

theorem mask_at (a3 : FVec Ideal S5x15 .f32) (j : Fin 5) (s : Fin 15) (k : Fin 3) (n : Fin 45) (hn : n.val = 3 * s.val + k.val) :
    mask a3 (ix3 j 0 n) = ((a3 (ix2 j s) : EReal) - 1) * ((4 : ℝ) : EReal) := by
  obtain ⟨n, hb⟩ := n
  obtain rfl : n = 3 * s.val + k.val := hn
  pointwise [mask]
  rw [four_bits]

theorem mask_entry (m : (ℓ : Loc nD τ sig) → Buf (Elt Ideal) ℓ) (c : Dev nD) :
    V m c main_v7 = mask (m (c.tc.loc main_arg3)) := by
  entry_read
  rfl

theorem mask_block (m : (ℓ : Loc nD τ sig) → Buf (Elt Ideal) ℓ) (c : Dev nD) (t : Fin cfg0.N) (j : Fin 5) (n : Fin 45) :
    iblk m c 3 t (ix3 j 0 n) = mask (m (c.tc.loc main_arg3)) (ix3 j 0 n) := by
  rw [← mask_entry]
  blk_point [iblk, idx t]

theorem final (m : (ℓ : Loc nD τ sig) → Buf (Elt Ideal) ℓ) (c : Dev nD)
    (hd : Cert.Pre_distinct.fn (F := Ideal) (m (c.tc.loc main_arg0)) (m (c.tc.loc main_arg1)) (m (c.tc.loc main_arg2)) (m (c.tc.loc main_arg3)) = fun _ => 1#1) :
    (dats m 0 c).arrAt 4 (cfgs 0).N = target (m (c.tc.loc main_arg0)) (m (c.tc.loc main_arg1)) (m (c.tc.loc main_arg2)) (m (c.tc.loc main_arg3)) := by
  refine (dats m 0 c).arrAt_eq_of_covers 4 _ (by decide +kernel) fun t _ y => ?_
  blk_simp [idx t]
  rw [after0_4]
  idx_vars y
  rw [Rows.out_at]
  have e : ∀ i k, Cert.TopThree.best (Rows.cand (iblk m c 0 t) (iblk m c 1 t) (iblk m c 2 t) (iblk m c 3 t) y2 i) k
      = values (m (c.tc.loc main_arg0)) (m (c.tc.loc main_arg1)) (m (c.tc.loc main_arg2)) (m (c.tc.loc main_arg3)) (ix4 ⟨t.val, t.isLt⟩ y2 i k) := fun i k => by
    refine Cert.FinalJoin.best_cand _ _ _ _ _ _ _ _ hd ⟨t.val, t.isLt⟩ (fun i c' => ?_) (fun j m' c' => ?_) (fun s m' c' => ?_) (fun j s k n hn => ?_) y2 i k
    · blk_point [iblk, V_main_arg0, idx t]
    · blk_point [iblk, V_main_arg1, idx t]
    · blk_point [iblk, V_main_arg2, idx t]
    · exact (mask_block m c t j n).trans (mask_at _ j s k n hn)
  simp only [e]
  refine (REF_at _ _ _ _ ⟨t.val, t.isLt⟩ y2).symm.trans ?_
  show _ = REF _ _ _ _ _
  congr 1
  blk_ext [idx t]

/-- Without the axis of one, the kernel's result is the reference's. -/
theorem reshaped (a0 : FVec Ideal S25x441x64 .f32) (a1 : FVec Ideal S5x2205x64 .f32) (a2 : FVec Ideal S15x441x64 .f32) (a3 : FVec Ideal S5x15 .f32) :
    shapeCast S25x5 (target a0 a1 a2 a3) shapeCasts_S25x1x5_S25x5 = REF a0 a1 a2 a3 := by
  funext y
  idx_vars y
  pointwise [target]

/-- The last line drops the axis of one from the result array. -/
theorem last_line (W : Valuation τ sig (Elt Ideal)) :
    StableHlo.after (List.flatten [hostOps1]) W (Proc.devRef .tc main_v9)
      = (shapeCast S25x5 (W (Proc.devRef .tc main_v8) : FVec Ideal S25x1x5 .f32) shapeCasts_S25x1x5_S25x5 : FVec Ideal S25x5 .f32) := by
  entry_read
  rfl

/-- After the last line the result is the region's result array without its axis of one. -/
theorem tail (m : (ℓ : Loc nD τ sig) → Buf (Elt Ideal) ℓ) (c : Dev nD) :
    Pipeline.afterTail₀ cfgs (dats m) 0 (V0 m) [hostOps1] c main_v9
      = (shapeCast S25x5 ((dats m 0 c).arrAt 4 (cfgs 0).N : FVec Ideal S25x1x5 .f32) shapeCasts_S25x1x5_S25x5 : FVec Ideal S25x5 .f32) := by
  unfold Pipeline.afterTail₀
  refine (last_line _).trans ?_
  refine congrArg (fun x : FVec Ideal S25x1x5 .f32 => (shapeCast S25x5 x shapeCasts_S25x1x5_S25x5 : FVec Ideal S25x5 .f32)) ?_
  exact Pipeline.withArrays_arr spec0 (by decide +kernel) c _ _ 4

end Cert.FinalIdeal.Value

end
-- ==== Proof.SimValue.lean ====
module

public import proofs.«01_k».proof.Proof.RowsAt
public import proofs.«01_k».proof.Proof.FinalJoin
public import proofs.«01_k».proof.Proof.Gen.SimIdeal.Frame
public import proofs.«01_k».proof.Proof.Gen.SimRefIdeal
public import proofs.«01_k».proof.Proof.Gen.Pre_simdistinct
public import Idealize.ShloMosaic.Lib.Pipeline.ValueKit
public import Idealize.ShloMosaic.Lib.Claim

@[expose] public section

set_option maxRecDepth 16384

noncomputable section

namespace Cert.SimRefIdeal.Value

open Idealize.ShloMosaic
open Cert.SimRefIdeal.Gen

/-- Inner products of all descriptors with all classes. -/
def own (a0 : FVec Ideal S15x441x64 .f32) (a1 : FVec Ideal S5x2205x64 .f32) : FVec Ideal S15x5x441x2205 .f32 :=
  transpose S15x5x441x2205 [2, 0, 3, 1] (Host.dotGeneral dot_S5x2205x64_S15x441x64_S5x2205x15x441_2_2_01_01_n_n none a1 a0)
    transposes_S5x2205x15x441_S15x5x441x2205_2_0_3_1

/-- The three greatest. -/
def values (a0 : FVec Ideal S15x441x64 .f32) (a1 : FVec Ideal S5x2205x64 .f32) : FVec Ideal S15x5x441x3 .f32 :=
  (Host.topK S15x5x441x3 3 (FloatOps.cmpfTotal .gt) (own a0 a1) sliceFits_S15x5x441x2205_S15x5x441x3).1

/-- The reference's result over its two arguments. -/
def REF (a0 : FVec Ideal S15x441x64 .f32) (a1 : FVec Ideal S5x2205x64 .f32) : FVec Ideal S15x5 .f32 :=
  Host.reduceAdd (values a0 a1) (constant S_ .f32 0x00000000#32) reducesTo_S15x5x441x3_S15x5_d2_3 h_S_

section
variable (a0 : FVec Ideal S15x441x64 .f32) (a1 : FVec Ideal S5x2205x64 .f32)

theorem own_at (b : Fin 15) (j : Fin 5) (i : Fin 441) (m : Fin 2205) :
    own a0 a1 (ix4 b j i m) = ∑ c : Fin 64, (a0 (ix3 b i c) : EReal) * a1 (ix3 j m c) := by
  pointwise [own]
  exact Finset.sum_congr rfl fun c _ => mul_comm _ _

theorem REF_at (b : Fin 15) (j : Fin 5) :
    REF a0 a1 (ix2 b j) = ∑ i : Fin 441, ∑ k : Fin 3, (values a0 a1 (ix4 b j i k) : EReal) := by
  pointwise [REF]

theorem values_at (b : Fin 15) (j : Fin 5) (i : Fin 441) (k : Fin 3) :
    values a0 a1 (ix4 b j i k) = own a0 a1 (ix4 b j i (Cert.Sorted.order (fun l : Fin 2205 => (own a0 a1 (ix4 b j i l) : EReal)) ⟨k.val, by omega⟩)) := by
  have along : ∀ q n : Fin 2205, (ix4 b j i q : S15x5x441x2205.Idx).along 3 n = ix4 b j i n := by
    intro q n
    funext a
    match a with
    | 0 => rfl
    | 1 => rfl
    | 2 => rfl
    | 3 => rfl
  unfold values Host.topK Host.sort2
  pointwise []
  simp only [along]
  rfl

theorem column_at (v : FVec Ideal S15x5x441x3 .f32) (b : Fin 15) (j : Fin 5) (i : Fin 441) :
    shapeCast Cert.Pre_simdistinct.S15x5x441 (extractStridedSlice Cert.Pre_simdistinct.S15x5x441x1 ![0, 0, 0, 0] v
        Cert.Pre_simdistinct.Gen.slices_S15x5x441x3_S15x5x441x1_0_0_0_0) Cert.Pre_simdistinct.Gen.shapeCasts_S15x5x441x1_S15x5x441 (ix3 b j i) = v (ix4 b j i 0)
    ∧ shapeCast Cert.Pre_simdistinct.S15x5x441 (extractStridedSlice Cert.Pre_simdistinct.S15x5x441x1 ![0, 0, 0, 1] v
        Cert.Pre_simdistinct.Gen.slices_S15x5x441x3_S15x5x441x1_0_0_0_1) Cert.Pre_simdistinct.Gen.shapeCasts_S15x5x441x1_S15x5x441 (ix3 b j i) = v (ix4 b j i 1)
    ∧ shapeCast Cert.Pre_simdistinct.S15x5x441 (extractStridedSlice Cert.Pre_simdistinct.S15x5x441x1 ![0, 0, 0, 2] v
        Cert.Pre_simdistinct.Gen.slices_S15x5x441x3_S15x5x441x1_0_0_0_2) Cert.Pre_simdistinct.Gen.shapeCasts_S15x5x441x1_S15x5x441 (ix3 b j i) = v (ix4 b j i 2) := by
  refine ⟨?_, ?_, ?_⟩ <;> pointwise []

/-- What the precondition says, entry by entry. -/
theorem distinct_at (h : Cert.Pre_simdistinct.fn (F := Ideal) a0 a1 = fun _ => 1#1) :
    (∀ b j i m, (-1 : EReal) ≤ own a0 a1 (ix4 b j i m))
    ∧ (∀ b j i, (values a0 a1 (ix4 b j i 1) : EReal) < values a0 a1 (ix4 b j i 0))
    ∧ (∀ b j i, (values a0 a1 (ix4 b j i 2) : EReal) < values a0 a1 (ix4 b j i 1)) := by
  have hs : Subsingleton S_.Idx := ⟨fun x y => funext fun a => nomatch a⟩
  have h0 := congrFun h ix0
  unfold Cert.Pre_simdistinct.fn Cert.Pre_simdistinct.fn_part1 at h0
  obtain ⟨h0, h3⟩ := IntOp.andi_eq_one.1 h0
  obtain ⟨h1, h2⟩ := IntOp.andi_eq_one.1 h0
  refine ⟨fun b j i m => ?_, fun b j i => ?_, fun b j i => ?_⟩
  · have e : BitVec.ofBool (decide (Ideal.ofBits FTy.f32 0xBF800000#32 ≤ (own a0 a1 (ix4 b j i m) : EReal))) = 1#1 :=
      Host.reduce_andi_all _ _ _ _ _ h1 (ix4 b j i m)
    rw [Cert.FinalRefIdeal.Value.minus_bits] at e
    exact Cert.FinalRefIdeal.Value.holds_of_one e
  · obtain ⟨c0, c1, -⟩ := column_at (values a0 a1) b j i
    rw [← c0, ← c1]
    exact Cert.FinalRefIdeal.Value.above_of_one _ _ _ (Host.reduce_andi_all _ _ _ _ _ h2 (ix3 b j i))
  · obtain ⟨-, c1, c2⟩ := column_at (values a0 a1) b j i
    rw [← c1, ← c2]
    exact Cert.FinalRefIdeal.Value.above_of_one _ _ _ (Host.reduce_andi_all _ _ _ _ _ h3 (ix3 b j i))

open Cert.TopThree in
/-- Three rounds along a row end at the three values. -/
theorem best_own (h : Cert.Pre_simdistinct.fn (F := Ideal) a0 a1 = fun _ => 1#1) (b : Fin 15) (j : Fin 5) (i : Fin 441) (k : Fin 3) :
    best (fun m : Fin 2205 => (own a0 a1 (ix4 b j i m) : EReal)) k = values a0 a1 (ix4 b j i k) := by
  obtain ⟨bo, d01, d12⟩ := distinct_at a0 a1 h
  obtain ⟨hi, hs, ho⟩ := Cert.Sorted.order_spec fun l : Fin 2205 => (own a0 a1 (ix4 b j i l) : EReal)
  have three := Cert.Sorted.first_three (by omega) (fun l : Fin 2205 => (own a0 a1 (ix4 b j i l) : EReal)) _ hs ho
  have v0 := values_at a0 a1 b j i 0
  have v1 := values_at a0 a1 b j i 1
  have v2 := values_at a0 a1 b j i 2
  have m := Below.best_eq (x := fun m : Fin 2205 => (own a0 a1 (ix4 b j i m) : EReal))
    (v1 := values a0 a1 (ix4 b j i 0)) (v2 := values a0 a1 (ix4 b j i 1)) (v3 := values a0 a1 (ix4 b j i 2))
    ⟨d01 b j i, d12 b j i, by
      rw [v2]
      refine lt_of_lt_of_le ?_ (bo b j i _)
      rw [low, show (-1 : EReal) = ((-1 : ℝ) : EReal) from rfl]
      exact EReal.coe_lt_coe_iff.2 (by norm_num), by
      rw [v0, v1, v2]
      exact three⟩ v0.symm v1.symm v2.symm
  match k with
  | 0 => exact m.1
  | 1 => exact m.2.1
  | 2 => exact m.2.2

end
end Cert.SimRefIdeal.Value

namespace Cert.SimIdeal.Value

open Idealize.ShloMosaic Idealize.ShloMosaic.TcCoe Idealize.SL.Sem
open Cert.SimIdeal Cert.SimIdeal.Gen
open Cert.SimRefIdeal.Value (REF REF_at values best_own own_at)
open Cert.FinalIdeal.Rows (rowBest classDots total classRect rowBest_at total_at classDot)
open Cert.TopThree

section Text
variable {F : FTy → Type} [FloatOps F]

/-- Class `j`'s score from the blocks. -/
def scoreOf (x0 : Vec F S1x441x64 .f32) (x1 : Vec F S5x2205x64 .f32) (j : Fin 5) : FVec F S1x1 .f32 :=
  total (rowBest reduces_S441x2205_S441 broadcasts_S441x1_S441x2205
    (classDots (shapeCast S441x64 (View.ld x0 r0_0) shapeCasts_S1x441x64_S441x64) (View.ld x1 (classRect j))))

/-- The five scores. -/
def scores (x0 : Vec F S1x441x64 .f32) (x1 : Vec F S5x2205x64 .f32) : FVec F S1x1x5 .f32 :=
  shapeCast S1x1x5 (concatenate S1x5 1 (List.ofFn fun j : Fin 5 => ⟨S1x1, scoreOf x0 x1 j⟩)
    concatenates_S1x1_S1x1_S1x1_S1x1_S1x1_S1x5_d1) shapeCasts_S1x5_S1x1x5

theorem out_eq (x0 : Vec F S1x441x64 .f32) (x1 : Vec F S5x2205x64 .f32) : out0_2 x0 x1 = View.canon [⟨r0_6, scores x0 x1⟩] := rfl

end Text

section
variable (x0 : Vec Ideal S1x441x64 .f32) (x1 : Vec Ideal S5x2205x64 .f32)

theorem scoreOf_at (j : Fin 5) (a b : Fin 1) :
    scoreOf x0 x1 j (ix2 a b) = ∑ i : Fin 441, ∑ k : Fin 3, best (classDot x0 x1 i j) k := by
  refine (total_at _ a b).trans (Finset.sum_congr rfl fun i _ => Finset.sum_congr rfl fun k _ => ?_)
  refine rowBest_at _ _ _ i _ (fun m => ?_) k
  pointwise [classDots, classDot]

theorem out_at (j : Fin 5) (a b : Fin 1) :
    out0_2 x0 x1 (ix3 a b j) = ∑ i : Fin 441, ∑ k : Fin 3, best (classDot x0 x1 i j) k := by
  have hz : (![0, 0, 0] : Fin S1x1x5.rank → Nat) = fun _ => 0 := by
    funext a
    match a with
    | 0 => rfl
    | 1 => rfl
    | 2 => rfl
  rw [out_eq, ← scoreOf_at x0 x1 j 0 0]
  refine (congrFun (View.canon_unit_zero (Val := Elt Ideal) (e := .f32) hz _ (scores x0 x1)) (ix3 a b j)).trans ?_
  pointwise [scores]

end

/-- Every window's block index at every point of the grid. -/
theorem idx : ∀ t : Fin cfg0.N, win0_0.index t = ![t.val, 0, 0] ∧ win0_1.index t = ![0, 0, 0] ∧ win0_2.index t = ![t.val, 0, 0] :=
  (by decide +kernel : ∀ t : Fin grid0.N, _)

/-- The kernel's result array, over the reference's result: the same entries with an axis of one between. -/
def target (a0 : FVec Ideal S15x441x64 .f32) (a1 : FVec Ideal S5x2205x64 .f32) : FVec Ideal S15x1x5 .f32 := fun y => REF a0 a1 (ix2 (y 0) (y 2))

theorem final (m : (ℓ : Loc nD τ sig) → Buf (Elt Ideal) ℓ) (c : Dev nD)
    (hd : Cert.Pre_simdistinct.fn (F := Ideal) (m (c.tc.loc main_arg0)) (m (c.tc.loc main_arg1)) = fun _ => 1#1) :
    (dats m 0 c).arrAt 2 (cfgs 0).N = target (m (c.tc.loc main_arg0)) (m (c.tc.loc main_arg1)) := by
  refine (dats m 0 c).arrAt_eq_of_covers 2 _ (by decide +kernel) fun t _ y => ?_
  blk_simp [idx t]
  rw [after0_2]
  idx_vars y
  rw [out_at]
  have e : ∀ i k, best (classDot (iblk m c 0 t) (iblk m c 1 t) i y2) k
      = values (m (c.tc.loc main_arg0)) (m (c.tc.loc main_arg1)) (ix4 ⟨t.val, t.isLt⟩ y2 i k) := fun i k => by
    rw [← best_own _ _ hd]
    refine congrArg (fun x => best x k) (funext fun n => ?_)
    rw [own_at]
    refine Finset.sum_congr rfl fun c' _ => congrArg₂ (fun x y : EReal => x * y) ?_ ?_
    · blk_point [iblk, V_main_arg0, idx t]
    · blk_point [iblk, V_main_arg1, idx t]
  simp only [e]
  refine (REF_at _ _ ⟨t.val, t.isLt⟩ y2).symm.trans ?_
  show _ = REF _ _ _
  congr 1
  blk_ext [idx t]

/-- Without the axis of one, the kernel's result is the reference's. -/
theorem reshaped (a0 : FVec Ideal S15x441x64 .f32) (a1 : FVec Ideal S5x2205x64 .f32) :
    shapeCast S15x5 (target a0 a1) shapeCasts_S15x1x5_S15x5 = REF a0 a1 := by
  funext y
  idx_vars y
  pointwise [target]

/-- The last line drops the axis of one from the result array. -/
theorem last_line (W : Valuation τ sig (Elt Ideal)) :
    StableHlo.after (List.flatten [hostOps1]) W (Proc.devRef .tc main_v1)
      = (shapeCast S15x5 (W (Proc.devRef .tc main_v0) : FVec Ideal S15x1x5 .f32) shapeCasts_S15x1x5_S15x5 : FVec Ideal S15x5 .f32) := by
  entry_read
  rfl

/-- After the last line the result is the region's result array without its axis of one. -/
theorem tail (m : (ℓ : Loc nD τ sig) → Buf (Elt Ideal) ℓ) (c : Dev nD) :
    Pipeline.afterTail₀ cfgs (dats m) 0 (V0 m) [hostOps1] c main_v1
      = (shapeCast S15x5 ((dats m 0 c).arrAt 2 (cfgs 0).N : FVec Ideal S15x1x5 .f32) shapeCasts_S15x1x5_S15x5 : FVec Ideal S15x5 .f32) := by
  unfold Pipeline.afterTail₀
  refine (last_line _).trans ?_
  refine congrArg (fun x : FVec Ideal S15x1x5 .f32 => (shapeCast S15x5 x shapeCasts_S15x1x5_S15x5 : FVec Ideal S15x5 .f32)) ?_
  exact Pipeline.withArrays_arr spec0 (by decide +kernel) c _ _ 2

end Cert.SimIdeal.Value

end
-- ==== Proof.Taps.lean ====
/-
  A three by three convolution over a square image stored row after row with a border of one cell: the nine terms of a
  cell, the inside of the border, and the sum of a function that is zero on the border.
-/
module

public import Idealize.ShloMosaic.Lib.Pointwise

@[expose] public section

noncomputable section

namespace Cert.Taps

open Idealize.ShloMosaic

variable {N K : ℕ}

/-- The product of row `n` of `x` with the column `w`. -/
def term (x : Fin N → Fin K → EReal) (w : Fin K → EReal) (n : ℕ) : EReal := ∑ c, (if h : n < N then x ⟨n, h⟩ c else 0) * w c

theorem term_eq {x : Fin N → Fin K → EReal} {w : Fin K → EReal} {n : ℕ} {v : Fin K → EReal} (p : ℕ)
    (hv : ∀ (c : Fin K) (hp : p < N), v c = x ⟨p, hp⟩ c * w c) (h : p = n ∧ p < N) : ∑ c, v c = term x w n := by
  obtain ⟨rfl, hp⟩ := h
  unfold term
  simp only [hp, dif_pos, fun c => hv c hp]

/-- The convolution at the cell one down and one right of `(i, j)`, in an image of width `W`: nine terms added from the left. -/
def taps (W : ℕ) (x : Fin N → Fin K → EReal) (w : Fin 9 → Fin K → EReal) (i j : ℕ) : EReal :=
  term x (w 0) (W * i + j) + term x (w 1) (W * i + (j + 1)) + term x (w 2) (W * i + (j + 2))
    + term x (w 3) (W * (i + 1) + j) + term x (w 4) (W * (i + 1) + (j + 1)) + term x (w 5) (W * (i + 1) + (j + 2))
    + term x (w 6) (W * (i + 2) + j) + term x (w 7) (W * (i + 2) + (j + 1)) + term x (w 8) (W * (i + 2) + (j + 2))

theorem taps_eq {W : ℕ} {x : Fin N → Fin K → EReal} {w : Fin 9 → Fin K → EReal} {i j : ℕ} {a b c d e g h k l : EReal}
    (h0 : a = term x (w 0) (W * i + j)) (h1 : b = term x (w 1) (W * i + (j + 1))) (h2 : c = term x (w 2) (W * i + (j + 2)))
    (h3 : d = term x (w 3) (W * (i + 1) + j)) (h4 : e = term x (w 4) (W * (i + 1) + (j + 1))) (h5 : g = term x (w 5) (W * (i + 1) + (j + 2)))
    (h6 : h = term x (w 6) (W * (i + 2) + j)) (h7 : k = term x (w 7) (W * (i + 2) + (j + 1))) (h8 : l = term x (w 8) (W * (i + 2) + (j + 2))) :
    a + b + c + d + e + g + h + k + l = taps W x w i j := by
  subst h0 h1 h2 h3 h4 h5 h6 h7 h8
  rfl

/-- Row `p` of the image is a cell inside the border of one. -/
def inside (H p : ℕ) : Prop := (1 ≤ p / (H + 2) ∧ p / (H + 2) - 1 < H) ∧ 1 ≤ p % (H + 2) ∧ p % (H + 2) - 1 < H

instance (H p : ℕ) : Decidable (inside H p) := inferInstanceAs (Decidable (_ ∧ _))

/-- The convolved image at row `p`: zero on the border. -/
def cell (H : ℕ) (x : Fin N → Fin K → EReal) (w : Fin 9 → Fin K → EReal) (p : ℕ) : EReal :=
  if inside H p then taps (H + 2) x w (p / (H + 2) - 1) (p % (H + 2) - 1) else 0

/-- The row of the inside cell `(i, j)`. -/
def place (H i j : ℕ) : ℕ := (H + 2) * (i + 1) + (j + 1)

theorem place_div {H i j : ℕ} (hj : j < H) : place H i j / (H + 2) = i + 1 := by
  unfold place
  rw [Nat.mul_add_div (by omega), Nat.div_eq_of_lt (by omega)]

theorem place_mod {H i j : ℕ} (hj : j < H) : place H i j % (H + 2) = j + 1 := by
  unfold place
  rw [Nat.mul_add_mod, Nat.mod_eq_of_lt (by omega)]

theorem cell_place {H i j : ℕ} (x : Fin N → Fin K → EReal) (w : Fin 9 → Fin K → EReal) (hi : i < H) (hj : j < H) :
    cell H x w (place H i j) = taps (H + 2) x w i j := by
  unfold cell
  rw [if_pos (by unfold inside; rw [place_div hj, place_mod hj]; omega), place_div hj, place_mod hj]
  rfl

theorem place_lt {H i j : ℕ} (hN : (H + 2) * (H + 2) = N) (hi : i < H) (hj : j < H) : place H i j < N := by
  unfold place
  have : (H + 2) * (i + 1) + (H + 2) ≤ (H + 2) * (H + 2) := by
    rw [← Nat.mul_succ]
    exact Nat.mul_le_mul_left _ (by omega)
  omega

/-- A sum over the image of a function that is zero on the border is the sum over the inside. -/
theorem sum_inside {H : ℕ} (hN : (H + 2) * (H + 2) = N) (f : ℕ → EReal) (hf : ∀ p, ¬ inside H p → f p = 0) :
    ∑ p : Fin N, f p.val = ∑ i : Fin H, ∑ j : Fin H, f (place H i.val j.val) := by
  rw [← Fintype.sum_prod_type' (fun (i j : Fin H) => f (place H i.val j.val))]
  symm
  refine Finset.sum_of_injOn (fun ij : Fin H × Fin H => (⟨place H ij.1.val ij.2.val, place_lt hN ij.1.isLt ij.2.isLt⟩ : Fin N)) ?_ ?_ ?_ ?_
  · rintro ⟨i, j⟩ _ ⟨k, l⟩ _ h
    have h := congrArg Fin.val h
    dsimp only at h
    have h1 := congrArg (· / (H + 2)) h
    have h2 := congrArg (· % (H + 2)) h
    rw [place_div j.isLt, place_div l.isLt] at h1
    rw [place_mod j.isLt, place_mod l.isLt] at h2
    exact Prod.ext (Fin.ext (by dsimp only; omega)) (Fin.ext (by dsimp only; omega))
  · exact fun _ _ => Finset.mem_coe.2 (Finset.mem_univ _)
  · intro p _ hp
    refine hf _ fun hin => hp ?_
    obtain ⟨⟨h1, h2⟩, h3, h4⟩ := hin
    refine ⟨(⟨_, h2⟩, ⟨_, h4⟩), Finset.mem_coe.2 (Finset.mem_univ _), Fin.ext ?_⟩
    show place H (p.val / (H + 2) - 1) (p.val % (H + 2) - 1) = p.val
    unfold place
    rw [Nat.sub_add_cancel h1, Nat.sub_add_cancel h3]
    exact Nat.div_add_mod _ _
  · exact fun _ _ => rfl

/-- The sum of the convolved image. -/
theorem sum_cell {H : ℕ} (hN : (H + 2) * (H + 2) = N) (x : Fin N → Fin K → EReal) (w : Fin 9 → Fin K → EReal) :
    ∑ i : Fin H, ∑ j : Fin H, taps (H + 2) x w i.val j.val = ∑ p : Fin N, cell H x w p.val := by
  rw [sum_inside hN (cell H x w) fun p h => if_neg h]
  exact Finset.sum_congr rfl fun i _ => Finset.sum_congr rfl fun j _ => (cell_place x w i.isLt j.isLt).symm

/-- The sum of its squares. -/
theorem sum_square {H : ℕ} (hN : (H + 2) * (H + 2) = N) (x : Fin N → Fin K → EReal) (w : Fin 9 → Fin K → EReal) :
    ∑ i : Fin H, ∑ j : Fin H, taps (H + 2) x w i.val j.val * taps (H + 2) x w i.val j.val = ∑ p : Fin N, cell H x w p.val * cell H x w p.val := by
  rw [sum_inside hN (fun p => cell H x w p * cell H x w p) fun p h => by rw [cell, if_neg h, mul_zero]]
  exact Finset.sum_congr rfl fun i _ => Finset.sum_congr rfl fun j _ => by rw [cell_place x w i.isLt j.isLt]

/-- The sum over the two middle axes of a rank-four array. -/
theorem sum_middle {B H W C : ℕ} (h : (⟨4, ![B, H, W, C]⟩ : Shape).ReducesTo [1, 2] ⟨2, ![B, C]⟩) (x : (⟨4, ![B, H, W, C]⟩ : Shape).Idx → EReal)
    (z : EReal) (b : Fin B) (c : Fin C) :
    Ideal.hostReduceAdd h x z (ix2 b c) = z + ∑ i : Fin H, ∑ j : Fin W, x (ix4 b i j c) := by
  unfold Ideal.hostReduceAdd
  refine congrArg (z + ·) ?_
  rw [← Fintype.sum_prod_type' (fun (i : Fin H) (j : Fin W) => x (ix4 b i j c))]
  symm
  have hd : ∀ i : (⟨4, ![B, H, W, C]⟩ : Shape).Idx, ((h.drop i) 0).val = (i 0).val ∧ ((h.drop i) 1).val = (i 3).val := fun i => ⟨rfl, rfl⟩
  refine Finset.sum_bij (fun ij _ => ix4 b ij.1 ij.2 c) ?_ ?_ ?_ fun _ _ => rfl
  · intro ij _
    refine Finset.mem_filter.2 ⟨Finset.mem_univ _, ?_⟩
    funext a
    match a with
    | ⟨0, _⟩ => exact Fin.ext (hd _).1
    | ⟨1, _⟩ => exact Fin.ext (hd _).2
  · intro p _ q _ e
    exact Prod.ext (congrFun e 1) (congrFun e 2)
  · intro i hi
    have e := (Finset.mem_filter.1 hi).2
    refine ⟨(i 1, i 2), Finset.mem_univ _, ?_⟩
    funext a
    match a with
    | ⟨0, _⟩ => exact Fin.ext ((congrArg Fin.val (congrFun e 0)).symm.trans (hd i).1)
    | ⟨1, _⟩ => rfl
    | ⟨2, _⟩ => rfl
    | ⟨3, _⟩ => exact Fin.ext ((congrArg Fin.val (congrFun e 1)).symm.trans (hd i).2)

end Cert.Taps

end
-- ==== Proof.Conv44Value.lean ====
module

public import proofs.«01_k».proof.Proof.Taps
public import proofs.«01_k».proof.Proof.Gen.Conv44RefIdeal
public import proofs.«01_k».proof.Proof.Gen.Conv44Ideal.Frame
public import Idealize.ShloMosaic.Lib.Pointwise
public import Idealize.ShloMosaic.Lib.Pipeline.ValueKit
public import Idealize.ShloMosaic.Lib.Claim

@[expose] public section

set_option maxRecDepth 16384

noncomputable section
namespace Cert.Conv44RefIdeal.Value
open Idealize.ShloMosaic
open Cert.Conv44RefIdeal Cert.Conv44RefIdeal.Gen
open Cert.Taps

/-- One term of the convolution: a shifted window of the image times one matrix of the weights. -/
def part (z : FVec Ideal S65x1936x64 .f32) (w : FVec Ideal S64x64x3x3 .f32) (s : Fin 4 → ℕ) (r : Fin 4 → ℕ)
    (hs : S65x44x44x64.Slices s S65x42x42x64) (hr : S64x64x3x3.Slices r S64x64x1x1) : FVec Ideal S65x42x42x64 .f32 :=
  Host.dotGeneral dot_S65x42x42x64_S64x64_S65x42x42x64_3_1_012_0_n_n none
    (extractStridedSlice S65x42x42x64 s (shapeCast S65x44x44x64 z shapeCasts_S65x1936x64_S65x44x44x64) hs)
    (shapeCast S64x64 (extractStridedSlice S64x64x1x1 r w hr) shapeCasts_S64x64x1x1_S64x64)

/-- The convolved image, as the reference adds it up. -/
def image (z : FVec Ideal S65x1936x64 .f32) (w : FVec Ideal S64x64x3x3 .f32) : FVec Ideal S65x42x42x64 .f32 :=
  addf (addf (addf (addf (addf (addf (addf (addf (addf
    (broadcastInDim S65x42x42x64 ![] bcast_S_S65x42x42x64 (constant S_ .f32 0x00000000#32))
    (part z w ![0, 0, 0, 0] ![0, 0, 0, 0] slices_S65x44x44x64_S65x42x42x64_0_0_0_0 slices_S64x64x3x3_S64x64x1x1_0_0_0_0))
    (part z w ![0, 0, 1, 0] ![0, 0, 0, 1] slices_S65x44x44x64_S65x42x42x64_0_0_1_0 slices_S64x64x3x3_S64x64x1x1_0_0_0_1))
    (part z w ![0, 0, 2, 0] ![0, 0, 0, 2] slices_S65x44x44x64_S65x42x42x64_0_0_2_0 slices_S64x64x3x3_S64x64x1x1_0_0_0_2))
    (part z w ![0, 1, 0, 0] ![0, 0, 1, 0] slices_S65x44x44x64_S65x42x42x64_0_1_0_0 slices_S64x64x3x3_S64x64x1x1_0_0_1_0))
    (part z w ![0, 1, 1, 0] ![0, 0, 1, 1] slices_S65x44x44x64_S65x42x42x64_0_1_1_0 slices_S64x64x3x3_S64x64x1x1_0_0_1_1))
    (part z w ![0, 1, 2, 0] ![0, 0, 1, 2] slices_S65x44x44x64_S65x42x42x64_0_1_2_0 slices_S64x64x3x3_S64x64x1x1_0_0_1_2))
    (part z w ![0, 2, 0, 0] ![0, 0, 2, 0] slices_S65x44x44x64_S65x42x42x64_0_2_0_0 slices_S64x64x3x3_S64x64x1x1_0_0_2_0))
    (part z w ![0, 2, 1, 0] ![0, 0, 2, 1] slices_S65x44x44x64_S65x42x42x64_0_2_1_0 slices_S64x64x3x3_S64x64x1x1_0_0_2_1))
    (part z w ![0, 2, 2, 0] ![0, 0, 2, 2] slices_S65x44x44x64_S65x42x42x64_0_2_2_0 slices_S64x64x3x3_S64x64x1x1_0_0_2_2)

/-- The reference's first result: the convolved image inside a border of zeros. -/
def REF (z : FVec Ideal S65x1936x64 .f32) (w : FVec Ideal S64x64x3x3 .f32) : FVec Ideal S65x1936x64 .f32 :=
  shapeCast S65x1936x64 (pad S65x44x44x64 ![0, 1, 1, 0] ![0, 1, 1, 0] ![0, 0, 0, 0] (image z w)
    (sitofp FTy.f32 (constantI S_ 32 0#32) : FVec Ideal S_ .f32) pads_S65x42x42x64_S65x44x44x64_000_110_110_000 h_S_) shapeCasts_S65x44x44x64_S65x1936x64

/-- The sum of an image over its cells, with the axis of one the results have. -/
def summed (x : FVec Ideal S65x42x42x64 .f32) : FVec Ideal S65x1x64 .f32 :=
  shapeCast S65x1x64 (Host.reduceAdd x (constant S_ .f32 0x00000000#32 : FVec Ideal S_ .f32) reducesTo_S65x42x42x64_S65x64_d1_2 h_S_) shapeCasts_S65x64_S65x1x64

/-- The rows of image `b`. -/
def rows (z : FVec Ideal S65x1936x64 .f32) (b : Fin 65) (p : Fin 1936) (c : Fin 64) : EReal := z (ix3 b p c)

/-- The weights of channel `ch`, tap by tap. -/
def column (w : FVec Ideal S64x64x3x3 .f32) (ch : Fin 64) (t : Fin 9) (c : Fin 64) : EReal :=
  w (ix4 ch c ⟨t.val / 3, by omega⟩ ⟨t.val % 3, by omega⟩)

theorem image_at (z : FVec Ideal S65x1936x64 .f32) (w : FVec Ideal S64x64x3x3 .f32) (b : Fin 65) (i j : Fin 42) (ch : Fin 64) :
    image z w (ix4 b i j ch) = taps 44 (rows z b) (column w ch) i.val j.val := by
  pointwise [image, part]
  refine taps_eq ?_ ?_ ?_ ?_ ?_ ?_ ?_ ?_ ?_ <;> refine term_eq _ (fun c _ => rfl) ?_ <;> omega

theorem summed_at (x : FVec Ideal S65x42x42x64 .f32) (b : Fin 65) (o : Fin 1) (ch : Fin 64) : summed x (ix3 b o ch) = ∑ i : Fin 42, ∑ j : Fin 42, x (ix4 b i j ch) := by
  pointwise [summed]
  exact (sum_middle _ _ _ _ _).trans (zero_add _)

theorem square_at (x : FVec Ideal S65x42x42x64 .f32) (b : Fin 65) (i j : Fin 42) (ch : Fin 64) :
    mulf x x (ix4 b i j ch) = x (ix4 b i j ch) * x (ix4 b i j ch) := rfl

/-- The first result, row by row. -/
theorem REF_at (z : FVec Ideal S65x1936x64 .f32) (w : FVec Ideal S64x64x3x3 .f32) (b : Fin 65) (p : Fin 1936) (ch : Fin 64) :
    REF z w (ix3 b p ch) = cell 42 (rows z b) (column w ch) p.val := by
  pointwise [REF]
  unfold cell
  by_cases h : inside 42 p.val
  · rw [if_pos h]
    exact (dif_pos h).trans (image_at _ _ _ _ _ _)
  · rw [if_neg h]
    exact (dif_neg h).trans (by simp [FloatOps.sitofp])

/-- The second result: the sum of the first's rows. -/
theorem sum_at (z : FVec Ideal S65x1936x64 .f32) (w : FVec Ideal S64x64x3x3 .f32) (b : Fin 65) (o : Fin 1) (ch : Fin 64) :
    summed (image z w) (ix3 b o ch) = ∑ p : Fin 1936, cell 42 (rows z b) (column w ch) p.val := by
  rw [summed_at]
  simp only [image_at]
  exact sum_cell (H := 42) (by decide) _ _

/-- The third result: the sum of the first's rows squared. -/
theorem square_sum_at (z : FVec Ideal S65x1936x64 .f32) (w : FVec Ideal S64x64x3x3 .f32) (b : Fin 65) (o : Fin 1) (ch : Fin 64) :
    summed (mulf (image z w) (image z w)) (ix3 b o ch)
      = ∑ p : Fin 1936, cell 42 (rows z b) (column w ch) p.val * cell 42 (rows z b) (column w ch) p.val := by
  rw [summed_at]
  simp only [square_at, image_at]
  exact sum_square (H := 42) (by decide) _ _

end Cert.Conv44RefIdeal.Value

namespace Cert.Conv44Ideal.Value

open Idealize.ShloMosaic Idealize.ShloMosaic.TcCoe Idealize.SL.Sem
open Cert.Conv44Ideal Cert.Conv44Ideal.Gen
open Cert.Conv44RefIdeal.Value (REF image summed rows column REF_at sum_at square_sum_at)
open Cert.Taps

/-- The weights as the call takes them: a matrix for each tap. -/
def weights (w : FVec Ideal S64x64x3x3 .f32) : FVec Ideal S9x64x64 .f32 :=
  shapeCast S9x64x64 (transpose S3x3x64x64 [2, 3, 1, 0] w transposes_S64x64x3x3_S3x3x64x64_2_3_1_0) shapeCasts_S3x3x64x64_S9x64x64

/-- The mask the call takes: one inside the border, zero on it. -/
def mask : FVec Ideal S1936x1 .f32 :=
  shapeCast S1936x1 (pad S44x44 ![1, 1] ![1, 1] ![0, 0] (broadcastInDim S42x42 ![] bcast_S_S42x42 (constant S_ .f32 0x3F800000#32 : FVec Ideal S_ .f32))
    (sitofp FTy.f32 (constantI S_ 32 0#32) : FVec Ideal S_ .f32) pads_S42x42_S44x44_110_110 h_S_) shapeCasts_S44x44_S1936x1

theorem weights_at (w : FVec Ideal S64x64x3x3 .f32) (t : Fin 9) (c : Fin 64) (ch : Fin 64) : weights w (ix3 t c ch) = column w ch t c := by
  pointwise [weights, column]

theorem mask_at (p : Fin 1936) (o : Fin 1) : mask (ix2 p o) = (if inside 42 p.val then 1 else 0 : EReal) := by
  pointwise [mask]
  by_cases h : inside 42 p.val
  · rw [if_pos h]
    exact dif_pos h
  · rw [if_neg h]
    exact (dif_neg h).trans (by simp [FloatOps.sitofp])

section
variable (x0 : Vec Ideal S1x1936x64 .f32) (x1 : Vec Ideal S9x64x64 .f32) (x2 : Vec Ideal S1936x1 .f32)

/-- The masked convolution the body computes before it stores. -/
def body : FVec Ideal S1936x64 .f32 :=
  k0_pay6 (k0_pay9 x0 x1 x2) (k0_pay10 x0 x1 x2) (k0_pay11 x0 x1 x2) (View.ld x1 r0_6) (View.ld x1 r0_7) (View.ld x1 r0_8) (View.ld x1 r0_9) (View.ld x2 r0_10)

variable (z : FVec Ideal S65x1936x64 .f32) (w : FVec Ideal S64x64x3x3 .f32) (b : Fin 65)
  (hz : ∀ p c, x0 (ix3 0 p c) = z (ix3 b p c)) (hw : ∀ t c ch, x1 (ix3 t c ch) = column w ch t c)
  (hm : ∀ p, x2 (ix2 p 0) = (if inside 42 p.val then 1 else 0 : EReal))
include hz hw hm

theorem body_at (p : Fin 1936) (ch : Fin 64) : body x0 x1 x2 (ix2 p ch) = cell 42 (rows z b) (column w ch) p.val := by
  pointwise [body, k0_pay3, k0_pay4, k0_pay5, k0_pay6, k0_pay9, k0_pay10, k0_pay11]
  rw [hm]
  unfold cell
  by_cases h : inside 42 p.val
  · rw [if_pos h, if_pos h, mul_one]
    obtain ⟨⟨h1, h2⟩, h3, h4⟩ := h
    have l0 : ¬ p.val < 45 := by omega
    have l1 : ¬ p.val < 44 := by omega
    have l2 : ¬ p.val < 43 := by omega
    have l3 : ¬ p.val < 1 := by omega
    have l5 : p.val < 1935 := by omega
    have l6 : p.val < 1893 := by omega
    have l7 : p.val < 1892 := by omega
    have l8 : p.val < 1891 := by omega
    simp only [dif_neg l0, dif_neg l1, dif_neg l2, dif_neg l3, dif_pos l5, dif_pos l6, dif_pos l7, dif_pos l8, hz, hw]
    refine taps_eq ?_ ?_ ?_ ?_ ?_ ?_ ?_ ?_ ?_ <;> refine term_eq _ (fun c _ => rfl) ?_ <;> omega
  · rw [if_neg h, if_neg h, mul_zero]

theorem image_out (o : Fin 1) (p : Fin 1936) (ch : Fin 64) : out0_3 x0 x1 x2 (ix3 o p ch) = REF z w (ix3 b p ch) := by
  have e : (![0, 0, 0] : Fin S1x1936x64.rank → Nat) = fun _ => 0 := by decide
  rw [REF_at, ← body_at x0 x1 x2 z w b hz hw hm]
  refine (congrFun (View.canon_unit_zero (Val := Elt Ideal) (e := .f32) e _ _) (ix3 o p ch)).trans ?_
  pointwise [k0_pay7]
  rfl

theorem sum_out (o o' : Fin 1) (ch : Fin 64) : out0_4 x0 x1 x2 (ix3 o o' ch) = summed (image z w) (ix3 b 0 ch) := by
  have e : (![0, 0, 0] : Fin S1x1x64.rank → Nat) = fun _ => 0 := by decide
  rw [sum_at]
  simp only [← body_at x0 x1 x2 z w b hz hw hm]
  refine (congrFun (View.canon_unit_zero (Val := Elt Ideal) (e := .f32) e _ _) (ix3 o o' ch)).trans ?_
  pointwise [k0_pay1, k0_pay8]
  rfl

theorem square_out (o o' : Fin 1) (ch : Fin 64) : out0_5 x0 x1 x2 (ix3 o o' ch) = summed (mulf (image z w) (image z w)) (ix3 b 0 ch) := by
  have e : (![0, 0, 0] : Fin S1x1x64.rank → Nat) = fun _ => 0 := by decide
  rw [square_sum_at]
  simp only [← body_at x0 x1 x2 z w b hz hw hm]
  refine (congrFun (View.canon_unit_zero (Val := Elt Ideal) (e := .f32) e _ _) (ix3 o o' ch)).trans ?_
  pointwise [k0_pay2]
  rfl

end

/-- Every window's block index at every point of the grid. -/
theorem idx : ∀ t : Fin cfg0.N, win0_0.index t = ![t.val, 0, 0] ∧ win0_1.index t = ![0, 0, 0] ∧ win0_2.index t = ![0, 0]
    ∧ win0_3.index t = ![t.val, 0, 0] ∧ win0_4.index t = ![t.val, 0, 0] ∧ win0_5.index t = ![t.val, 0, 0] :=
  (by decide +kernel : ∀ t : Fin grid0.N, _)

section
variable (m : (ℓ : Loc nD τ sig) → Buf (Elt Ideal) ℓ) (c : Dev nD)

theorem weights_entry : V m c main_v1 = weights (m (c.tc.loc main_arg1)) := by
  entry_read
  rfl

theorem mask_entry : V m c main_v4 = mask := by
  entry_read
  rfl

theorem image_block (t : Fin cfg0.N) (p : Fin 1936) (k : Fin 64) : iblk m c 0 t (ix3 0 p k) = m (c.tc.loc main_arg0) (ix3 ⟨t.val, t.isLt⟩ p k) := by
  blk_point [iblk, V_main_arg0, idx t]

theorem weights_block (t : Fin cfg0.N) (a : Fin 9) (k : Fin 64) (ch : Fin 64) : iblk m c 1 t (ix3 a k ch) = column (m (c.tc.loc main_arg1)) ch a k := by
  rw [← weights_at, ← weights_entry]
  blk_point [iblk, idx t]

theorem mask_block (t : Fin cfg0.N) (p : Fin 1936) : iblk m c 2 t (ix2 p 0) = (if inside 42 p.val then 1 else 0 : EReal) := by
  rw [← mask_at p 0, ← mask_entry m c]
  blk_point [iblk, idx t]

theorem final_image : (dats m 0 c).arrAt 3 (cfgs 0).N = REF (m (c.tc.loc main_arg0)) (m (c.tc.loc main_arg1)) := by
  refine (dats m 0 c).arrAt_eq_of_covers 3 _ (by decide +kernel) fun t _ y => ?_
  blk_simp [idx t]
  rw [after0_3]
  idx_vars y
  rw [image_out _ _ _ _ _ ⟨t.val, t.isLt⟩ (image_block m c t) (weights_block m c t) (mask_block m c t)]
  blk_ext [idx t]

theorem final_sum : (dats m 0 c).arrAt 4 (cfgs 0).N = summed (image (m (c.tc.loc main_arg0)) (m (c.tc.loc main_arg1))) := by
  refine (dats m 0 c).arrAt_eq_of_covers 4 _ (by decide +kernel) fun t _ y => ?_
  blk_simp [idx t]
  rw [after0_4]
  idx_vars y
  rw [sum_out _ _ _ _ _ ⟨t.val, t.isLt⟩ (image_block m c t) (weights_block m c t) (mask_block m c t)]
  blk_ext [idx t]

theorem final_square : (dats m 0 c).arrAt 5 (cfgs 0).N
    = summed (mulf (image (m (c.tc.loc main_arg0)) (m (c.tc.loc main_arg1))) (image (m (c.tc.loc main_arg0)) (m (c.tc.loc main_arg1)))) := by
  refine (dats m 0 c).arrAt_eq_of_covers 5 _ (by decide +kernel) fun t _ y => ?_
  blk_simp [idx t]
  rw [after0_5]
  idx_vars y
  rw [square_out _ _ _ _ _ ⟨t.val, t.isLt⟩ (image_block m c t) (weights_block m c t) (mask_block m c t)]
  blk_ext [idx t]

end

end Cert.Conv44Ideal.Value

end
-- ==== Proof.Conv23Value.lean ====
module

public import proofs.«01_k».proof.Proof.Taps
public import proofs.«01_k».proof.Proof.Gen.Conv23RefIdeal
public import proofs.«01_k».proof.Proof.Gen.Conv23Ideal.Frame
public import Idealize.ShloMosaic.Lib.Pointwise
public import Idealize.ShloMosaic.Lib.Pipeline.ValueKit
public import Idealize.ShloMosaic.Lib.Claim

@[expose] public section

set_option maxRecDepth 16384

noncomputable section
namespace Cert.Conv23RefIdeal.Value
open Idealize.ShloMosaic
open Cert.Conv23RefIdeal Cert.Conv23RefIdeal.Gen
open Cert.Taps

/-- One term of the convolution: a shifted window of the image times one matrix of the weights. -/
def part (z : FVec Ideal S65x529x64 .f32) (w : FVec Ideal S64x64x3x3 .f32) (s : Fin 4 → ℕ) (r : Fin 4 → ℕ)
    (hs : S65x23x23x64.Slices s S65x21x21x64) (hr : S64x64x3x3.Slices r S64x64x1x1) : FVec Ideal S65x21x21x64 .f32 :=
  Host.dotGeneral dot_S65x21x21x64_S64x64_S65x21x21x64_3_1_012_0_n_n none
    (extractStridedSlice S65x21x21x64 s (shapeCast S65x23x23x64 z shapeCasts_S65x529x64_S65x23x23x64) hs)
    (shapeCast S64x64 (extractStridedSlice S64x64x1x1 r w hr) shapeCasts_S64x64x1x1_S64x64)

/-- The convolved image, as the reference adds it up. -/
def image (z : FVec Ideal S65x529x64 .f32) (w : FVec Ideal S64x64x3x3 .f32) : FVec Ideal S65x21x21x64 .f32 :=
  addf (addf (addf (addf (addf (addf (addf (addf (addf
    (broadcastInDim S65x21x21x64 ![] bcast_S_S65x21x21x64 (constant S_ .f32 0x00000000#32))
    (part z w ![0, 0, 0, 0] ![0, 0, 0, 0] slices_S65x23x23x64_S65x21x21x64_0_0_0_0 slices_S64x64x3x3_S64x64x1x1_0_0_0_0))
    (part z w ![0, 0, 1, 0] ![0, 0, 0, 1] slices_S65x23x23x64_S65x21x21x64_0_0_1_0 slices_S64x64x3x3_S64x64x1x1_0_0_0_1))
    (part z w ![0, 0, 2, 0] ![0, 0, 0, 2] slices_S65x23x23x64_S65x21x21x64_0_0_2_0 slices_S64x64x3x3_S64x64x1x1_0_0_0_2))
    (part z w ![0, 1, 0, 0] ![0, 0, 1, 0] slices_S65x23x23x64_S65x21x21x64_0_1_0_0 slices_S64x64x3x3_S64x64x1x1_0_0_1_0))
    (part z w ![0, 1, 1, 0] ![0, 0, 1, 1] slices_S65x23x23x64_S65x21x21x64_0_1_1_0 slices_S64x64x3x3_S64x64x1x1_0_0_1_1))
    (part z w ![0, 1, 2, 0] ![0, 0, 1, 2] slices_S65x23x23x64_S65x21x21x64_0_1_2_0 slices_S64x64x3x3_S64x64x1x1_0_0_1_2))
    (part z w ![0, 2, 0, 0] ![0, 0, 2, 0] slices_S65x23x23x64_S65x21x21x64_0_2_0_0 slices_S64x64x3x3_S64x64x1x1_0_0_2_0))
    (part z w ![0, 2, 1, 0] ![0, 0, 2, 1] slices_S65x23x23x64_S65x21x21x64_0_2_1_0 slices_S64x64x3x3_S64x64x1x1_0_0_2_1))
    (part z w ![0, 2, 2, 0] ![0, 0, 2, 2] slices_S65x23x23x64_S65x21x21x64_0_2_2_0 slices_S64x64x3x3_S64x64x1x1_0_0_2_2)

/-- The reference's first result: the convolved image inside a border of zeros. -/
def REF (z : FVec Ideal S65x529x64 .f32) (w : FVec Ideal S64x64x3x3 .f32) : FVec Ideal S65x529x64 .f32 :=
  shapeCast S65x529x64 (pad S65x23x23x64 ![0, 1, 1, 0] ![0, 1, 1, 0] ![0, 0, 0, 0] (image z w)
    (sitofp FTy.f32 (constantI S_ 32 0#32) : FVec Ideal S_ .f32) pads_S65x21x21x64_S65x23x23x64_000_110_110_000 h_S_) shapeCasts_S65x23x23x64_S65x529x64

/-- The sum of an image over its cells, with the axis of one the results have. -/
def summed (x : FVec Ideal S65x21x21x64 .f32) : FVec Ideal S65x1x64 .f32 :=
  shapeCast S65x1x64 (Host.reduceAdd x (constant S_ .f32 0x00000000#32 : FVec Ideal S_ .f32) reducesTo_S65x21x21x64_S65x64_d1_2 h_S_) shapeCasts_S65x64_S65x1x64

/-- The rows of image `b`. -/
def rows (z : FVec Ideal S65x529x64 .f32) (b : Fin 65) (p : Fin 529) (c : Fin 64) : EReal := z (ix3 b p c)

/-- The weights of channel `ch`, tap by tap. -/
def column (w : FVec Ideal S64x64x3x3 .f32) (ch : Fin 64) (t : Fin 9) (c : Fin 64) : EReal :=
  w (ix4 ch c ⟨t.val / 3, by omega⟩ ⟨t.val % 3, by omega⟩)

theorem image_at (z : FVec Ideal S65x529x64 .f32) (w : FVec Ideal S64x64x3x3 .f32) (b : Fin 65) (i j : Fin 21) (ch : Fin 64) :
    image z w (ix4 b i j ch) = taps 23 (rows z b) (column w ch) i.val j.val := by
  pointwise [image, part]
  refine taps_eq ?_ ?_ ?_ ?_ ?_ ?_ ?_ ?_ ?_ <;> refine term_eq _ (fun c _ => rfl) ?_ <;> omega

theorem summed_at (x : FVec Ideal S65x21x21x64 .f32) (b : Fin 65) (o : Fin 1) (ch : Fin 64) : summed x (ix3 b o ch) = ∑ i : Fin 21, ∑ j : Fin 21, x (ix4 b i j ch) := by
  pointwise [summed]
  exact (sum_middle _ _ _ _ _).trans (zero_add _)

theorem square_at (x : FVec Ideal S65x21x21x64 .f32) (b : Fin 65) (i j : Fin 21) (ch : Fin 64) :
    mulf x x (ix4 b i j ch) = x (ix4 b i j ch) * x (ix4 b i j ch) := rfl

/-- The first result, row by row. -/
theorem REF_at (z : FVec Ideal S65x529x64 .f32) (w : FVec Ideal S64x64x3x3 .f32) (b : Fin 65) (p : Fin 529) (ch : Fin 64) :
    REF z w (ix3 b p ch) = cell 21 (rows z b) (column w ch) p.val := by
  pointwise [REF]
  unfold cell
  by_cases h : inside 21 p.val
  · rw [if_pos h]
    exact (dif_pos h).trans (image_at _ _ _ _ _ _)
  · rw [if_neg h]
    exact (dif_neg h).trans (by simp [FloatOps.sitofp])

/-- The second result: the sum of the first's rows. -/
theorem sum_at (z : FVec Ideal S65x529x64 .f32) (w : FVec Ideal S64x64x3x3 .f32) (b : Fin 65) (o : Fin 1) (ch : Fin 64) :
    summed (image z w) (ix3 b o ch) = ∑ p : Fin 529, cell 21 (rows z b) (column w ch) p.val := by
  rw [summed_at]
  simp only [image_at]
  exact sum_cell (H := 21) (by decide) _ _

/-- The third result: the sum of the first's rows squared. -/
theorem square_sum_at (z : FVec Ideal S65x529x64 .f32) (w : FVec Ideal S64x64x3x3 .f32) (b : Fin 65) (o : Fin 1) (ch : Fin 64) :
    summed (mulf (image z w) (image z w)) (ix3 b o ch)
      = ∑ p : Fin 529, cell 21 (rows z b) (column w ch) p.val * cell 21 (rows z b) (column w ch) p.val := by
  rw [summed_at]
  simp only [square_at, image_at]
  exact sum_square (H := 21) (by decide) _ _

end Cert.Conv23RefIdeal.Value

namespace Cert.Conv23Ideal.Value

open Idealize.ShloMosaic Idealize.ShloMosaic.TcCoe Idealize.SL.Sem
open Cert.Conv23Ideal Cert.Conv23Ideal.Gen
open Cert.Conv23RefIdeal.Value (REF image summed rows column REF_at sum_at square_sum_at)
open Cert.Taps

/-- The weights as the call takes them: a matrix for each tap. -/
def weights (w : FVec Ideal S64x64x3x3 .f32) : FVec Ideal S9x64x64 .f32 :=
  shapeCast S9x64x64 (transpose S3x3x64x64 [2, 3, 1, 0] w transposes_S64x64x3x3_S3x3x64x64_2_3_1_0) shapeCasts_S3x3x64x64_S9x64x64

/-- The mask the call takes: one inside the border, zero on it. -/
def mask : FVec Ideal S529x1 .f32 :=
  shapeCast S529x1 (pad S23x23 ![1, 1] ![1, 1] ![0, 0] (broadcastInDim S21x21 ![] bcast_S_S21x21 (constant S_ .f32 0x3F800000#32 : FVec Ideal S_ .f32))
    (sitofp FTy.f32 (constantI S_ 32 0#32) : FVec Ideal S_ .f32) pads_S21x21_S23x23_110_110 h_S_) shapeCasts_S23x23_S529x1

theorem weights_at (w : FVec Ideal S64x64x3x3 .f32) (t : Fin 9) (c : Fin 64) (ch : Fin 64) : weights w (ix3 t c ch) = column w ch t c := by
  pointwise [weights, column]

theorem mask_at (p : Fin 529) (o : Fin 1) : mask (ix2 p o) = (if inside 21 p.val then 1 else 0 : EReal) := by
  pointwise [mask]
  by_cases h : inside 21 p.val
  · rw [if_pos h]
    exact dif_pos h
  · rw [if_neg h]
    exact (dif_neg h).trans (by simp [FloatOps.sitofp])

section
variable (x0 : Vec Ideal S1x529x64 .f32) (x1 : Vec Ideal S9x64x64 .f32) (x2 : Vec Ideal S529x1 .f32)

/-- The masked convolution the body computes before it stores. -/
def body : FVec Ideal S529x64 .f32 :=
  k0_pay6 (k0_pay9 x0 x1 x2) (k0_pay10 x0 x1 x2) (k0_pay11 x0 x1 x2) (View.ld x1 r0_6) (View.ld x1 r0_7) (View.ld x1 r0_8) (View.ld x1 r0_9) (View.ld x2 r0_10)

variable (z : FVec Ideal S65x529x64 .f32) (w : FVec Ideal S64x64x3x3 .f32) (b : Fin 65)
  (hz : ∀ p c, x0 (ix3 0 p c) = z (ix3 b p c)) (hw : ∀ t c ch, x1 (ix3 t c ch) = column w ch t c)
  (hm : ∀ p, x2 (ix2 p 0) = (if inside 21 p.val then 1 else 0 : EReal))
include hz hw hm

theorem body_at (p : Fin 529) (ch : Fin 64) : body x0 x1 x2 (ix2 p ch) = cell 21 (rows z b) (column w ch) p.val := by
  pointwise [body, k0_pay3, k0_pay4, k0_pay5, k0_pay6, k0_pay9, k0_pay10, k0_pay11]
  rw [hm]
  unfold cell
  by_cases h : inside 21 p.val
  · rw [if_pos h, if_pos h, mul_one]
    obtain ⟨⟨h1, h2⟩, h3, h4⟩ := h
    have l0 : ¬ p.val < 24 := by omega
    have l1 : ¬ p.val < 23 := by omega
    have l2 : ¬ p.val < 22 := by omega
    have l3 : ¬ p.val < 1 := by omega
    have l5 : p.val < 528 := by omega
    have l6 : p.val < 507 := by omega
    have l7 : p.val < 506 := by omega
    have l8 : p.val < 505 := by omega
    simp only [dif_neg l0, dif_neg l1, dif_neg l2, dif_neg l3, dif_pos l5, dif_pos l6, dif_pos l7, dif_pos l8, hz, hw]
    refine taps_eq ?_ ?_ ?_ ?_ ?_ ?_ ?_ ?_ ?_ <;> refine term_eq _ (fun c _ => rfl) ?_ <;> omega
  · rw [if_neg h, if_neg h, mul_zero]

theorem image_out (o : Fin 1) (p : Fin 529) (ch : Fin 64) : out0_3 x0 x1 x2 (ix3 o p ch) = REF z w (ix3 b p ch) := by
  have e : (![0, 0, 0] : Fin S1x529x64.rank → Nat) = fun _ => 0 := by decide
  rw [REF_at, ← body_at x0 x1 x2 z w b hz hw hm]
  refine (congrFun (View.canon_unit_zero (Val := Elt Ideal) (e := .f32) e _ _) (ix3 o p ch)).trans ?_
  pointwise [k0_pay7]
  rfl

theorem sum_out (o o' : Fin 1) (ch : Fin 64) : out0_4 x0 x1 x2 (ix3 o o' ch) = summed (image z w) (ix3 b 0 ch) := by
  have e : (![0, 0, 0] : Fin S1x1x64.rank → Nat) = fun _ => 0 := by decide
  rw [sum_at]
  simp only [← body_at x0 x1 x2 z w b hz hw hm]
  refine (congrFun (View.canon_unit_zero (Val := Elt Ideal) (e := .f32) e _ _) (ix3 o o' ch)).trans ?_
  pointwise [k0_pay1, k0_pay8]
  rfl

theorem square_out (o o' : Fin 1) (ch : Fin 64) : out0_5 x0 x1 x2 (ix3 o o' ch) = summed (mulf (image z w) (image z w)) (ix3 b 0 ch) := by
  have e : (![0, 0, 0] : Fin S1x1x64.rank → Nat) = fun _ => 0 := by decide
  rw [square_sum_at]
  simp only [← body_at x0 x1 x2 z w b hz hw hm]
  refine (congrFun (View.canon_unit_zero (Val := Elt Ideal) (e := .f32) e _ _) (ix3 o o' ch)).trans ?_
  pointwise [k0_pay2]
  rfl

end

/-- Every window's block index at every point of the grid. -/
theorem idx : ∀ t : Fin cfg0.N, win0_0.index t = ![t.val, 0, 0] ∧ win0_1.index t = ![0, 0, 0] ∧ win0_2.index t = ![0, 0]
    ∧ win0_3.index t = ![t.val, 0, 0] ∧ win0_4.index t = ![t.val, 0, 0] ∧ win0_5.index t = ![t.val, 0, 0] :=
  (by decide +kernel : ∀ t : Fin grid0.N, _)

section
variable (m : (ℓ : Loc nD τ sig) → Buf (Elt Ideal) ℓ) (c : Dev nD)

theorem weights_entry : V m c main_v1 = weights (m (c.tc.loc main_arg1)) := by
  entry_read
  rfl

theorem mask_entry : V m c main_v4 = mask := by
  entry_read
  rfl

theorem image_block (t : Fin cfg0.N) (p : Fin 529) (k : Fin 64) : iblk m c 0 t (ix3 0 p k) = m (c.tc.loc main_arg0) (ix3 ⟨t.val, t.isLt⟩ p k) := by
  blk_point [iblk, V_main_arg0, idx t]

theorem weights_block (t : Fin cfg0.N) (a : Fin 9) (k : Fin 64) (ch : Fin 64) : iblk m c 1 t (ix3 a k ch) = column (m (c.tc.loc main_arg1)) ch a k := by
  rw [← weights_at, ← weights_entry]
  blk_point [iblk, idx t]

theorem mask_block (t : Fin cfg0.N) (p : Fin 529) : iblk m c 2 t (ix2 p 0) = (if inside 21 p.val then 1 else 0 : EReal) := by
  rw [← mask_at p 0, ← mask_entry m c]
  blk_point [iblk, idx t]

theorem final_image : (dats m 0 c).arrAt 3 (cfgs 0).N = REF (m (c.tc.loc main_arg0)) (m (c.tc.loc main_arg1)) := by
  refine (dats m 0 c).arrAt_eq_of_covers 3 _ (by decide +kernel) fun t _ y => ?_
  blk_simp [idx t]
  rw [after0_3]
  idx_vars y
  rw [image_out _ _ _ _ _ ⟨t.val, t.isLt⟩ (image_block m c t) (weights_block m c t) (mask_block m c t)]
  blk_ext [idx t]

theorem final_sum : (dats m 0 c).arrAt 4 (cfgs 0).N = summed (image (m (c.tc.loc main_arg0)) (m (c.tc.loc main_arg1))) := by
  refine (dats m 0 c).arrAt_eq_of_covers 4 _ (by decide +kernel) fun t _ y => ?_
  blk_simp [idx t]
  rw [after0_4]
  idx_vars y
  rw [sum_out _ _ _ _ _ ⟨t.val, t.isLt⟩ (image_block m c t) (weights_block m c t) (mask_block m c t)]
  blk_ext [idx t]

theorem final_square : (dats m 0 c).arrAt 5 (cfgs 0).N
    = summed (mulf (image (m (c.tc.loc main_arg0)) (m (c.tc.loc main_arg1))) (image (m (c.tc.loc main_arg0)) (m (c.tc.loc main_arg1)))) := by
  refine (dats m 0 c).arrAt_eq_of_covers 5 _ (by decide +kernel) fun t _ y => ?_
  blk_simp [idx t]
  rw [after0_5]
  idx_vars y
  rw [square_out _ _ _ _ _ ⟨t.val, t.isLt⟩ (image_block m c t) (weights_block m c t) (mask_block m c t)]
  blk_ext [idx t]

end

end Cert.Conv23Ideal.Value

end
-- ==== Proof.Conv86Value.lean ====
module

public import proofs.«01_k».proof.Proof.Taps
public import proofs.«01_k».proof.Proof.Gen.Conv86RefIdeal
public import proofs.«01_k».proof.Proof.Gen.Conv86Ideal.Frame
public import Idealize.ShloMosaic.Lib.Pointwise
public import Idealize.ShloMosaic.Lib.Pipeline.ValueKit
public import Idealize.ShloMosaic.Lib.Claim

@[expose] public section

set_option maxRecDepth 100000

noncomputable section
namespace Cert.Conv86RefIdeal.Value
open Idealize.ShloMosaic
open Cert.Conv86RefIdeal Cert.Conv86RefIdeal.Gen
open Cert.Taps

/-- One term of the convolution: a shifted window of the image times one matrix of the weights. -/
def part (z : FVec Ideal S65x7396x3 .f32) (w : FVec Ideal S64x3x3x3 .f32) (s : Fin 4 → ℕ) (r : Fin 4 → ℕ)
    (hs : S65x86x86x3.Slices s S65x84x84x3) (hr : S64x3x3x3.Slices r S64x3x1x1) : FVec Ideal S65x84x84x64 .f32 :=
  Host.dotGeneral dot_S65x84x84x3_S64x3_S65x84x84x64_3_1_012_0_n_n none
    (extractStridedSlice S65x84x84x3 s (shapeCast S65x86x86x3 z shapeCasts_S65x7396x3_S65x86x86x3) hs)
    (shapeCast S64x3 (extractStridedSlice S64x3x1x1 r w hr) shapeCasts_S64x3x1x1_S64x3)

/-- The convolved image, as the reference adds it up. -/
def image (z : FVec Ideal S65x7396x3 .f32) (w : FVec Ideal S64x3x3x3 .f32) : FVec Ideal S65x84x84x64 .f32 :=
  addf (addf (addf (addf (addf (addf (addf (addf (addf
    (broadcastInDim S65x84x84x64 ![] bcast_S_S65x84x84x64 (constant S_ .f32 0x00000000#32))
    (part z w ![0, 0, 0, 0] ![0, 0, 0, 0] slices_S65x86x86x3_S65x84x84x3_0_0_0_0 slices_S64x3x3x3_S64x3x1x1_0_0_0_0))
    (part z w ![0, 0, 1, 0] ![0, 0, 0, 1] slices_S65x86x86x3_S65x84x84x3_0_0_1_0 slices_S64x3x3x3_S64x3x1x1_0_0_0_1))
    (part z w ![0, 0, 2, 0] ![0, 0, 0, 2] slices_S65x86x86x3_S65x84x84x3_0_0_2_0 slices_S64x3x3x3_S64x3x1x1_0_0_0_2))
    (part z w ![0, 1, 0, 0] ![0, 0, 1, 0] slices_S65x86x86x3_S65x84x84x3_0_1_0_0 slices_S64x3x3x3_S64x3x1x1_0_0_1_0))
    (part z w ![0, 1, 1, 0] ![0, 0, 1, 1] slices_S65x86x86x3_S65x84x84x3_0_1_1_0 slices_S64x3x3x3_S64x3x1x1_0_0_1_1))
    (part z w ![0, 1, 2, 0] ![0, 0, 1, 2] slices_S65x86x86x3_S65x84x84x3_0_1_2_0 slices_S64x3x3x3_S64x3x1x1_0_0_1_2))
    (part z w ![0, 2, 0, 0] ![0, 0, 2, 0] slices_S65x86x86x3_S65x84x84x3_0_2_0_0 slices_S64x3x3x3_S64x3x1x1_0_0_2_0))
    (part z w ![0, 2, 1, 0] ![0, 0, 2, 1] slices_S65x86x86x3_S65x84x84x3_0_2_1_0 slices_S64x3x3x3_S64x3x1x1_0_0_2_1))
    (part z w ![0, 2, 2, 0] ![0, 0, 2, 2] slices_S65x86x86x3_S65x84x84x3_0_2_2_0 slices_S64x3x3x3_S64x3x1x1_0_0_2_2)

/-- The reference's first result: the convolved image inside a border of zeros. -/
def REF (z : FVec Ideal S65x7396x3 .f32) (w : FVec Ideal S64x3x3x3 .f32) : FVec Ideal S65x7396x64 .f32 :=
  shapeCast S65x7396x64 (pad S65x86x86x64 ![0, 1, 1, 0] ![0, 1, 1, 0] ![0, 0, 0, 0] (image z w)
    (sitofp FTy.f32 (constantI S_ 32 0#32) : FVec Ideal S_ .f32) pads_S65x84x84x64_S65x86x86x64_000_110_110_000 h_S_) shapeCasts_S65x86x86x64_S65x7396x64

/-- The sum of an image over its cells, with the axis of one the results have. -/
def summed (x : FVec Ideal S65x84x84x64 .f32) : FVec Ideal S65x1x64 .f32 :=
  shapeCast S65x1x64 (Host.reduceAdd x (constant S_ .f32 0x00000000#32 : FVec Ideal S_ .f32) reducesTo_S65x84x84x64_S65x64_d1_2 h_S_) shapeCasts_S65x64_S65x1x64

/-- The rows of image `b`. -/
def rows (z : FVec Ideal S65x7396x3 .f32) (b : Fin 65) (p : Fin 7396) (c : Fin 3) : EReal := z (ix3 b p c)

/-- The weights of channel `ch`, tap by tap. -/
def column (w : FVec Ideal S64x3x3x3 .f32) (ch : Fin 64) (t : Fin 9) (c : Fin 3) : EReal :=
  w (ix4 ch c ⟨t.val / 3, by omega⟩ ⟨t.val % 3, by omega⟩)

theorem image_at (z : FVec Ideal S65x7396x3 .f32) (w : FVec Ideal S64x3x3x3 .f32) (b : Fin 65) (i j : Fin 84) (ch : Fin 64) :
    image z w (ix4 b i j ch) = taps 86 (rows z b) (column w ch) i.val j.val := by
  pointwise [image, part]
  refine taps_eq ?_ ?_ ?_ ?_ ?_ ?_ ?_ ?_ ?_ <;> refine term_eq _ (fun c _ => rfl) ?_ <;> omega

theorem summed_at (x : FVec Ideal S65x84x84x64 .f32) (b : Fin 65) (o : Fin 1) (ch : Fin 64) : summed x (ix3 b o ch) = ∑ i : Fin 84, ∑ j : Fin 84, x (ix4 b i j ch) := by
  pointwise [summed]
  exact (sum_middle _ _ _ _ _).trans (zero_add _)

theorem square_at (x : FVec Ideal S65x84x84x64 .f32) (b : Fin 65) (i j : Fin 84) (ch : Fin 64) :
    mulf x x (ix4 b i j ch) = x (ix4 b i j ch) * x (ix4 b i j ch) := rfl

/-- The first result, row by row. -/
theorem REF_at (z : FVec Ideal S65x7396x3 .f32) (w : FVec Ideal S64x3x3x3 .f32) (b : Fin 65) (p : Fin 7396) (ch : Fin 64) :
    REF z w (ix3 b p ch) = cell 84 (rows z b) (column w ch) p.val := by
  pointwise [REF]
  unfold cell
  by_cases h : inside 84 p.val
  · rw [if_pos h]
    exact (dif_pos h).trans (image_at _ _ _ _ _ _)
  · rw [if_neg h]
    exact (dif_neg h).trans (by simp [FloatOps.sitofp])

/-- The second result: the sum of the first's rows. -/
theorem sum_at (z : FVec Ideal S65x7396x3 .f32) (w : FVec Ideal S64x3x3x3 .f32) (b : Fin 65) (o : Fin 1) (ch : Fin 64) :
    summed (image z w) (ix3 b o ch) = ∑ p : Fin 7396, cell 84 (rows z b) (column w ch) p.val := by
  rw [summed_at]
  simp only [image_at]
  exact sum_cell (H := 84) (by decide) _ _

/-- The third result: the sum of the first's rows squared. -/
theorem square_sum_at (z : FVec Ideal S65x7396x3 .f32) (w : FVec Ideal S64x3x3x3 .f32) (b : Fin 65) (o : Fin 1) (ch : Fin 64) :
    summed (mulf (image z w) (image z w)) (ix3 b o ch)
      = ∑ p : Fin 7396, cell 84 (rows z b) (column w ch) p.val * cell 84 (rows z b) (column w ch) p.val := by
  rw [summed_at]
  simp only [square_at, image_at]
  exact sum_square (H := 84) (by decide) _ _

end Cert.Conv86RefIdeal.Value

namespace Cert.Conv86Ideal.Value

open Idealize.ShloMosaic Idealize.ShloMosaic.TcCoe Idealize.SL.Sem
open Cert.Conv86Ideal Cert.Conv86Ideal.Gen
open Cert.Conv86RefIdeal.Value (REF image summed rows column REF_at sum_at square_sum_at)
open Cert.Taps

/-- The weights as the call takes them: a matrix for each tap. -/
def weights (w : FVec Ideal S64x3x3x3 .f32) : FVec Ideal S9x3x64 .f32 :=
  shapeCast S9x3x64 (transpose S3x3x3x64 [2, 3, 1, 0] w transposes_S64x3x3x3_S3x3x3x64_2_3_1_0) shapeCasts_S3x3x3x64_S9x3x64

/-- The mask the call takes: one inside the border, zero on it. -/
def mask : FVec Ideal S7396x1 .f32 :=
  shapeCast S7396x1 (pad S86x86 ![1, 1] ![1, 1] ![0, 0] (broadcastInDim S84x84 ![] bcast_S_S84x84 (constant S_ .f32 0x3F800000#32 : FVec Ideal S_ .f32))
    (sitofp FTy.f32 (constantI S_ 32 0#32) : FVec Ideal S_ .f32) pads_S84x84_S86x86_110_110 h_S_) shapeCasts_S86x86_S7396x1

theorem weights_at (w : FVec Ideal S64x3x3x3 .f32) (t : Fin 9) (c : Fin 3) (ch : Fin 64) : weights w (ix3 t c ch) = column w ch t c := by
  pointwise [weights, column]

theorem mask_at (p : Fin 7396) (o : Fin 1) : mask (ix2 p o) = (if inside 84 p.val then 1 else 0 : EReal) := by
  pointwise [mask]
  by_cases h : inside 84 p.val
  · rw [if_pos h]
    exact dif_pos h
  · rw [if_neg h]
    exact (dif_neg h).trans (by simp [FloatOps.sitofp])

section
variable (x0 : Vec Ideal S1x7396x3 .f32) (x1 : Vec Ideal S9x3x64 .f32) (x2 : Vec Ideal S7396x1 .f32)

/-- The masked convolution the body computes before it stores. -/
def body : FVec Ideal S7396x64 .f32 :=
  k0_pay6 (k0_pay9 x0 x1 x2) (k0_pay10 x0 x1 x2) (k0_pay11 x0 x1 x2) (View.ld x1 r0_6) (View.ld x1 r0_7) (View.ld x1 r0_8) (View.ld x1 r0_9) (View.ld x2 r0_10)

variable (z : FVec Ideal S65x7396x3 .f32) (w : FVec Ideal S64x3x3x3 .f32) (b : Fin 65)
  (hz : ∀ p c, x0 (ix3 0 p c) = z (ix3 b p c)) (hw : ∀ t c ch, x1 (ix3 t c ch) = column w ch t c)
  (hm : ∀ p, x2 (ix2 p 0) = (if inside 84 p.val then 1 else 0 : EReal))
include hz hw hm

theorem body_at (p : Fin 7396) (ch : Fin 64) : body x0 x1 x2 (ix2 p ch) = cell 84 (rows z b) (column w ch) p.val := by
  pointwise [body, k0_pay3, k0_pay4, k0_pay5, k0_pay6, k0_pay9, k0_pay10, k0_pay11]
  rw [hm]
  unfold cell
  by_cases h : inside 84 p.val
  · rw [if_pos h, if_pos h, mul_one]
    obtain ⟨⟨h1, h2⟩, h3, h4⟩ := h
    have l0 : ¬ p.val < 87 := by omega
    have l1 : ¬ p.val < 86 := by omega
    have l2 : ¬ p.val < 85 := by omega
    have l3 : ¬ p.val < 1 := by omega
    have l5 : p.val < 7395 := by omega
    have l6 : p.val < 7311 := by omega
    have l7 : p.val < 7310 := by omega
    have l8 : p.val < 7309 := by omega
    simp only [dif_neg l0, dif_neg l1, dif_neg l2, dif_neg l3, dif_pos l5, dif_pos l6, dif_pos l7, dif_pos l8, hz, hw]
    refine taps_eq ?_ ?_ ?_ ?_ ?_ ?_ ?_ ?_ ?_ <;> refine term_eq _ (fun c _ => rfl) ?_ <;> omega
  · rw [if_neg h, if_neg h, mul_zero]

theorem image_out (o : Fin 1) (p : Fin 7396) (ch : Fin 64) : out0_3 x0 x1 x2 (ix3 o p ch) = REF z w (ix3 b p ch) := by
  have e : (![0, 0, 0] : Fin S1x7396x64.rank → Nat) = fun _ => 0 := by decide
  rw [REF_at, ← body_at x0 x1 x2 z w b hz hw hm]
  refine (congrFun (View.canon_unit_zero (Val := Elt Ideal) (e := .f32) e _ _) (ix3 o p ch)).trans ?_
  pointwise [k0_pay7]
  rfl

theorem sum_out (o o' : Fin 1) (ch : Fin 64) : out0_4 x0 x1 x2 (ix3 o o' ch) = summed (image z w) (ix3 b 0 ch) := by
  have e : (![0, 0, 0] : Fin S1x1x64.rank → Nat) = fun _ => 0 := by decide
  rw [sum_at]
  simp only [← body_at x0 x1 x2 z w b hz hw hm]
  refine (congrFun (View.canon_unit_zero (Val := Elt Ideal) (e := .f32) e _ _) (ix3 o o' ch)).trans ?_
  pointwise [k0_pay1, k0_pay8]
  rfl

theorem square_out (o o' : Fin 1) (ch : Fin 64) : out0_5 x0 x1 x2 (ix3 o o' ch) = summed (mulf (image z w) (image z w)) (ix3 b 0 ch) := by
  have e : (![0, 0, 0] : Fin S1x1x64.rank → Nat) = fun _ => 0 := by decide
  rw [square_sum_at]
  simp only [← body_at x0 x1 x2 z w b hz hw hm]
  refine (congrFun (View.canon_unit_zero (Val := Elt Ideal) (e := .f32) e _ _) (ix3 o o' ch)).trans ?_
  pointwise [k0_pay2]
  rfl

end

/-- Every window's block index at every point of the grid. -/
theorem idx : ∀ t : Fin cfg0.N, win0_0.index t = ![t.val, 0, 0] ∧ win0_1.index t = ![0, 0, 0] ∧ win0_2.index t = ![0, 0]
    ∧ win0_3.index t = ![t.val, 0, 0] ∧ win0_4.index t = ![t.val, 0, 0] ∧ win0_5.index t = ![t.val, 0, 0] :=
  (by decide +kernel : ∀ t : Fin grid0.N, _)

section
variable (m : (ℓ : Loc nD τ sig) → Buf (Elt Ideal) ℓ) (c : Dev nD)

theorem weights_entry : V m c main_v1 = weights (m (c.tc.loc main_arg1)) := by
  entry_read
  rfl

theorem mask_entry : V m c main_v4 = mask := by
  entry_read
  rfl

theorem image_block (t : Fin cfg0.N) (p : Fin 7396) (k : Fin 3) : iblk m c 0 t (ix3 0 p k) = m (c.tc.loc main_arg0) (ix3 ⟨t.val, t.isLt⟩ p k) := by
  blk_point [iblk, V_main_arg0, idx t]

theorem weights_block (t : Fin cfg0.N) (a : Fin 9) (k : Fin 3) (ch : Fin 64) : iblk m c 1 t (ix3 a k ch) = column (m (c.tc.loc main_arg1)) ch a k := by
  rw [← weights_at, ← weights_entry]
  blk_point [iblk, idx t]

theorem mask_block (t : Fin cfg0.N) (p : Fin 7396) : iblk m c 2 t (ix2 p 0) = (if inside 84 p.val then 1 else 0 : EReal) := by
  rw [← mask_at p 0, ← mask_entry m c]
  blk_point [iblk, idx t]

theorem final_image : (dats m 0 c).arrAt 3 (cfgs 0).N = REF (m (c.tc.loc main_arg0)) (m (c.tc.loc main_arg1)) := by
  refine (dats m 0 c).arrAt_eq_of_covers 3 _ (by decide +kernel) fun t _ y => ?_
  blk_simp [idx t]
  rw [after0_3]
  idx_vars y
  rw [image_out _ _ _ _ _ ⟨t.val, t.isLt⟩ (image_block m c t) (weights_block m c t) (mask_block m c t)]
  blk_ext [idx t]

theorem final_sum : (dats m 0 c).arrAt 4 (cfgs 0).N = summed (image (m (c.tc.loc main_arg0)) (m (c.tc.loc main_arg1))) := by
  refine (dats m 0 c).arrAt_eq_of_covers 4 _ (by decide +kernel) fun t _ y => ?_
  blk_simp [idx t]
  rw [after0_4]
  idx_vars y
  rw [sum_out _ _ _ _ _ ⟨t.val, t.isLt⟩ (image_block m c t) (weights_block m c t) (mask_block m c t)]
  blk_ext [idx t]

theorem final_square : (dats m 0 c).arrAt 5 (cfgs 0).N
    = summed (mulf (image (m (c.tc.loc main_arg0)) (m (c.tc.loc main_arg1))) (image (m (c.tc.loc main_arg0)) (m (c.tc.loc main_arg1)))) := by
  refine (dats m 0 c).arrAt_eq_of_covers 5 _ (by decide +kernel) fun t _ y => ?_
  blk_simp [idx t]
  rw [after0_5]
  idx_vars y
  rw [square_out _ _ _ _ _ ⟨t.val, t.isLt⟩ (image_block m c t) (weights_block m c t) (mask_block m c t)]
  blk_ext [idx t]

end

end Cert.Conv86Ideal.Value

end
-- ==== Proof.Plane.lean ====
/-
  The images of 23 by 23 rows under the affine map and the leaky rectifier, as the two references write it, and what the
  call of the third layer leaves: the same with a zero border.
-/
module

public import proofs.«01_k».proof.Proof.Pool1Pure
public import proofs.«01_k».proof.Proof.Conv23Value
public import proofs.«01_k».proof.Proof.Gen.ApplyRefIdeal
public import proofs.«01_k».proof.Proof.Gen.ApplyIdeal.Frame
public import Idealize.ShloMosaic.Lib.Pointwise
public import Idealize.ShloMosaic.Lib.Pipeline.ValueKit
public import Idealize.ShloMosaic.Lib.Claim

@[expose] public section

set_option maxRecDepth 16384

noncomputable section

namespace Cert.ApplyRefIdeal.Value

open Idealize.ShloMosaic
open Cert.ApplyRefIdeal.Gen
open Cert.Pool1Ideal.Pure (leaky)
open Cert.Taps (inside)

section
variable (a0 : FVec Ideal S65x529x64 .f32) (a1 a2 : FVec Ideal S65x64 .f32)

/-- One element of the activated image. -/
def row (b : Fin 65) (p : Fin 529) (ch : Fin 64) : EReal := leaky (a0 (ix3 b p ch) * a1 (ix2 b ch) + a2 (ix2 b ch))

/-- The affine map of the inside of the image. -/
def affine : FVec Ideal S65x21x21x64 .f32 :=
  addf
    (mulf
      (extractStridedSlice S65x21x21x64 ![0, 1, 1, 0] (shapeCast S65x23x23x64 a0 shapeCasts_S65x529x64_S65x23x23x64)
        slices_S65x23x23x64_S65x21x21x64_0_1_1_0)
      (broadcastInDim S65x21x21x64 ![0, 1, 2, 3] bcast_S65x1x1x64_S65x21x21x64_0_1_2_3
        (broadcastInDim S65x1x1x64 ![0, 3] bcast_S65x64_S65x1x1x64_0_3 a1)))
    (broadcastInDim S65x21x21x64 ![0, 1, 2, 3] bcast_S65x1x1x64_S65x21x21x64_0_1_2_3
      (broadcastInDim S65x1x1x64 ![0, 3] bcast_S65x64_S65x1x1x64_0_3 a2))

/-- The rectifier on top of it. -/
def rectified : FVec Ideal S65x21x21x64 .f32 :=
  select (cmpf .oge (affine a0 a1 a2) (broadcastInDim S65x21x21x64 ![] bcast_S_S65x21x21x64 (constant S_ FTy.f32 0#32)))
    (affine a0 a1 a2)
    (mulf (broadcastInDim S65x21x21x64 ![] bcast_S_S65x21x21x64 (constant S_ FTy.f32 1045220557#32)) (affine a0 a1 a2))

/-- The reference's result over its three arguments. -/
def REF : FVec Ideal S65x529x64 .f32 :=
  shapeCast S65x529x64 (pad S65x23x23x64 ![0, 1, 1, 0] ![0, 1, 1, 0] ![0, 0, 0, 0] (rectified a0 a1 a2)
    (sitofp FTy.f32 (constantI S_ 32 0#32) : FVec Ideal S_ .f32) pads_S65x21x21x64_S65x23x23x64_000_110_110_000 h_S_) shapeCasts_S65x23x23x64_S65x529x64

theorem rectified_at (b : Fin 65) (i j : Fin 21) (ch : Fin 64) (p : Fin 529) (hp : p.val = 23 * (i.val + 1) + (j.val + 1)) :
    rectified a0 a1 a2 (ix4 b i j ch) = row a0 a1 a2 b p ch := by
  have e : (⟨(1 + i.val) * 23 + (1 + j.val), by omega⟩ : Fin 529) = p := Fin.ext (by dsimp only; omega)
  pointwise [rectified, affine, row, leaky]
  simp only [e]

theorem REF_at (b : Fin 65) (p : Fin 529) (ch : Fin 64) :
    REF a0 a1 a2 (ix3 b p ch) = if inside 21 p.val then row a0 a1 a2 b p ch else 0 := by
  pointwise [REF]
  by_cases h : inside 21 p.val
  · rw [if_pos h]
    refine (dif_pos h).trans (rectified_at a0 a1 a2 b _ _ ch p ?_)
    obtain ⟨⟨h1, h2⟩, h3, h4⟩ := h
    dsimp only
    omega
  · rw [if_neg h]
    exact (dif_neg h).trans (by simp [FloatOps.sitofp])

end
end Cert.ApplyRefIdeal.Value

namespace Cert.ApplyIdeal.Value

open Idealize.ShloMosaic Idealize.ShloMosaic.TcCoe Idealize.SL.Sem
open Cert.ApplyIdeal Cert.ApplyIdeal.Gen
open Cert.ApplyRefIdeal.Value (REF REF_at row)
open Cert.Pool1Ideal.Pure (leaky)
open Cert.Taps (inside)

/-- The stored block, from blocks whose elements are named. -/
theorem out_at (a0 : FVec Ideal S65x529x64 .f32) (a1 a2 : FVec Ideal S65x64 .f32) (b : Fin 65)
    (x0 : Vec Ideal S1x529x64 .f32) (x1 x2 : Vec Ideal S1x1x64 .f32) (x3 : Vec Ideal S529x1 .f32)
    (h0 : ∀ p ch, x0 (ix3 0 p ch) = a0 (ix3 b p ch)) (h1 : ∀ ch, x1 (ix3 0 0 ch) = a1 (ix2 b ch)) (h2 : ∀ ch, x2 (ix3 0 0 ch) = a2 (ix2 b ch))
    (h3 : ∀ p, x3 (ix2 p 0) = (if inside 21 p.val then 1 else 0 : EReal)) (o : Fin 1) (p : Fin 529) (ch : Fin 64) :
    out0_4 x0 x1 x2 x3 (ix3 o p ch) = REF a0 a1 a2 (ix3 b p ch) := by
  have e : (![0, 0, 0] : Fin S1x529x64.rank → Nat) = fun _ => 0 := by decide
  refine (congrFun (View.canon_unit_zero (Val := Elt Ideal) (e := .f32) e _ _) (ix3 o p ch)).trans ?_
  rw [REF_at]
  pointwise [k0_pay1]
  rw [h0, h1, h2, h3]
  by_cases h : inside 21 p.val
  · rw [if_pos h, if_pos h, mul_one]
    rfl
  · rw [if_neg h, if_neg h, mul_zero]

/-- Every window's block index at every point of the grid. -/
theorem idx : ∀ t : Fin cfg0.N, win0_0.index t = ![t.val, 0, 0] ∧ win0_1.index t = ![t.val, 0, 0] ∧ win0_2.index t = ![t.val, 0, 0]
    ∧ win0_3.index t = ![0, 0] ∧ win0_4.index t = ![t.val, 0, 0] :=
  (by decide +kernel : ∀ t : Fin grid0.N, _)

section
variable (m : (ℓ : Loc nD τ sig) → Buf (Elt Ideal) ℓ) (c : Dev nD)

theorem mask_entry : V m c main_v2 = Cert.Conv23Ideal.Value.mask := by
  entry_read
  rfl

theorem scale_entry : V m c main_v3 = (shapeCast S65x1x64 (m (c.tc.loc main_arg1) : FVec Ideal S65x64 .f32) shapeCasts_S65x64_S65x1x64 : FVec Ideal S65x1x64 .f32) := by
  entry_read
  rfl

theorem shift_entry : V m c main_v4 = (shapeCast S65x1x64 (m (c.tc.loc main_arg2) : FVec Ideal S65x64 .f32) shapeCasts_S65x64_S65x1x64 : FVec Ideal S65x1x64 .f32) := by
  entry_read
  rfl

/-- A row of coefficients with an axis of one between. -/
theorem between (x : FVec Ideal S65x64 .f32) (b : Fin 65) (ch : Fin 64) :
    (shapeCast S65x1x64 x shapeCasts_S65x64_S65x1x64 : FVec Ideal S65x1x64 .f32) (ix3 b 0 ch) = x (ix2 b ch) := by
  pointwise []

theorem final : (dats m 0 c).arrAt 4 (cfgs 0).N = REF (m (c.tc.loc main_arg0)) (m (c.tc.loc main_arg1)) (m (c.tc.loc main_arg2)) := by
  refine (dats m 0 c).arrAt_eq_of_covers 4 _ (by decide +kernel) fun t _ y => ?_
  blk_simp [idx t]
  rw [after0_4]
  idx_vars y
  rw [out_at (m (c.tc.loc main_arg0)) (m (c.tc.loc main_arg1)) (m (c.tc.loc main_arg2)) ⟨t.val, t.isLt⟩ _ _ _ _ (fun p ch => ?_) (fun ch => ?_) (fun ch => ?_) (fun p => ?_)]
  · blk_ext [idx t]
  · blk_point [iblk, V_main_arg0, idx t]
  · refine Eq.trans ?_ ((congrFun (scale_entry m c) (ix3 ⟨t.val, t.isLt⟩ 0 ch)).trans (between _ _ ch))
    blk_point [iblk, idx t]
  · refine Eq.trans ?_ ((congrFun (shift_entry m c) (ix3 ⟨t.val, t.isLt⟩ 0 ch)).trans (between _ _ ch))
    blk_point [iblk, idx t]
  · rw [← Cert.Conv23Ideal.Value.mask_at p 0, ← mask_entry m c]
    blk_point [iblk, idx t]

end
end Cert.ApplyIdeal.Value

end
-- ==== Proof.NormValue.lean ====
/-
  The unit descriptors: the kernel scales by the reciprocal root of the sum of squares, the reference divides by the root of it.
-/
module

public import proofs.«01_k».proof.Proof.Plane
public import proofs.«01_k».proof.Proof.FinalRef
public import proofs.«01_k».proof.Proof.Gen.NormRefIdeal
public import proofs.«01_k».proof.Proof.Gen.NormIdeal.Frame
public import proofs.«01_k».proof.Proof.Gen.Pre_nonzero
public import Idealize.ShloMosaic.Lib.Pipeline.ReadBack

@[expose] public section

set_option maxRecDepth 16384

noncomputable section

namespace Cert.NormRefIdeal.Value

open Idealize.ShloMosaic
open Cert.NormRefIdeal.Gen
open Cert.ApplyRefIdeal.Value (rectified rectified_at row)

section
variable (a0 : FVec Ideal S65x529x64 .f32) (a1 a2 : FVec Ideal S65x64 .f32)

/-- The descriptors in a row. -/
def flat : FVec Ideal S65x441x64 .f32 := shapeCast S65x441x64 (rectified a0 a1 a2) shapeCasts_S65x21x21x64_S65x441x64

/-- Their sums of squares. -/
def energy : FVec Ideal S65x441 .f32 :=
  Host.reduceAdd (mulf (flat a0 a1 a2) (flat a0 a1 a2)) (constant S_ FTy.f32 0#32) reducesTo_S65x441x64_S65x441_d2 h_S_

/-- The reference's result over its three arguments. -/
def REF : FVec Ideal S65x441x64 .f32 :=
  Host.divf (flat a0 a1 a2) (broadcastInDim S65x441x64 ![0, 1, 2] bcast_S65x441x1_S65x441x64_0_1_2
    (Host.sqrt (broadcastInDim S65x441x1 ![0, 1] bcast_S65x441_S65x441x1_0_1 (energy a0 a1 a2))))

/-- The place in the bordered image of a descriptor of the inside. -/
def place (r : Fin 441) : Fin 529 := ⟨23 * (r.val / 21 + 1) + (r.val % 21 + 1), by omega⟩

theorem flat_at (b : Fin 65) (r : Fin 441) (ch : Fin 64) : flat a0 a1 a2 (ix3 b r ch) = row a0 a1 a2 b (place r) ch := by
  have e : flat a0 a1 a2 (ix3 b r ch) = rectified a0 a1 a2 (ix4 b ⟨r.val / 21, by omega⟩ ⟨r.val % 21, by omega⟩ ch) := by
    pointwise [flat]
  rw [e]
  exact rectified_at a0 a1 a2 b _ _ ch _ rfl

theorem energy_at (b : Fin 65) (r : Fin 441) :
    energy a0 a1 a2 (ix2 b r) = (∑ ch : Fin 64, row a0 a1 a2 b (place r) ch * row a0 a1 a2 b (place r) ch : EReal) := by
  pointwise [energy]
  simp only [flat_at]

theorem REF_at (b : Fin 65) (r : Fin 441) (ch : Fin 64) :
    REF a0 a1 a2 (ix3 b r ch) = Ideal.div (row a0 a1 a2 b (place r) ch)
      (Ideal.sqrt (∑ k : Fin 64, row a0 a1 a2 b (place r) k * row a0 a1 a2 b (place r) k : EReal)) := by
  rw [← energy_at, ← flat_at]
  pointwise [REF]

/-- What the precondition says of one descriptor. -/
theorem positive (h : Cert.Pre_nonzero.fn (F := Ideal) a0 a1 a2 = fun _ => 1#1) (b : Fin 65) (r : Fin 441) :
    (0 : EReal) < ∑ ch : Fin 64, row a0 a1 a2 b (place r) ch * row a0 a1 a2 b (place r) ch := by
  have hs : Subsingleton S_.Idx := ⟨fun x y => funext fun a => nomatch a⟩
  have h0 := congrFun h ix0
  unfold Cert.Pre_nonzero.fn at h0
  have e : BitVec.ofBool (decide (Ideal.ofBits FTy.f32 0#32 < (energy a0 a1 a2 (ix2 b r) : EReal))) = 1#1 :=
    Host.reduce_andi_all _ _ _ _ _ h0 (ix2 b r)
  rw [← energy_at]
  simpa using Cert.FinalRefIdeal.Value.holds_of_one e

end

/-- Dividing by the root of a positive number is multiplying by its reciprocal root. -/
theorem by_root (v s : EReal) (hs : 0 < s) : v * Ideal.rsqrt s = Ideal.div v (Ideal.sqrt s) := by
  induction s with
  | bot => exact absurd hs (by simp)
  | top => rw [Ideal.rsqrt_top, Ideal.sqrt_top, Ideal.div, if_neg (by simp), EReal.inv_top]
  | coe r =>
    have hr : 0 < r := EReal.coe_pos.1 hs
    rw [Ideal.rsqrt_coe, Ideal.sqrt_coe, if_neg (not_lt.2 hr.le), if_neg hr.ne', if_neg (not_lt.2 hr.le), Ideal.div,
      if_neg (by simpa [EReal.coe_eq_zero] using (Real.sqrt_pos.2 hr).ne'), EReal.coe_inv]

end Cert.NormRefIdeal.Value

namespace Cert.NormIdeal.Value

open Idealize.ShloMosaic Idealize.ShloMosaic.TcCoe Idealize.SL.Sem
open Cert.NormIdeal Cert.NormIdeal.Gen
open Cert.NormRefIdeal.Value (REF REF_at place positive by_root)
open Cert.ApplyRefIdeal.Value (row)
open Cert.Pool1Ideal.Pure (leaky)

/-- One element of the block before the bands are cut out. -/
theorem unit_at (a0 : FVec Ideal S65x529x64 .f32) (a1 a2 : FVec Ideal S65x64 .f32) (b : Fin 65)
    (x0 : Vec Ideal S1x529x64 .f32) (x1 x2 : Vec Ideal S1x1x64 .f32)
    (h0 : ∀ p ch, x0 (ix3 0 p ch) = a0 (ix3 b p ch)) (h1 : ∀ ch, x1 (ix3 0 0 ch) = a1 (ix2 b ch)) (h2 : ∀ ch, x2 (ix3 0 0 ch) = a2 (ix2 b ch))
    (p : Fin 529) (ch : Fin 64) (hs : (0 : EReal) < ∑ k : Fin 64, row a0 a1 a2 b p k * row a0 a1 a2 b p k) :
    k0_pay25 x0 x1 x2 (ix2 p ch) = row a0 a1 a2 b p ch * Ideal.rsqrt (∑ k : Fin 64, row a0 a1 a2 b p k * row a0 a1 a2 b p k : EReal) := by
  pointwise [k0_pay25, k0_pay5]
  simp only [h0, h1, h2]
  exact congrArg (fun s : EReal => row a0 a1 a2 b p ch * Ideal.rsqrt s) (if_pos hs)

/-- Stores that are blocks of one function and reach every place leave the function. -/
theorem whole {s : Shape} (G : s.Idx → EReal) (L : List (View.Piece (Elt Ideal) s .f32)) (y : s.Idx) (h : View.PiecesOf (e := .f32) G L)
    (hc : ∃ p ∈ L, y ∈ p.1.set) : View.canon L y = G y := by
  simpa only [List.append_nil] using View.canon_append_of_piecesOf (e := .f32) G [] L h y hc

/-- The bands put together. -/
def spread (x0 : Vec Ideal S1x529x64 .f32) (x1 x2 : Vec Ideal S1x1x64 .f32) (y : S1x441x64.Idx) : EReal :=
  k0_pay25 x0 x1 x2 (ix2 (place (y 1)) (y 2))

theorem bands_at (x0 : Vec Ideal S1x529x64 .f32) (x1 x2 : Vec Ideal S1x1x64 .f32) (y : S1x441x64.Idx) :
    out0_3 x0 x1 x2 y = spread x0 x1 x2 y := by
  unfold out0_3
  refine whole (spread x0 x1 x2) _ y ?_ ?_
  · refine ⟨fun x => ?_, fun x => ?_, fun x => ?_, fun x => ?_, fun x => ?_, fun x => ?_, fun x => ?_, fun x => ?_, fun x => ?_, fun x => ?_, fun x => ?_,
      fun x => ?_, fun x => ?_, fun x => ?_, fun x => ?_, fun x => ?_, fun x => ?_, fun x => ?_, fun x => ?_, fun x => ?_, fun x => ?_, trivial⟩
    all_goals
      idx_vars x
      pointwise [k0_pay1, k0_pay2, k0_pay3, k0_pay4, k0_pay6, k0_pay7, k0_pay8, k0_pay9, k0_pay10, k0_pay11, k0_pay12, k0_pay13, k0_pay14, k0_pay15,
        k0_pay16, k0_pay17, k0_pay18, k0_pay19, k0_pay20, k0_pay21, k0_pay22, k0_pay23, k0_pay24]
      refine congrArg₂ (fun (p : Fin 529) (ch : Fin 64) => k0_pay25 _ _ _ (ix2 p ch)) (Fin.ext ?_) (Fin.ext ?_)
      · simp only [place, Rect.emb, Rect.unit, ix3]
        dsimp
        omega
      · simp [Rect.emb, Rect.unit, ix3]
  · exact cover0_3 _ _ _ _ _ _ _ _ _ _ _ _ _ _ _ _ _ _ _ _ _ y

/-- Every window's block index at every point of the grid. -/
theorem idx : ∀ t : Fin cfg0.N, win0_0.index t = ![t.val, 0, 0] ∧ win0_1.index t = ![t.val, 0, 0] ∧ win0_2.index t = ![t.val, 0, 0]
    ∧ win0_3.index t = ![t.val, 0, 0] :=
  (by decide +kernel : ∀ t : Fin grid0.N, _)

section
variable (m : (ℓ : Loc nD τ sig) → Buf (Elt Ideal) ℓ) (c : Dev nD)

theorem scale_entry : V m c main_v0 = (shapeCast S65x1x64 (m (c.tc.loc main_arg1) : FVec Ideal S65x64 .f32) shapeCasts_S65x64_S65x1x64 : FVec Ideal S65x1x64 .f32) := by
  entry_read
  rfl

theorem shift_entry : V m c main_v1 = (shapeCast S65x1x64 (m (c.tc.loc main_arg2) : FVec Ideal S65x64 .f32) shapeCasts_S65x64_S65x1x64 : FVec Ideal S65x1x64 .f32) := by
  entry_read
  rfl

theorem final (hd : Cert.Pre_nonzero.fn (F := Ideal) (m (c.tc.loc main_arg0)) (m (c.tc.loc main_arg1)) (m (c.tc.loc main_arg2)) = fun _ => 1#1) :
    (dats m 0 c).arrAt 3 (cfgs 0).N = REF (m (c.tc.loc main_arg0)) (m (c.tc.loc main_arg1)) (m (c.tc.loc main_arg2)) := by
  refine (dats m 0 c).arrAt_eq_of_covers 3 _ (by decide +kernel) fun t _ y => ?_
  blk_simp [idx t]
  rw [after0_3, bands_at]
  idx_vars y
  have hs := positive _ _ _ hd ⟨t.val, t.isLt⟩ y1
  have e := unit_at (m (c.tc.loc main_arg0)) (m (c.tc.loc main_arg1)) (m (c.tc.loc main_arg2)) ⟨t.val, t.isLt⟩ (iblk m c 0 t) (iblk m c 1 t) (iblk m c 2 t)
    (fun p ch => by blk_point [iblk, V_main_arg0, idx t])
    (fun ch => by
      refine Eq.trans ?_ ((congrFun (scale_entry m c) (ix3 ⟨t.val, t.isLt⟩ 0 ch)).trans (Cert.ApplyIdeal.Value.between _ _ ch))
      blk_point [iblk, idx t])
    (fun ch => by
      refine Eq.trans ?_ ((congrFun (shift_entry m c) (ix3 ⟨t.val, t.isLt⟩ 0 ch)).trans (Cert.ApplyIdeal.Value.between _ _ ch))
      blk_point [iblk, idx t])
    (place y1) y2 hs
  refine Eq.trans e ((by_root _ _ hs).trans ((REF_at _ _ _ ⟨t.val, t.isLt⟩ y1 y2).symm.trans ?_))
  blk_ext [idx t]

end
end Cert.NormIdeal.Value

end
-- ==== Proof.TailRun.lean ====
/-
  The two calls in a row with the ranking of the unlabelled images between them: what the program leaves.
-/
module

public import proofs.«01_k».proof.Proof.Gen.TailIdeal.Frame
public import Idealize.ShloMosaic.Lib.Pipeline.ValueKit
public import Idealize.ShloMosaic.Lib.Claim

@[expose] public section

set_option maxRecDepth 16384

noncomputable section

namespace Cert.TailIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)
open Cert.TailIdeal Cert.TailIdeal.Gen

variable (m : (ℓ : Loc nD τ sig) → Buf (Elt Ideal) ℓ) (ρ : Dev nD → PrngReg)

local notation "𝕄" => MT nD τ sig Unit (Elt Ideal) ℕ (UR sig nD τ) ℕ

/-- The tokens the two pipelines start from. -/
abbrev tokens := initOf (Pipeline.cells cfgs cellOf_inj) (Pipeline.launchToks cfgs cellOf_inj)

set_option backward.isDefEq.respectTransparency.types false in
/-- Every unscoped array ends as the last host stretch leaves it. -/
theorem ends : θ_run defs (onTc (τ := τ) (main (F := Ideal))) ⟨m, fun _ => 0, ρ⟩
    (fun r => ∀ c : Dev nD, ∀ b ∈ Pipeline.ucRefs τ sig, r.2.mem (((c : Thread nD τ)).1, b) = W7 m ρ c b) := by
  refine Pipeline.θ_run_regions_kit_sems (pcfgs (F := Ideal)) adm (pdats m ρ) () cellOf_inj emb₁ defs₀ 𝒱₀ L lv m ρ main (segs m ρ)
    (fun c Q => by rw [main_run m ρ c]) ?nodup (O₀ := 0) (hL := fun _ _ => rfl) (G := fun _ => iprop(emp)) (u₀ := tokens) (hu₀ := ?tok)
    (T₀ := fun c => iprop(StableHlo.held (c : Thread nD τ) (Pipeline.ucRefs τ sig) (W0 m ρ c) ∗ R c)) (Tₙ := Tₙ m ρ)
    (hch := ?chain) (hinit := ?start)
    (QY := fun c s => ∀ b ∈ Pipeline.ucRefs τ sig, s.mem (((c : Thread nD τ)).1, b) = W7 m ρ c b) (hfin := ?fin)
    (hQ := fun s h _ => h)
  case nodup =>
    simp only [segs, Pipeline.Seg.pipes_host, Pipeline.Seg.pipes_region, Pipeline.Seg.pipes_nil]
    decide
  case tok =>
    iintro Hu
    imodintro
    isplitl [Hu]
    · iapply (show (ownU tokens : sProp 𝕄) ⊢ BI.own (emb₁ tokens) from .rfl)
      iexact Hu
    · iapply (show (BI.emp : sProp 𝕄) ⊢ bigSep Finset.univ (fun _ : Dev nD => (BI.emp : sProp 𝕄)) from by rw [BI.bigSep_emp_const])
      iempintro
  case chain =>
    refine ⟨fun _ => .rfl, fun _ => .rfl, fun _ => .rfl, fun _ => .rfl, fun _ => .rfl, fun _ => .rfl, fun _ => .rfl, fun c => ?_⟩
    dsimp only [Pipeline.Seg.post, hseg, Pipeline.HostSeg.ofOps]
    iintro ⟨Hh, Hp, HO⟩
    isplitl [Hh Hp]
    · isplitl [Hh]
      · iexact Hh
      · iexact Hp
    · iexact HO
  case start =>
    refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hh, -, HO, -, Hp, -⟩, -⟩
    imodintro
    isplitl [Hh]
    · iexact Hh
    isplitl [Hp]
    · iexists _
      iexact Hp
    · iexists ∅
      iexact HO
  case fin =>
    intro c s'
    iintro ⟨⟨Hh, -⟩, HSI⟩
    unfold StableHlo.held
    imodintro
    iapply (pointsTo_read_all (Pipeline.ucRefs τ sig) (fun b => (((c : Thread nD τ)).1, b)) (W7 m ρ c) s')
    isplitl [Hh] <;> iassumption

/-- The result and the argument at the end. -/
theorem run_main : θ_run defs (onTc (τ := τ) (main (F := Ideal))) ⟨m, fun _ => 0, ρ⟩
    (fun r => ∀ c : Dev nD, r.2.mem ((c.tc : Thread nD τ).loc main_v29) = W7 m ρ c (Proc.devRef .tc main_v29)
      ∧ r.2.mem ((c.tc : Thread nD τ).loc main_arg0) = m ((c.tc : Thread nD τ).loc main_arg0)) :=
  (θ_run defs _ _).mono (fun _ h c => ⟨h c _ (mem_uc main_v29 (by decide)), (h c _ (mem_uc main_arg0 (by decide))).trans (W7_main_arg0 m ρ c)⟩)
    (ends m ρ)

end Cert.TailIdeal.Run

end
-- ==== Proof.TailValue.lean ====
/-
  The two calls in a row: the ranking of the first call's scores is the reference's, so the second call's mask and result are.
-/
module

public import proofs.«01_k».proof.Proof.TailRun
public import proofs.«01_k».proof.Proof.SimValue
public import proofs.«01_k».proof.Proof.FinalValue
public import proofs.«01_k».proof.Proof.Gen.TailRefIdeal
public import proofs.«01_k».proof.Proof.Gen.Pre_taildistinct

@[expose] public section

set_option maxRecDepth 16384

noncomputable section

namespace Cert.TailRefIdeal.Value

open Idealize.ShloMosaic
open Cert.TailRefIdeal Cert.TailRefIdeal.Gen

section
variable (d : FVec Ideal S65x441x64 .f32)

/-- The descriptors of the query images. -/
def queries : FVec Ideal S25x441x64 .f32 := extractStridedSlice S25x441x64 ![0, 0, 0] d slices_S65x441x64_S25x441x64_0_0_0

/-- The descriptors of the classes. -/
def classes : FVec Ideal S5x2205x64 .f32 :=
  shapeCast S5x2205x64 (extractStridedSlice S25x441x64 ![25, 0, 0] d slices_S65x441x64_S25x441x64_25_0_0) shapeCasts_S25x441x64_S5x2205x64

/-- The descriptors of the unlabelled images. -/
def images : FVec Ideal S15x441x64 .f32 := extractStridedSlice S15x441x64 ![50, 0, 0] d slices_S65x441x64_S15x441x64_50_0_0

end

section
variable (x : FVec Ideal S15x5 .f32)

/-- The exponentials of the scores less the greatest of the image. -/
def expo : FVec Ideal S15x5 .f32 :=
  Host.exp (subf x (broadcastInDim S15x5 ![0, 1] bcast_S15x1_S15x5_0_1 (broadcastInDim S15x1 ![0] bcast_S15_S15x1_0
    (maximumf (broadcastInDim S15 ![] bcast_S_S15 (constant S_ .f32 0xFF800000#32 : FVec Ideal S_ .f32))
      (Host.reduce FloatOps.maximumf x (constant S_ .f32 0xFF800000#32 : FVec Ideal S_ .f32) reducesTo_S15x5_S15_d1 h_S_)))))

/-- The shares of the classes. -/
def soft : FVec Ideal S15x5 .f32 :=
  Host.divf (expo x) (broadcastInDim S15x5 ![0, 1] bcast_S15x1_S15x5_0_1 (broadcastInDim S15x1 ![0] bcast_S15_S15x1_0
    (Host.reduceAdd (expo x) (constant S_ .f32 0x00000000#32 : FVec Ideal S_ .f32) reducesTo_S15x5_S15_d1 h_S_)))

/-- The ten images of the greatest shares, per class. -/
def ranked : IVec S5x10 32 :=
  (Host.topK S5x10 1 (FloatOps.cmpfTotal .gt) (transpose S5x15 [1, 0] (soft x) transposes_S15x5_S5x15_1_0) sliceFits_S5x15_S5x10).2

/-- One for each of the ten, zero for the others. -/
def choice : FVec Ideal S5x15 .f32 :=
  Host.reduceAdd
    (uitofp .f32 (cmpi .eq
      (broadcastInDim S5x10x15 ![0, 1, 2] bcast_S5x10x1_S5x10x15_0_1_2 (broadcastInDim S5x10x1 ![0, 1] bcast_S5x10_S5x10x1_0_1 (ranked x)))
      (broadcastInDim S5x10x15 ![0, 1, 2] bcast_S1x1x15_S5x10x15_0_1_2 (iotaInDim S1x1x15 32 2))) : FVec Ideal S5x10x15 .f32)
    (constant S_ .f32 0x00000000#32 : FVec Ideal S_ .f32) reducesTo_S5x10x15_S5x15_d1 h_S_

end

section
variable (d : FVec Ideal S65x441x64 .f32)

/-- The selection the reference makes. -/
def picked : FVec Ideal S5x15 .f32 := choice (Cert.SimRefIdeal.Value.REF (images d) (classes d))

/-- The reference's result over its argument. -/
def REF : FVec Ideal S25x5 .f32 := Cert.FinalRefIdeal.Value.REF (queries d) (classes d) (images d) (picked d)

/-- What the precondition says of the two calls. -/
theorem both (h : Cert.Pre_taildistinct.fn (F := Ideal) d = fun _ => 1#1) :
    (Cert.Pre_simdistinct.fn (F := Ideal) (images d) (classes d) = fun _ => 1#1)
    ∧ Cert.Pre_distinct.fn (F := Ideal) (queries d) (classes d) (images d) (picked d) = fun _ => 1#1 := by
  have hs : Subsingleton S_.Idx := ⟨fun x y => funext fun a => nomatch a⟩
  have h0 := congrFun h ix0
  have e : IntOp.andi (Cert.Pre_simdistinct.fn (F := Ideal) (images d) (classes d) ix0)
      (Cert.Pre_distinct.fn (F := Ideal) (queries d) (classes d) (images d) (picked d) ix0) = 1#1 := h0
  obtain ⟨h1, h2⟩ := IntOp.andi_eq_one.1 e
  exact ⟨funext fun y => (congrArg _ (Subsingleton.elim y ix0)).trans h1, funext fun y => (congrArg _ (Subsingleton.elim y ix0)).trans h2⟩

end
end Cert.TailRefIdeal.Value

namespace Cert.TailIdeal.Value

open Idealize.ShloMosaic Idealize.ShloMosaic.TcCoe Idealize.SL.Sem
open Cert.TailIdeal Cert.TailIdeal.Gen
open Cert.TailRefIdeal.Value (queries classes images ranked choice picked REF both)

section
variable (V : (c : Dev nD) → (b : Ref sig .tc) → Buf (Elt Ideal) ((c : Thread nD τ).loc b)) (c : Dev nD)

/-- The block indices of the first call's windows. -/
theorem idx0 : ∀ t : Fin cfg0.N, win0_0.index t = ![t.val, 0, 0] ∧ win0_1.index t = ![0, 0, 0] ∧ win0_2.index t = ![t.val, 0, 0] :=
  (by decide +kernel : ∀ t : Fin grid0.N, _)

/-- The block indices of the second call's windows. -/
theorem idx1 : ∀ t : Fin cfg1.N, win1_0.index t = ![t.val, 0, 0] ∧ win1_1.index t = ![0, 0, 0] ∧ win1_2.index t = ![0, 0, 0]
    ∧ win1_3.index t = ![0, 0, 0] ∧ win1_4.index t = ![t.val, 0, 0] :=
  (by decide +kernel : ∀ t : Fin grid1.N, _)

/-- The first call leaves its reference's scores. -/
theorem first (hd : Cert.Pre_simdistinct.fn (F := Ideal) (V c main_v3) (V c main_v2) = fun _ => 1#1) :
    (dat0 V c).arrAt 2 cfg0.N = Cert.SimIdeal.Value.target (V c main_v3) (V c main_v2) := by
  refine (dat0 V c).arrAt_eq_of_covers 2 _ (by decide +kernel) fun t _ y => ?_
  blk_simp [idx0 t]
  rw [after0_2]
  idx_vars y
  refine (Cert.SimIdeal.Value.out_at _ _ _ _ _).trans ?_
  have e : ∀ i k, Cert.TopThree.best (Cert.FinalIdeal.Rows.classDot (iblk0 V c 0 t) (iblk0 V c 1 t) i y2) k
      = Cert.SimRefIdeal.Value.values (V c main_v3) (V c main_v2) (ix4 ⟨t.val, t.isLt⟩ y2 i k) := fun i k => by
    rw [← Cert.SimRefIdeal.Value.best_own _ _ hd]
    refine congrArg (fun x => Cert.TopThree.best x k) (funext fun n => ?_)
    rw [Cert.SimRefIdeal.Value.own_at]
    refine Finset.sum_congr rfl fun c' _ => congrArg₂ (fun x y : EReal => x * y) ?_ ?_
    · blk_point [iblk0, idx0 t]
    · blk_point [iblk0, idx0 t]
  simp only [e]
  refine (Cert.SimRefIdeal.Value.REF_at _ _ ⟨t.val, t.isLt⟩ y2).symm.trans ?_
  show _ = Cert.SimRefIdeal.Value.REF _ _ _
  congr 1
  blk_ext [idx0 t]

/-- The second call, given the mask of a selection, leaves its reference's scores. -/
theorem second (a3 : FVec Ideal S5x15 .f32) (hm : V c main_v27 = Cert.FinalIdeal.Value.mask a3)
    (hd : Cert.Pre_distinct.fn (F := Ideal) (V c main_v0) (V c main_v2) (V c main_v3) a3 = fun _ => 1#1) :
    (dat1 V c).arrAt 4 cfg1.N = Cert.FinalIdeal.Value.target (V c main_v0) (V c main_v2) (V c main_v3) a3 := by
  refine (dat1 V c).arrAt_eq_of_covers 4 _ (by decide +kernel) fun t _ y => ?_
  blk_simp [idx1 t]
  rw [after1_4]
  idx_vars y
  refine (Cert.FinalIdeal.Rows.out_at _ _ _ _ _ _ _).trans ?_
  have e : ∀ i k, Cert.TopThree.best (Cert.FinalIdeal.Rows.cand (iblk1 V c 0 t) (iblk1 V c 1 t) (iblk1 V c 2 t) (iblk1 V c 3 t) y2 i) k
      = Cert.FinalRefIdeal.Value.values (V c main_v0) (V c main_v2) (V c main_v3) a3 (ix4 ⟨t.val, t.isLt⟩ y2 i k) := fun i k => by
    refine Cert.FinalJoin.best_cand _ _ _ _ _ _ _ _ hd ⟨t.val, t.isLt⟩ (fun i c' => ?_) (fun j m' c' => ?_) (fun s m' c' => ?_) (fun j s k n hn => ?_) y2 i k
    · blk_point [iblk1, idx1 t]
    · blk_point [iblk1, idx1 t]
    · blk_point [iblk1, idx1 t]
    · refine Eq.trans ?_ ((congrFun hm (ix3 j 0 n)).trans (Cert.FinalIdeal.Value.mask_at _ j s k n hn))
      blk_point [iblk1, idx1 t]
  simp only [e]
  refine (Cert.FinalRefIdeal.Value.REF_at _ _ _ _ ⟨t.val, t.isLt⟩ y2).symm.trans ?_
  show _ = Cert.FinalRefIdeal.Value.REF _ _ _ _ _
  congr 1
  blk_ext [idx1 t]

end

section
variable (W : Valuation τ sig (Elt Ideal))

/-- The cuts at the start. -/
theorem cuts : StableHlo.after hostOps0 W (Proc.devRef .tc main_v0) = queries (W (Proc.devRef .tc main_arg0))
    ∧ StableHlo.after hostOps0 W (Proc.devRef .tc main_v2) = classes (W (Proc.devRef .tc main_arg0))
    ∧ StableHlo.after hostOps0 W (Proc.devRef .tc main_v3) = images (W (Proc.devRef .tc main_arg0)) := by
  refine ⟨?_, ?_, ?_⟩ <;> entry_read <;> rfl

/-- The ranking. -/
theorem ranks : StableHlo.after hostOps1 W (Proc.devRef .tc main_indices)
    = Cert.TailRefIdeal.Value.ranked (shapeCast S15x5 (W (Proc.devRef .tc main_v4) : FVec Ideal S15x1x5 .f32) shapeCasts_S15x1x5_S15x5) := by
  entry_read
  rfl

/-- The ones and zeros of the ranking. -/
theorem ones : StableHlo.after hostOps1_1 W (Proc.devRef .tc main_v18)
    = (uitofp .f32 (cmpi .eq
      (broadcastInDim S5x10x15 ![0, 1, 2] bcast_S5x10x1_S5x10x15_0_1_2 (broadcastInDim S5x10x1 ![0, 1] bcast_S5x10_S5x10x1_0_1
        (W (Proc.devRef .tc main_indices) : IVec S5x10 32)))
      (broadcastInDim S5x10x15 ![0, 1, 2] bcast_S1x1x15_S5x10x15_0_1_2 (iotaInDim S1x1x15 32 2))) : FVec Ideal S5x10x15 .f32) := by
  entry_read
  rfl

/-- The mask of their sums. -/
theorem masks : StableHlo.after hostOps1_2 W (Proc.devRef .tc main_v27)
    = Cert.FinalIdeal.Value.mask (Host.reduceAdd (W (Proc.devRef .tc main_v18) : FVec Ideal S5x10x15 .f32)
        (constant S_ .f32 0x00000000#32 : FVec Ideal S_ .f32) reducesTo_S5x10x15_S5x15_d1 h_S_) := by
  entry_read
  rfl

/-- The last line drops the axis of one. -/
theorem last : StableHlo.after hostOps2 W (Proc.devRef .tc main_v29)
    = (shapeCast S25x5 (W (Proc.devRef .tc main_v28) : FVec Ideal S25x1x5 .f32) shapeCasts_S25x1x5_S25x5 : FVec Ideal S25x5 .f32) := by
  entry_read
  rfl

end

section
variable (m : (ℓ : Loc nD τ sig) → Buf (Elt Ideal) ℓ) (ρ : Dev nD → PrngReg) (c : Dev nD)

/-- A reference neither call writes and no stretch between them writes holds at the second call what it held at the first. -/
theorem kept (r : Ref sig .tc) (h1 : r ∉ hostOps1_W) (h2 : r ∉ hostOps1_1_W) (h3 : r ∉ hostOps1_2_W)
    (h0 : ∀ w : Fin cfg0.W, Pipeline.arrRef spec0 w = r → (cfg0.win w).isOut = false) :
    W5 m ρ c (Proc.devRef .tc r) = W1 m ρ c (Proc.devRef .tc r) :=
  (W5_of m ρ c r h3).trans ((W4_of m ρ c r h2).trans ((W3_of m ρ c r h1).trans (W2_of m ρ c r h0)))

theorem value (hd : Cert.Pre_taildistinct.fn (F := Ideal) (m (c.tc.loc main_arg0)) = fun _ => 1#1) :
    W7 m ρ c (Proc.devRef .tc main_v29) = REF (m (c.tc.loc main_arg0)) := by
  obtain ⟨hs, hf⟩ := both _ hd
  obtain ⟨e0, e2, e3⟩ := cuts (W0 m ρ c)
  have k0 : W5 m ρ c (Proc.devRef .tc main_v0) = queries (m (c.tc.loc main_arg0)) :=
    (kept m ρ c main_v0 (by decide) (by decide) (by decide) (by decide)).trans e0
  have k2 : W5 m ρ c (Proc.devRef .tc main_v2) = classes (m (c.tc.loc main_arg0)) :=
    (kept m ρ c main_v2 (by decide) (by decide) (by decide) (by decide)).trans e2
  have k3 : W5 m ρ c (Proc.devRef .tc main_v3) = images (m (c.tc.loc main_arg0)) :=
    (kept m ρ c main_v3 (by decide) (by decide) (by decide) (by decide)).trans e3
  have f1 : (W2 m ρ c (Proc.devRef .tc main_v4) : FVec Ideal S15x1x5 .f32)
      = Cert.SimIdeal.Value.target (images (m (c.tc.loc main_arg0))) (classes (m (c.tc.loc main_arg0))) := by
    refine (W2_arr m ρ c 2).trans ?_
    have f := first (V1 m ρ) c
    rw [show V1 m ρ c main_v3 = images (m (c.tc.loc main_arg0)) from e3, show V1 m ρ c main_v2 = classes (m (c.tc.loc main_arg0)) from e2] at f
    exact f hs
  have f2 : W5 m ρ c (Proc.devRef .tc main_v27) = Cert.FinalIdeal.Value.mask (picked (m (c.tc.loc main_arg0))) := by
    refine (masks _).trans (congrArg Cert.FinalIdeal.Value.mask ?_)
    have r : (W3 m ρ c (Proc.devRef .tc main_indices) : IVec S5x10 32) = ranked (Cert.SimRefIdeal.Value.REF (images (m (c.tc.loc main_arg0))) (classes (m (c.tc.loc main_arg0)))) := by
      refine (ranks (W2 m ρ c)).trans ?_
      rw [f1]
      exact congrArg ranked (Cert.SimIdeal.Value.reshaped _ _)
    have o := ones (W3 m ρ c)
    rw [r] at o
    rw [show W4 m ρ c (Proc.devRef .tc main_v18) = _ from o]
    rfl
  refine (last _).trans (Eq.trans ?_ (Cert.FinalIdeal.Value.reshaped _ _ _ _))
  refine congrArg (fun x : FVec Ideal S25x1x5 .f32 => (shapeCast S25x5 x shapeCasts_S25x1x5_S25x5 : FVec Ideal S25x5 .f32)) ?_
  refine (W6_arr m ρ c 4).trans ?_
  have g := second (V5 m ρ) c _ f2
  rw [show V5 m ρ c main_v0 = queries (m (c.tc.loc main_arg0)) from k0, show V5 m ρ c main_v2 = classes (m (c.tc.loc main_arg0)) from k2,
    show V5 m ρ c main_v3 = images (m (c.tc.loc main_arg0)) from k3] at g
  exact g hf

end
end Cert.TailIdeal.Value

end
-- ==== Proof.Pool2Value.lean ====
/-
  The second pooling call: the same as the first on images 44 rows wide.
-/
module

public import proofs.«01_k».proof.Proof.Pool1Pure
public import proofs.«01_k».proof.Proof.Gen.Pool2Ideal.Frame
public import proofs.«01_k».proof.Proof.Gen.Pool2RefIdeal
public import Idealize.ShloMosaic.Lib.Pointwise
public import Idealize.ShloMosaic.Lib.Pipeline.ValueKit
public import Idealize.ShloMosaic.Lib.Claim

@[expose] public section

set_option maxRecDepth 16384

noncomputable section

namespace Cert.Pool2Ideal.Value

open Idealize.ShloMosaic Idealize.ShloMosaic.TcCoe Idealize.SL.Sem
open Idealize.ShloMosaic.Pipeline (Dat)
open Cert.Pool2Ideal Cert.Pool2Ideal.Gen
open Cert.Pool1Ideal.Pure (leaky)

/-! ## What the stores leave -/

theorem pos : ∀ a, 0 < S1936x64.size a := by decide

theorem inb_row (n : Fin 21) : ∀ a, S21x64.size a = 0 ∨
    (![88 * n.val + 45, 0] : Fin 2 → ℕ) a + (![2, 1] : Fin 2 → ℕ) a * (S21x64.size a - 1) < S1936x64.size a := fun a => by
  have := n.isLt
  refine Or.inr ?_
  match a with
  | ⟨0, _⟩ => show 88 * n.val + 45 + 2 * 20 < 1936; omega
  | ⟨1, _⟩ => show 0 + 1 * 63 < 64; omega

section
variable {F : FTy → Type} [FloatOps F]

/-- The stored band of pooled row `n`: every second row of `X` from row `88 n + 45`. -/
def band (X : Vec F S1936x64 .f32) (n : Fin 21) : Vec F S1x21x64 .f32 :=
  shapeCast S1x21x64 (Cert.Bands.evenRows (Val := Elt F) (e := .f32) pos (88 * n.val + 45) X : Vec F S21x64 .f32) shapeCasts_S21x64_S1x21x64

/-- The zero block with the 21 bands of `X` stored over it. -/
def scatter (X : Vec F S1936x64 .f32) : Vec F S1x529x64 .f32 :=
  View.canon (Cert.Bands.pieces (Val := Elt F) (e := .f32) (W := 23) (H := 21) (K := 21) (by decide) (k0_pay4 (F := F)) (band X) 21 (Nat.le_refl 21))

theorem read_scatter {sg : RefSig} {κ κ' : Kind} {sp sp' : Space} (v : View sg κ sp S1x529x64 .f32) (f : v.ty.Contents (Elt F))
    (w : View sg κ' sp' S1936x64 .f32) (X X' : Vec F S1936x64 .f32) (hX : X = X') :
    v.read (Elt F) (v.writes (Elt F) f (Cert.Bands.pieces (Val := Elt F) (e := .f32) (W := 23) (H := 21) (K := 21) (by decide) (k0_pay4 (F := F))
      (fun n => shapeCast S1x21x64 (w.readCov (Val := Elt F) [⟨Rect.unit ![0, 0] S1936x64.size inb_S1936x64_S1936x64_0_0, X⟩]
        (⟨![88 * n.val + 45, 0], S21x64.size, ![2, 1], inb_row n⟩ : LoadRect S1936x64) : Vec F S21x64 .f32) shapeCasts_S21x64_S1x21x64)
      21 (Nat.le_refl 21))) = scatter X' := by
  subst hX
  refine (Cert.Bands.read_pieces _ _ _ v f).trans ?_
  unfold scatter
  congr 2
  funext n
  exact congrArg (fun z => shapeCast S1x21x64 z shapeCasts_S21x64_S1x21x64) (Cert.Bands.load_evenRows pos w X _ _ _)

/-- What the call leaves at a point, over its input blocks. -/
def out (x0 : Vec F S1x1936x64 .f32) (x1 x2 : Vec F S1x1x64 .f32) : Vec F S1x529x64 .f32 := scatter (k0_pay3 (F := F) x0 x1 x2)

set_option maxHeartbeats 1000000 in
/-- The stores of one run are those of `out`. -/
theorem run_out (c : Dev nD) (i : grid0.Coords) (arg1 : Memref sig .tc .vmem S1x1936x64 .f32) (harg1 : arg1.IsWhole)
    (arg2 : Memref sig .tc .vmem S1x1x64 .f32) (harg2 : arg2.IsWhole) (arg3 : Memref sig .tc .vmem S1x1x64 .f32) (harg3 : arg3.IsWhole)
    (arg4 : Memref sig .tc .vmem S1x529x64 .f32) (harg4 : arg4.IsWhole) (arg5 : Memref sig .tc .vmem S1936x64 .f32) (harg5 : arg5.IsWhole)
    (x0 : Vec F S1x1936x64 .f32) (x1 x2 : Vec F S1x1x64 .f32)
    {κ : Kind} {sp : Space} (v : View sig κ sp S1x529x64 .f32) (f : v.ty.Contents (Elt F)) :
    v.read (Elt F) (v.writes (Elt F) f (kernelRun0_A c i arg1 harg1 arg2 harg2 arg3 harg3 arg4 harg4 arg5 harg5 x0 x1 x2).1) = out x0 x1 x2 := by
  unfold kernelRun0_A
  refine read_scatter (F := F) v f arg5.view _ _ ?_
  rw [View.readAt_eq_ld, View.readAt_eq_ld, View.readAt_eq_ld, harg1.read_unread, harg2.read_unread, harg3.read_unread,
    View.ld_unit_zero Cert.Pool1Ideal.Body.hz, View.ld_unit_zero Cert.Pool1Ideal.Body.hz, View.ld_unit_zero Cert.Pool1Ideal.Body.hz]

theorem outs_eq (m : (ℓ : Loc nD τ sig) → Buf (Elt F) ℓ) (c : Dev nD) (t : Fin cfg0.N) :
    outsAt0 m c t = out (iblk m c 0 t) (iblk m c 1 t) (iblk m c 2 t) :=
  run_out (F := F) c (grid0.coords t) (ms0_0 t) (hs0_0 t) (ms0_1 t) (hs0_1 t) (ms0_2 t) (hs0_2 t) (ms0_3 t) (hs0_3 t) scM0_0 (Memref.isWhole_whole _)
    (iblk m c 0 t) (iblk m c 1 t) (iblk m c 2 t) VO0_3 VO0_3.junk

end

/-! ## Its elements -/

/-- One element of the activated image: the affine map of a row, rectified. -/
def act (x0 : FVec Ideal S1x1936x64 .f32) (x1 x2 : FVec Ideal S1x1x64 .f32) (p : Fin 1936) (ch : Fin 64) : EReal :=
  leaky (x0 (ix3 0 p ch) * x1 (ix3 0 0 ch) + x2 (ix3 0 0 ch))

/-- One element of what the body stages in its scratch: the maximum of four neighbours. -/
theorem pay3_at (x0 : FVec Ideal S1x1936x64 .f32) (x1 x2 : FVec Ideal S1x1x64 .f32) (p : Fin 1936) (hp : p.val + 45 < 1936) (ch : Fin 64) :
    k0_pay3 (F := Ideal) x0 x1 x2 (ix2 p ch)
      = max (max (act x0 x1 x2 p ch) (act x0 x1 x2 ⟨1 + p.val, by omega⟩ ch))
          (max (act x0 x1 x2 ⟨44 + p.val, by omega⟩ ch) (act x0 x1 x2 ⟨1 + (44 + p.val), by omega⟩ ch)) := by
  have h1 : p.val < 1935 := by omega
  have h2 : p.val < 1892 := by omega
  have h3 : 44 + p.val < 1935 := by omega
  pointwise [k0_pay3]
  simp only [dif_pos h1, dif_pos h2, dif_pos h3, act, leaky]

/-- The affine map and rectifier at image `b`, row `p` of the padded image, channel `ch`. -/
def actAt (a0 : FVec Ideal S65x1936x64 .f32) (a1 a2 : FVec Ideal S65x64 .f32) (b : Fin 65) (ch : Fin 64) (p : Nat) : EReal :=
  if h : p < 1936 then leaky (a0 (ix3 b ⟨p, h⟩ ch) * a1 (ix2 b ch) + a2 (ix2 b ch)) else 0

/-- The pooled image: in the inside of the padded grid the maximum of four activated neighbours, zero on the border. -/
def pooled (a0 : FVec Ideal S65x1936x64 .f32) (a1 a2 : FVec Ideal S65x64 .f32) (b : Fin 65) (r : Nat) (ch : Fin 64) : EReal :=
  if (1 ≤ r / 23 ∧ r / 23 - 1 < 21) ∧ 1 ≤ r % 23 ∧ r % 23 - 1 < 21 then
    max (max (actAt a0 a1 a2 b ch (88 * (r / 23 - 1) + 45 + 2 * (r % 23 - 1)))
          (actAt a0 a1 a2 b ch (88 * (r / 23 - 1) + 45 + 2 * (r % 23 - 1) + 1)))
      (max (actAt a0 a1 a2 b ch (88 * (r / 23 - 1) + 45 + 2 * (r % 23 - 1) + 44))
        (actAt a0 a1 a2 b ch (88 * (r / 23 - 1) + 45 + 2 * (r % 23 - 1) + 45)))
  else 0

def target (a0 : FVec Ideal S65x1936x64 .f32) (a1 a2 : FVec Ideal S65x64 .f32) : FVec Ideal S65x529x64 .f32 :=
  fun i => pooled a0 a1 a2 (i 0) (i 1).val (i 2)

theorem idx : ∀ t : Fin cfg0.N, win0_0.index t = ![t.val, 0, 0] ∧ win0_1.index t = ![t.val, 0, 0] ∧ win0_2.index t = ![t.val, 0, 0]
    ∧ win0_3.index t = ![t.val, 0, 0] :=
  (by decide +kernel : ∀ t : Fin grid0.N, _)

/-- One element of the band stored for pooled row `n`. -/
theorem band_at (X : FVec Ideal S1936x64 .f32) (n s : Fin 21) (ch : Fin 64) (hb : 88 * n.val + 45 + 2 * s.val < 1936) :
    band (F := Ideal) X n (ix3 0 s ch) = X (ix2 ⟨88 * n.val + 45 + 2 * s.val, hb⟩ ch) := by
  pointwise [band]
  exact Cert.Bands.evenRows_apply (Val := Elt Ideal) (e := .f32) pos X (ix2 s ch) (ix2 ⟨88 * n.val + 45 + 2 * s.val, hb⟩ ch) rfl rfl

/-- The output block at an element of band `n`. -/
theorem scatter_hit (X : FVec Ideal S1936x64 .f32) (n s : Fin 21) (ch : Fin 64) (y : S1x529x64.Idx)
    (h1 : (y 1).val = 23 * (n.val + 1) + 1 + s.val) (h2 : (y 2).val = ch.val) :
    scatter (F := Ideal) X y = band (F := Ideal) X n (ix3 0 s ch) := by
  unfold scatter
  exact Cert.Bands.canon_band (Val := Elt Ideal) (e := .f32) (W := 23) (H := 21) (N := 529) (C := 64) (K := 21) (by decide)
    (k0_pay4 (F := Ideal)) (band (F := Ideal) X) (by decide) 21 (Nat.le_refl 21) n n.isLt y (ix3 0 s ch) h1 h2

/-- The output block outside every band: zero. -/
theorem scatter_fill (X : FVec Ideal S1936x64 .f32) (y : S1x529x64.Idx)
    (h : ∀ k < 21, (y 1).val < 23 * (k + 1) + 1 ∨ 23 * (k + 1) + 1 + 21 ≤ (y 1).val) : scatter (F := Ideal) X y = (0 : EReal) := by
  unfold scatter
  refine (Cert.Bands.canon_fill (Val := Elt Ideal) (e := .f32) (W := 23) (H := 21) (N := 529) (C := 64) (K := 21) (by decide)
    (k0_pay4 (F := Ideal)) (band (F := Ideal) X) 21 (Nat.le_refl 21) y h).trans ?_
  pointwise [k0_pay4]

/-- The output block of blocks whose elements are named: the pooled image of one `b`. -/
theorem out_at (a0 : FVec Ideal S65x1936x64 .f32) (a1 a2 : FVec Ideal S65x64 .f32) (b : Fin 65) (x0 : FVec Ideal S1x1936x64 .f32) (x1 x2 : FVec Ideal S1x1x64 .f32)
    (h0 : ∀ p ch, x0 (ix3 0 p ch) = a0 (ix3 b p ch)) (h1 : ∀ ch, x1 (ix3 0 0 ch) = a1 (ix2 b ch)) (h2 : ∀ ch, x2 (ix3 0 0 ch) = a2 (ix2 b ch))
    (y : S1x529x64.Idx) (r : Nat) (ch : Fin 64) (hy : (y 1).val = r) (hy2 : (y 2).val = ch.val) :
    out (F := Ideal) x0 x1 x2 y = pooled a0 a1 a2 b r ch := by
  have hact : ∀ (p : Fin 1936) q, p.val = q → act x0 x1 x2 p ch = actAt a0 a1 a2 b ch q := fun p q hp => by
    subst hp
    rw [act, actAt, dif_pos p.isLt, h0, h1, h2]
  have hr : r < 529 := hy ▸ (y 1).isLt
  unfold pooled
  split
  · next h =>
    obtain ⟨⟨hq1, hq⟩, hs1, hs⟩ := h
    have hp : 88 * (r / 23 - 1) + 45 + 2 * (r % 23 - 1) + 45 < 1936 := by omega
    refine (scatter_hit _ ⟨_, hq⟩ ⟨_, hs⟩ ch y (by rw [hy]; dsimp only; omega) hy2).trans ?_
    refine (band_at _ _ _ _ (by dsimp only; omega)).trans ?_
    refine (pay3_at x0 x1 x2 _ hp ch).trans ?_
    refine congrArg₂ max (congrArg₂ max ?_ ?_) (congrArg₂ max ?_ ?_) <;> exact hact _ _ (by first | (dsimp only; done) | (dsimp only; omega))
  · next h =>
    exact scatter_fill _ y (by rw [hy]; omega)

theorem final (m : (ℓ : Loc nD τ sig) → Buf (Elt Ideal) ℓ) (c : Dev nD) :
    (dats m 0 c).arrAt 3 (cfgs 0).N = target (m (c.tc.loc main_arg0)) (m (c.tc.loc main_arg1)) (m (c.tc.loc main_arg2)) := by
  refine (dats m 0 c).arrAt_eq_of_covers 3 _ (by decide +kernel) fun t _ y => ?_
  blk_simp [idx t]
  rw [after0_3, outs_eq]
  refine (out_at (m (c.tc.loc main_arg0)) (m (c.tc.loc main_arg1)) (m (c.tc.loc main_arg2)) ⟨t.val, t.isLt⟩ _ _ _ (fun p ch => ?_) (fun ch => ?_) (fun ch => ?_) y _ _ rfl rfl).trans ?_
  · blk_point [iblk, V, idx t]
  · blk_point [iblk, V, idx t]
  · blk_point [iblk, V, idx t]
  · show _ = pooled _ _ _ _ _ _
    congr 1
    · exact Fin.ext (by blk_simp [idx t])
    · blk_simp [idx t]
    · exact Fin.ext (by blk_simp [idx t])

end Cert.Pool2Ideal.Value

namespace Cert.Pool2RefIdeal.Value

open Idealize.ShloMosaic Idealize.ShloMosaic.TcCoe Idealize.SL.Sem
open Cert.Pool2RefIdeal.Gen
open Cert.Pool2Ideal.Value (actAt pooled target)
open Cert.Pool1Ideal.Pure (leaky)

/-- The affine map of the inside of the image, as the reference writes it. -/
def affine (a0 : FVec Ideal S65x1936x64 .f32) (a1 a2 : FVec Ideal S65x64 .f32) : FVec Ideal S65x42x42x64 .f32 :=
  addf
    (mulf
      (extractStridedSlice S65x42x42x64 ![0, 1, 1, 0] (shapeCast S65x44x44x64 a0 shapeCasts_S65x1936x64_S65x44x44x64)
        slices_S65x44x44x64_S65x42x42x64_0_1_1_0)
      (broadcastInDim S65x42x42x64 ![0, 1, 2, 3] bcast_S65x1x1x64_S65x42x42x64_0_1_2_3
        (broadcastInDim S65x1x1x64 ![0, 3] bcast_S65x64_S65x1x1x64_0_3 a1)))
    (broadcastInDim S65x42x42x64 ![0, 1, 2, 3] bcast_S65x1x1x64_S65x42x42x64_0_1_2_3
      (broadcastInDim S65x1x1x64 ![0, 3] bcast_S65x64_S65x1x1x64_0_3 a2))

/-- The rectifier on top of it. -/
def rectified (a0 : FVec Ideal S65x1936x64 .f32) (a1 a2 : FVec Ideal S65x64 .f32) : FVec Ideal S65x42x42x64 .f32 :=
  select (cmpf .oge (affine a0 a1 a2) (broadcastInDim S65x42x42x64 ![] bcast_S_S65x42x42x64 (constant S_ FTy.f32 0#32)))
    (affine a0 a1 a2)
    (mulf (broadcastInDim S65x42x42x64 ![] bcast_S_S65x42x42x64 (constant S_ FTy.f32 1045220557#32)) (affine a0 a1 a2))

/-- The maximum over windows of two by two. -/
def windows (a0 : FVec Ideal S65x1936x64 .f32) (a1 a2 : FVec Ideal S65x64 .f32) : FVec Ideal S65x21x21x64 .f32 :=
  Host.reduceWindow FloatOps.maximumf ![1, 2, 2, 1] ![1, 2, 2, 1] ![0, 0, 0, 0] ![0, 0, 0, 0] (rectified a0 a1 a2)
    (broadcastInDim S_ ![] bcast_S_S_ (constant S_ FTy.f32 4286578688#32) : FVec Ideal S_ .f32)
    reduceWindows_S65x42x42x64_S65x21x21x64_w1s1p0_0_w2s2p0_0_w2s2p0_0_w1s1p0_0 h_S_

/-- The reference's result over its three arguments. -/
def REF (a0 : FVec Ideal S65x1936x64 .f32) (a1 a2 : FVec Ideal S65x64 .f32) : FVec Ideal S65x529x64 .f32 :=
  shapeCast S65x529x64 (pad S65x23x23x64 ![0, 1, 1, 0] ![0, 1, 1, 0] ![0, 0, 0, 0] (windows a0 a1 a2)
    (sitofp FTy.f32 (constantI S_ 32 0#32) : FVec Ideal S_ .f32) pads_S65x21x21x64_S65x23x23x64_000_110_110_000 h_S_) shapeCasts_S65x23x23x64_S65x529x64

theorem rectified_at (a0 : FVec Ideal S65x1936x64 .f32) (a1 a2 : FVec Ideal S65x64 .f32) (b : Fin 65) (i j : Fin 42) (ch : Fin 64) :
    rectified a0 a1 a2 (ix4 b i j ch) = actAt a0 a1 a2 b ch (44 * (i.val + 1) + (j.val + 1)) := by
  rw [actAt, dif_pos (by omega)]
  have e : (1 + i.val) * 44 + (1 + j.val) = 44 * (i.val + 1) + (j.val + 1) := by omega
  pointwise [rectified, affine, leaky]
  simp only [e]

theorem windows_at (a0 : FVec Ideal S65x1936x64 .f32) (a1 a2 : FVec Ideal S65x64 .f32) (b : Fin 65) (i j : Fin 21) (ch : Fin 64) :
    windows a0 a1 a2 (ix4 b i j ch) =
      max (max (actAt a0 a1 a2 b ch (44 * (2 * i.val + 1) + (2 * j.val + 1))) (actAt a0 a1 a2 b ch (44 * (2 * i.val + 1) + (2 * j.val + 1 + 1))))
        (max (actAt a0 a1 a2 b ch (44 * (2 * i.val + 1 + 1) + (2 * j.val + 1))) (actAt a0 a1 a2 b ch (44 * (2 * i.val + 1 + 1) + (2 * j.val + 1 + 1)))) :=
  Cert.Window.pool22 (rectified a0 a1 a2) _ _ _ (fun _ => Cert.Window.ofBits_bot) b i j ch (fun p q => actAt a0 a1 a2 b ch (44 * (p + 1) + (q + 1)))
    (by omega) (by omega) (fun p q => rectified_at a0 a1 a2 b p q ch)

theorem REF_eq (a0 : FVec Ideal S65x1936x64 .f32) (a1 a2 : FVec Ideal S65x64 .f32) : REF a0 a1 a2 = target a0 a1 a2 := by
  funext y
  idx_vars y
  pointwise [REF, target]
  unfold pooled
  by_cases h : (1 ≤ y1.val / 23 ∧ y1.val / 23 - 1 < 21) ∧ 1 ≤ y1.val % 23 ∧ y1.val % 23 - 1 < 21
  · rw [dif_pos h, if_pos h, windows_at]
    congr 2 <;> congr 1 <;> (dsimp only; omega)
  · rw [dif_neg h, if_neg h]
    simp [FloatOps.sitofp]

end Cert.Pool2RefIdeal.Value
end
-- ==== Proof.lean ====
module

public import proofs.«01_k».proof.Defs
public import proofs.«01_k».proof.Proof.Pool1Value
public import proofs.«01_k».proof.Proof.FinalValue
public import proofs.«01_k».proof.Proof.SimValue
public import proofs.«01_k».proof.Proof.Conv44Value
public import proofs.«01_k».proof.Proof.Conv23Value
public import proofs.«01_k».proof.Proof.Conv86Value
public import proofs.«01_k».proof.Proof.Plane
public import proofs.«01_k».proof.Proof.NormValue
public import proofs.«01_k».proof.Proof.TailValue
public import proofs.«01_k».proof.Proof.Pool2Value
public import proofs.«01_k».proof.Proof.Gen.Pool1
public import proofs.«01_k».proof.Proof.Gen.Final
public import proofs.«01_k».proof.Proof.Gen.Final.Frame
public import proofs.«01_k».proof.Proof.Gen.Sim.Frame
public import proofs.«01_k».proof.Proof.Gen.Conv44.Frame
public import proofs.«01_k».proof.Proof.Gen.Conv23.Frame
public import proofs.«01_k».proof.Proof.Gen.Conv86.Frame
public import proofs.«01_k».proof.Proof.Gen.Apply.Frame
public import proofs.«01_k».proof.Proof.Gen.Norm.Frame
public import proofs.«01_k».proof.Proof.Gen.Tail.Frame
public import proofs.«01_k».proof.Proof.Gen.Pool2
public import Idealize.ShloMosaic.Lib.Claim

@[expose] public section

set_option maxRecDepth 16384

noncomputable section

open Idealize.ShloMosaic Idealize.ShloMosaic.TcCoe Idealize.SL.Sem

namespace Cert.Proof.Claims

/-- The pooling call and its idealization have the same body table. -/
theorem bodies_eq : @Cert.Pool1.defs₀ Bits _ _ = @Cert.Pool1Ideal.defs₀ Bits _ _ := by
  unfold Cert.Pool1.defs₀ Cert.Pool1Ideal.defs₀
  refine congrArg (Defs.onTc (nD := Cert.Pool1Ideal.nD) (τ := Cert.Pool1Ideal.τ)) ?_
  funext l a
  match l, a with
  | 0, (t, s) => rfl
  | ⟨_ + 1, h⟩, _ => exact absurd h (Nat.not_lt.2 (Nat.le_add_left _ _))

theorem defs_eq : @Cert.Pool1.defs Bits _ _ = @Cert.Pool1Ideal.defs Bits _ _ :=
  congrArg (Pipeline.defs Cert.Pool1Ideal.pcfgs) bodies_eq

/-- The pooling call as written runs: the run of its idealization, which has the same text, read at the machine's words. -/
theorem frame_p : Cert.quiescent_Pool1 := fun m ρ _ => by
  rw [defs_eq]
  exact Cert.Pool1Ideal.Body.frame_run (F := Bits) m ρ

theorem frame_pi : Cert.quiescent_Pool1Ideal := fun m ρ _ => Cert.Pool1Ideal.Body.frame_run (F := Ideal) m ρ

theorem frame_ri : Cert.quiescent_Pool1RefIdeal := by
  intro m ρ _
  refine θ_run_mono (Q := fun r => ∀ c : Dev Cert.Pool1RefIdeal.nD,
      r.2.mem (c.tc.loc Cert.Pool1RefIdeal.main_arg0) = m (c.tc.loc Cert.Pool1RefIdeal.main_arg0)
      ∧ r.2.mem (c.tc.loc Cert.Pool1RefIdeal.main_arg1) = m (c.tc.loc Cert.Pool1RefIdeal.main_arg1)
      ∧ r.2.mem (c.tc.loc Cert.Pool1RefIdeal.main_arg2) = m (c.tc.loc Cert.Pool1RefIdeal.main_arg2)) ?_
    fun r h => ⟨h, Idealize.ShloMosaic.sem_eq_zero_of_no_sems (by decide) r.2⟩
  hlo_run

theorem algebraic : Cert.algebraic_Pool1Ideal_Pool1RefIdeal := by
  pair_intro
  · run_from (θ_run_mono (Cert.Pool1Ideal.Body.run_main (F := Ideal) m g) fun _ h => h.1)
  · hlo_run
    exact (Cert.Pool1RefIdeal.Value.REF_eq _ _ _).trans (Cert.Pool1Ideal.Value.final m c).symm

theorem final_frame_ri : Cert.quiescent_FinalRefIdeal := by
  intro m ρ _
  refine θ_run_mono (Q := fun r => ∀ c : Dev Cert.FinalRefIdeal.nD,
      r.2.mem (c.tc.loc Cert.FinalRefIdeal.main_arg0) = m (c.tc.loc Cert.FinalRefIdeal.main_arg0)
      ∧ r.2.mem (c.tc.loc Cert.FinalRefIdeal.main_arg1) = m (c.tc.loc Cert.FinalRefIdeal.main_arg1)
      ∧ r.2.mem (c.tc.loc Cert.FinalRefIdeal.main_arg2) = m (c.tc.loc Cert.FinalRefIdeal.main_arg2)
      ∧ r.2.mem (c.tc.loc Cert.FinalRefIdeal.main_arg3) = m (c.tc.loc Cert.FinalRefIdeal.main_arg3)) ?_
    fun r h => ⟨h, Idealize.ShloMosaic.sem_eq_zero_of_no_sems (by decide) r.2⟩
  hlo_run

theorem final_algebraic : Cert.algebraic_FinalIdeal_FinalRefIdeal_pre_distinct := by
  pair_intro
  · run_from Cert.FinalIdeal.Gen.run_main (F := Ideal) m g
    exact Cert.FinalIdeal.Gen.W_main_arg3 m (Cert.FinalIdeal.Gen.dats m) c
  · hlo_run
    rw [Cert.FinalIdeal.Value.tail, Cert.FinalIdeal.Value.final m c (hpre c), Cert.FinalIdeal.Value.reshaped, (hagree c).2.2.2]
    rfl

theorem sim_frame_ri : Cert.quiescent_SimRefIdeal := by
  intro m ρ _
  refine θ_run_mono (Q := fun r => ∀ c : Dev Cert.SimRefIdeal.nD,
      r.2.mem (c.tc.loc Cert.SimRefIdeal.main_arg0) = m (c.tc.loc Cert.SimRefIdeal.main_arg0)
      ∧ r.2.mem (c.tc.loc Cert.SimRefIdeal.main_arg1) = m (c.tc.loc Cert.SimRefIdeal.main_arg1)) ?_
    fun r h => ⟨h, Idealize.ShloMosaic.sem_eq_zero_of_no_sems (by decide) r.2⟩
  hlo_run

theorem sim_algebraic : Cert.algebraic_SimIdeal_SimRefIdeal_pre_simdistinct := by
  pair_intro
  · run_from Cert.SimIdeal.Gen.run_main (F := Ideal) m g
  · hlo_run
    rw [Cert.SimIdeal.Value.tail, Cert.SimIdeal.Value.final m c (hpre c), Cert.SimIdeal.Value.reshaped]
    rfl

theorem conv44_frame_ri : Cert.quiescent_Conv44RefIdeal := by
  intro m ρ _
  refine θ_run_mono (Q := fun r => ∀ c : Dev Cert.Conv44RefIdeal.nD,
      r.2.mem (c.tc.loc Cert.Conv44RefIdeal.main_arg0) = m (c.tc.loc Cert.Conv44RefIdeal.main_arg0)
      ∧ r.2.mem (c.tc.loc Cert.Conv44RefIdeal.main_arg1) = m (c.tc.loc Cert.Conv44RefIdeal.main_arg1)) ?_
    fun r h => ⟨h, Idealize.ShloMosaic.sem_eq_zero_of_no_sems (by decide) r.2⟩
  hlo_run

theorem conv44_algebraic : Cert.algebraic_Conv44Ideal_Conv44RefIdeal := by
  pair_intro
  · run_from Cert.Conv44Ideal.Gen.run_main (F := Ideal) m g
    exact Cert.Conv44Ideal.Gen.V_main_arg1 m c
  · hlo_run
    · exact (Cert.Conv44Ideal.Value.final_image m c).symm
    · exact (Cert.Conv44Ideal.Value.final_sum m c).symm
    · exact (Cert.Conv44Ideal.Value.final_square m c).symm

theorem conv23_frame_ri : Cert.quiescent_Conv23RefIdeal := by
  intro m ρ _
  refine θ_run_mono (Q := fun r => ∀ c : Dev Cert.Conv23RefIdeal.nD,
      r.2.mem (c.tc.loc Cert.Conv23RefIdeal.main_arg0) = m (c.tc.loc Cert.Conv23RefIdeal.main_arg0)
      ∧ r.2.mem (c.tc.loc Cert.Conv23RefIdeal.main_arg1) = m (c.tc.loc Cert.Conv23RefIdeal.main_arg1)) ?_
    fun r h => ⟨h, Idealize.ShloMosaic.sem_eq_zero_of_no_sems (by decide) r.2⟩
  hlo_run

theorem conv23_algebraic : Cert.algebraic_Conv23Ideal_Conv23RefIdeal := by
  pair_intro
  · run_from Cert.Conv23Ideal.Gen.run_main (F := Ideal) m g
    exact Cert.Conv23Ideal.Gen.V_main_arg1 m c
  · hlo_run
    · exact (Cert.Conv23Ideal.Value.final_image m c).symm
    · exact (Cert.Conv23Ideal.Value.final_sum m c).symm
    · exact (Cert.Conv23Ideal.Value.final_square m c).symm

theorem conv86_frame_ri : Cert.quiescent_Conv86RefIdeal := by
  intro m ρ _
  refine θ_run_mono (Q := fun r => ∀ c : Dev Cert.Conv86RefIdeal.nD,
      r.2.mem (c.tc.loc Cert.Conv86RefIdeal.main_arg0) = m (c.tc.loc Cert.Conv86RefIdeal.main_arg0)
      ∧ r.2.mem (c.tc.loc Cert.Conv86RefIdeal.main_arg1) = m (c.tc.loc Cert.Conv86RefIdeal.main_arg1)) ?_
    fun r h => ⟨h, Idealize.ShloMosaic.sem_eq_zero_of_no_sems (by decide) r.2⟩
  hlo_run

theorem conv86_algebraic : Cert.algebraic_Conv86Ideal_Conv86RefIdeal := by
  pair_intro
  · run_from Cert.Conv86Ideal.Gen.run_main (F := Ideal) m g
    exact Cert.Conv86Ideal.Gen.V_main_arg1 m c
  · hlo_run
    · exact (Cert.Conv86Ideal.Value.final_image m c).symm
    · exact (Cert.Conv86Ideal.Value.final_sum m c).symm
    · exact (Cert.Conv86Ideal.Value.final_square m c).symm

theorem apply_frame_ri : Cert.quiescent_ApplyRefIdeal := by
  intro m ρ _
  refine θ_run_mono (Q := fun r => ∀ c : Dev Cert.ApplyRefIdeal.nD,
      r.2.mem (c.tc.loc Cert.ApplyRefIdeal.main_arg0) = m (c.tc.loc Cert.ApplyRefIdeal.main_arg0)
      ∧ r.2.mem (c.tc.loc Cert.ApplyRefIdeal.main_arg1) = m (c.tc.loc Cert.ApplyRefIdeal.main_arg1)
      ∧ r.2.mem (c.tc.loc Cert.ApplyRefIdeal.main_arg2) = m (c.tc.loc Cert.ApplyRefIdeal.main_arg2)) ?_
    fun r h => ⟨h, Idealize.ShloMosaic.sem_eq_zero_of_no_sems (by decide) r.2⟩
  hlo_run

theorem apply_algebraic : Cert.algebraic_ApplyIdeal_ApplyRefIdeal := by
  pair_intro
  · run_from Cert.ApplyIdeal.Gen.run_main (F := Ideal) m g
    · exact Cert.ApplyIdeal.Gen.V_main_arg1 m c
    · exact Cert.ApplyIdeal.Gen.V_main_arg2 m c
  · hlo_run
    exact (Cert.ApplyIdeal.Value.final m c).symm

theorem norm_frame_ri : Cert.quiescent_NormRefIdeal := by
  intro m ρ _
  refine θ_run_mono (Q := fun r => ∀ c : Dev Cert.NormRefIdeal.nD,
      r.2.mem (c.tc.loc Cert.NormRefIdeal.main_arg0) = m (c.tc.loc Cert.NormRefIdeal.main_arg0)
      ∧ r.2.mem (c.tc.loc Cert.NormRefIdeal.main_arg1) = m (c.tc.loc Cert.NormRefIdeal.main_arg1)
      ∧ r.2.mem (c.tc.loc Cert.NormRefIdeal.main_arg2) = m (c.tc.loc Cert.NormRefIdeal.main_arg2)) ?_
    fun r h => ⟨h, Idealize.ShloMosaic.sem_eq_zero_of_no_sems (by decide) r.2⟩
  hlo_run

theorem norm_algebraic : Cert.algebraic_NormIdeal_NormRefIdeal_pre_nonzero := by
  pair_intro
  · run_from Cert.NormIdeal.Gen.run_main (F := Ideal) m g
  · hlo_run
    exact (Cert.NormIdeal.Value.final m c (hpre c)).symm

theorem tail_frame_ri : Cert.quiescent_TailRefIdeal := by
  intro m ρ _
  refine θ_run_mono (Q := fun r => ∀ c : Dev Cert.TailRefIdeal.nD,
      r.2.mem (c.tc.loc Cert.TailRefIdeal.main_arg0) = m (c.tc.loc Cert.TailRefIdeal.main_arg0)) ?_
    fun r h => ⟨h, Idealize.ShloMosaic.sem_eq_zero_of_no_sems (by decide) r.2⟩
  hlo_run

theorem tail_algebraic : Cert.algebraic_TailIdeal_TailRefIdeal_pre_taildistinct := by
  pair_intro
  · run_from Cert.TailIdeal.Run.run_main m g
  · hlo_run
    refine Eq.trans ?_ (Cert.TailIdeal.Value.value m g c (hpre c)).symm
    rw [hagree c]
    simp -implicitDefEqProofs only [StableHlo.TRef.toBuf, StableHlo.TRef.ofBuf, cast_cast, cast_eq]
    unfold Cert.TailRefIdeal.Value.REF Cert.FinalRefIdeal.Value.REF Cert.FinalRefIdeal.Value.values Cert.FinalRefIdeal.Value.pool
    congr 3

/-- The second pooling call and its idealization have the same body table. -/
theorem pool2_bodies_eq : @Cert.Pool2.defs₀ Bits _ _ = @Cert.Pool2Ideal.defs₀ Bits _ _ := by
  unfold Cert.Pool2.defs₀ Cert.Pool2Ideal.defs₀
  refine congrArg (Defs.onTc (nD := Cert.Pool2Ideal.nD) (τ := Cert.Pool2Ideal.τ)) ?_
  funext l a
  match l, a with
  | 0, (t, s) => rfl
  | ⟨_ + 1, h⟩, _ => exact absurd h (Nat.not_lt.2 (Nat.le_add_left _ _))

theorem pool2_defs_eq : @Cert.Pool2.defs Bits _ _ = @Cert.Pool2Ideal.defs Bits _ _ :=
  congrArg (Pipeline.defs Cert.Pool2Ideal.pcfgs) pool2_bodies_eq

theorem pool2_frame_p : Cert.quiescent_Pool2 := fun m ρ _ => by
  rw [pool2_defs_eq]
  exact Cert.Pool2Ideal.Gen.frame (F := Bits) m ρ

theorem pool2_frame_ri : Cert.quiescent_Pool2RefIdeal := by
  intro m ρ _
  refine θ_run_mono (Q := fun r => ∀ c : Dev Cert.Pool2RefIdeal.nD,
      r.2.mem (c.tc.loc Cert.Pool2RefIdeal.main_arg0) = m (c.tc.loc Cert.Pool2RefIdeal.main_arg0)
      ∧ r.2.mem (c.tc.loc Cert.Pool2RefIdeal.main_arg1) = m (c.tc.loc Cert.Pool2RefIdeal.main_arg1)
      ∧ r.2.mem (c.tc.loc Cert.Pool2RefIdeal.main_arg2) = m (c.tc.loc Cert.Pool2RefIdeal.main_arg2)) ?_
    fun r h => ⟨h, Idealize.ShloMosaic.sem_eq_zero_of_no_sems (by decide) r.2⟩
  hlo_run

theorem pool2_algebraic : Cert.algebraic_Pool2Ideal_Pool2RefIdeal := by
  pair_intro
  · run_from Cert.Pool2Ideal.Gen.run_main (F := Ideal) m g
  · hlo_run
    exact (Cert.Pool2RefIdeal.Value.REF_eq _ _ _).trans (Cert.Pool2Ideal.Value.final m c).symm

end Cert.Proof.Claims

theorem Cert.Proof.claim : Cert.Claim :=
  ⟨Cert.Pool1.Gen.facts, Cert.Pool1Ideal.Gen.facts, Cert.Pool1RefIdeal.Gen.facts,
    Cert.Final.Gen.facts, Cert.FinalIdeal.Gen.facts, Cert.FinalRefIdeal.Gen.facts,
    Cert.Sim.Gen.facts, Cert.SimIdeal.Gen.facts, Cert.SimRefIdeal.Gen.facts,
    Cert.Conv44.Gen.facts, Cert.Conv44Ideal.Gen.facts, Cert.Conv44RefIdeal.Gen.facts,
    Cert.Conv23.Gen.facts, Cert.Conv23Ideal.Gen.facts, Cert.Conv23RefIdeal.Gen.facts,
    Cert.Conv86.Gen.facts, Cert.Conv86Ideal.Gen.facts, Cert.Conv86RefIdeal.Gen.facts,
    Cert.Apply.Gen.facts, Cert.ApplyIdeal.Gen.facts, Cert.ApplyRefIdeal.Gen.facts,
    Cert.Norm.Gen.facts, Cert.NormIdeal.Gen.facts, Cert.NormRefIdeal.Gen.facts,
    Cert.Tail.Gen.facts, Cert.TailIdeal.Gen.facts, Cert.TailRefIdeal.Gen.facts,
    Cert.Pool2.Gen.facts, Cert.Pool2Ideal.Gen.facts, Cert.Pool2RefIdeal.Gen.facts,
    Cert.Pre_distinct.Gen.facts, Cert.Pre_simdistinct.Gen.facts, Cert.Pre_nonzero.Gen.facts, Cert.Pre_taildistinct.Gen.facts,
    Cert.Proof.Claims.frame_p, Cert.Proof.Claims.frame_pi, Cert.Proof.Claims.frame_ri,
    fun m ρ _ => Cert.Final.Gen.frame m ρ, fun m ρ _ => Cert.FinalIdeal.Gen.frame m ρ, fun m ρ _ => Cert.FinalIdeal.Gen.frame m ρ,
    Cert.Proof.Claims.final_frame_ri, fun m ρ _ => Cert.Proof.Claims.final_frame_ri m ρ trivial,
    fun m ρ _ => Cert.Sim.Gen.frame m ρ, fun m ρ _ => Cert.SimIdeal.Gen.frame m ρ, fun m ρ _ => Cert.SimIdeal.Gen.frame m ρ,
    Cert.Proof.Claims.sim_frame_ri, fun m ρ _ => Cert.Proof.Claims.sim_frame_ri m ρ trivial,
    fun m ρ _ => Cert.Conv44.Gen.frame m ρ, fun m ρ _ => Cert.Conv44Ideal.Gen.frame m ρ, Cert.Proof.Claims.conv44_frame_ri,
    fun m ρ _ => Cert.Conv23.Gen.frame m ρ, fun m ρ _ => Cert.Conv23Ideal.Gen.frame m ρ, Cert.Proof.Claims.conv23_frame_ri,
    fun m ρ _ => Cert.Conv86.Gen.frame m ρ, fun m ρ _ => Cert.Conv86Ideal.Gen.frame m ρ, Cert.Proof.Claims.conv86_frame_ri,
    fun m ρ _ => Cert.Apply.Gen.frame m ρ, fun m ρ _ => Cert.ApplyIdeal.Gen.frame m ρ, Cert.Proof.Claims.apply_frame_ri,
    fun m ρ _ => Cert.Norm.Gen.frame m ρ, fun m ρ _ => Cert.NormIdeal.Gen.frame m ρ, fun m ρ _ => Cert.NormIdeal.Gen.frame m ρ,
    Cert.Proof.Claims.norm_frame_ri, fun m ρ _ => Cert.Proof.Claims.norm_frame_ri m ρ trivial,
    fun m ρ _ => Cert.Tail.Gen.frame m ρ, fun m ρ _ => Cert.TailIdeal.Gen.frame m ρ, fun m ρ _ => Cert.TailIdeal.Gen.frame m ρ,
    Cert.Proof.Claims.tail_frame_ri, fun m ρ _ => Cert.Proof.Claims.tail_frame_ri m ρ trivial,
    Cert.Proof.Claims.pool2_frame_p, fun m ρ _ => Cert.Pool2Ideal.Gen.frame m ρ, Cert.Proof.Claims.pool2_frame_ri,
    trivial, Cert.Proof.Claims.algebraic, trivial, Cert.Proof.Claims.final_algebraic, trivial, Cert.Proof.Claims.sim_algebraic,
    trivial, Cert.Proof.Claims.conv44_algebraic, trivial, Cert.Proof.Claims.conv23_algebraic, trivial, Cert.Proof.Claims.conv86_algebraic,
    trivial, Cert.Proof.Claims.apply_algebraic, trivial, Cert.Proof.Claims.norm_algebraic, trivial, Cert.Proof.Claims.tail_algebraic,
    trivial, Cert.Proof.Claims.pool2_algebraic⟩

end
